-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel3 [hPre_tables_in_range : Cert.Pre_tables_in_range.Facts] (m : (ℓ : Loc Cert.Kernel3.nD Cert.Kernel3.τ Cert.Kernel3.sig) → Buf (Elt Bits) ℓ) : Prop :=
  ∀ c : Dev Cert.Kernel3.nD,
    (Cert.Pre_tables_in_range.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4))) = (fun _ => 1#1)

def Pre_Kernel3Ideal [hPre_tables_in_range : Cert.Pre_tables_in_range.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_tables_in_range.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal [hPre_tables_in_range : Cert.Pre_tables_in_range.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_tables_in_range.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def Pre_Kernel4 [hPre_tables_in_range4 : Cert.Pre_tables_in_range4.Facts] (m : (ℓ : Loc Cert.Kernel4.nD Cert.Kernel4.τ Cert.Kernel4.sig) → Buf (Elt Bits) ℓ) : Prop :=
  ∀ c : Dev Cert.Kernel4.nD,
    (Cert.Pre_tables_in_range4.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3))) = (fun _ => 1#1)

def Pre_Kernel4Ideal [hPre_tables_in_range4 : Cert.Pre_tables_in_range4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_tables_in_range4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))) = (fun _ => 1#1)

def Pre_Reference4Ideal [hPre_tables_in_range4 : Cert.Pre_tables_in_range4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_tables_in_range4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel3 [hKernel3 : Cert.Kernel3.Facts] [hPre_tables_in_range : Cert.Pre_tables_in_range.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] [hPre_tables_in_range : Cert.Pre_tables_in_range.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] [hPre_tables_in_range : Cert.Pre_tables_in_range.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] [hPre_tables_in_range4 : Cert.Pre_tables_in_range4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] [hPre_tables_in_range4 : Cert.Pre_tables_in_range4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] [hPre_tables_in_range4 : Cert.Pre_tables_in_range4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v9)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v9) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v31) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v13) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v13) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v15)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v15) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v10) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v34_0)) (v1 : (c : Dev Cert.Kernel15Ideal.nD) → Buf (Elt Ideal) ((c.tc : Thread Cert.Kernel15Ideal.nD Cert.Kernel15Ideal.τ).loc Cert.Kernel15Ideal.main_v34_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v34_0) = v0 c
          ∧ r.2.mem ((c.tc : Thread Cert.Kernel15Ideal.nD Cert.Kernel15Ideal.τ).loc Cert.Kernel15Ideal.main_v34_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v136) = v0 c
          ∧ r.2.mem ((c.tc : Thread Cert.Reference15Ideal.nD Cert.Reference15Ideal.τ).loc Cert.Reference15Ideal.main_v107) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel3_Kernel3Ideal : Prop :=
  True

def algebraic_Kernel3Ideal_Reference3Ideal [hKernel3Ideal : Cert.Kernel3Ideal.Facts] [hReference3Ideal : Cert.Reference3Ideal.Facts] [hPre_tables_in_range : Cert.Pre_tables_in_range.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v33) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] [hPre_tables_in_range4 : Cert.Pre_tables_in_range4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v21) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_tables_in_range : Cert.Pre_tables_in_range.Facts) (hPre_tables_in_range4 : Cert.Pre_tables_in_range4.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel3 (hKernel3 := hKernel3) (hPre_tables_in_range := hPre_tables_in_range)
    ∧ quiescent_Kernel3Ideal (hKernel3Ideal := hKernel3Ideal) (hPre_tables_in_range := hPre_tables_in_range)
    ∧ quiescent_Reference3Ideal (hReference3Ideal := hReference3Ideal) (hPre_tables_in_range := hPre_tables_in_range)
    ∧ quiescent_Kernel4 (hKernel4 := hKernel4) (hPre_tables_in_range4 := hPre_tables_in_range4)
    ∧ quiescent_Kernel4Ideal (hKernel4Ideal := hKernel4Ideal) (hPre_tables_in_range4 := hPre_tables_in_range4)
    ∧ quiescent_Reference4Ideal (hReference4Ideal := hReference4Ideal) (hPre_tables_in_range4 := hPre_tables_in_range4)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel3_Kernel3Ideal
    ∧ algebraic_Kernel3Ideal_Reference3Ideal (hKernel3Ideal := hKernel3Ideal) (hReference3Ideal := hReference3Ideal) (hPre_tables_in_range := hPre_tables_in_range)
    ∧ preserves_Kernel4_Kernel4Ideal
    ∧ algebraic_Kernel4Ideal_Reference4Ideal (hKernel4Ideal := hKernel4Ideal) (hReference4Ideal := hReference4Ideal) (hPre_tables_in_range4 := hPre_tables_in_range4)
-- ==== Pre_tables_in_range.lean ====
abbrev S26624x4096 : Shape := ⟨2, ![26624, 4096]⟩
abbrev S1x8x4096x14336 : Shape := ⟨4, ![1, 8, 4096, 14336]⟩
abbrev S26 : Shape := ⟨1, ![26]⟩
abbrev S_ : Shape := ⟨0, ![]⟩

class Facts : Prop where
  bcast_S_S26 : S_.BroadcastsInDim S26 (![] : Fin 0 → Fin S26.rank)

variable [Facts]

def fn {F : FTy → Type} [FloatOps F] (main_arg0 : FVec F S26624x4096 .bf16) (main_arg1 : FVec F S1x8x4096x14336 .f32) (main_arg2 : FVec F S1x8x4096x14336 .f32) (main_arg3 : IVec S26 32) (main_arg4 : IVec S26 32) : IVec S26 1 :=
  let main_c : IVec S_ 32 := constantI S_ 32 0#32
  let main_v0 : IVec S26 32 := broadcastInDim S26 ![] bcast_S_S26 main_c
  let main_v1 : IVec S26 1 := cmpi .sge main_arg3 main_v0
  let main_c_0 : IVec S_ 32 := constantI S_ 32 8#32
  let main_v2 : IVec S26 32 := broadcastInDim S26 ![] bcast_S_S26 main_c_0
  let main_v3 : IVec S26 1 := cmpi .slt main_arg3 main_v2
  let main_v4 : IVec S26 1 := andi main_v1 main_v3
  let main_c_1 : IVec S_ 32 := constantI S_ 32 0#32
  let main_v5 : IVec S26 32 := broadcastInDim S26 ![] bcast_S_S26 main_c_1
  let main_v6 : IVec S26 1 := cmpi .sge main_arg4 main_v5
  let main_v7 : IVec S26 1 := andi main_v4 main_v6
  let main_c_2 : IVec S_ 32 := constantI S_ 32 4#32
  let main_v8 : IVec S26 32 := broadcastInDim S26 ![] bcast_S_S26 main_c_2
  let main_v9 : IVec S26 1 := cmpi .sle main_arg4 main_v8
  let main_v10 : IVec S26 1 := andi main_v7 main_v9
  main_v10
-- ==== Pre_tables_in_range4.lean ====
abbrev S26624x14336 : Shape := ⟨2, ![26624, 14336]⟩
abbrev S1x8x14336x4096 : Shape := ⟨4, ![1, 8, 14336, 4096]⟩
abbrev S26 : Shape := ⟨1, ![26]⟩
abbrev S_ : Shape := ⟨0, ![]⟩

class Facts : Prop where
  bcast_S_S26 : S_.BroadcastsInDim S26 (![] : Fin 0 → Fin S26.rank)

variable [Facts]

def fn {F : FTy → Type} [FloatOps F] (main_arg0 : FVec F S26624x14336 .bf16) (main_arg1 : FVec F S1x8x14336x4096 .f32) (main_arg2 : IVec S26 32) (main_arg3 : IVec S26 32) : IVec S26 1 :=
  let main_c : IVec S_ 32 := constantI S_ 32 0#32
  let main_v0 : IVec S26 32 := broadcastInDim S26 ![] bcast_S_S26 main_c
  let main_v1 : IVec S26 1 := cmpi .sge main_arg2 main_v0
  let main_c_0 : IVec S_ 32 := constantI S_ 32 8#32
  let main_v2 : IVec S26 32 := broadcastInDim S26 ![] bcast_S_S26 main_c_0
  let main_v3 : IVec S26 1 := cmpi .slt main_arg2 main_v2
  let main_v4 : IVec S26 1 := andi main_v1 main_v3
  let main_c_1 : IVec S_ 32 := constantI S_ 32 0#32
  let main_v5 : IVec S26 32 := broadcastInDim S26 ![] bcast_S_S26 main_c_1
  let main_v6 : IVec S26 1 := cmpi .sge main_arg3 main_v5
  let main_v7 : IVec S26 1 := andi main_v4 main_v6
  let main_c_2 : IVec S_ 32 := constantI S_ 32 4#32
  let main_v8 : IVec S26 32 := broadcastInDim S26 ![] bcast_S_S26 main_c_2
  let main_v9 : IVec S26 1 := cmpi .sle main_arg3 main_v8
  let main_v10 : IVec S26 1 := andi main_v7 main_v9
  main_v10
-- ==== Kernel.lean ====
abbrev S9216x4096 : Shape := ⟨2, ![9216, 4096]⟩
abbrev S2x4096x22536 : Shape := ⟨3, ![2, 4096, 22536]⟩
abbrev S2x22536x4096 : Shape := ⟨3, ![2, 22536, 4096]⟩
abbrev S45072x4096 : Shape := ⟨2, ![45072, 4096]⟩
abbrev S9216x3072 : Shape := ⟨2, ![9216, 3072]⟩
abbrev S1024x4096 : Shape := ⟨2, ![1024, 4096]⟩
abbrev S512x4096 : Shape := ⟨2, ![512, 4096]⟩
abbrev S1024x512 : Shape := ⟨2, ![1024, 512]⟩
abbrev S4096x512 : Shape := ⟨2, ![4096, 512]⟩

abbrev nBuf : Space → Nat
  | .hbm => 5
  | .vmem => 7
  | .smem => 0
  | _ => 0

abbrev bufTy : (tb : Table) → Fin (tcTables nBuf tb) → BufTy
  | .hbm, ⟨0, _⟩ => ⟨S9216x4096, .bf16⟩
  | .hbm, ⟨1, _⟩ => ⟨S2x4096x22536, .f32⟩
  | .hbm, ⟨2, _⟩ => ⟨S2x22536x4096, .f32⟩
  | .hbm, ⟨3, _⟩ => ⟨S45072x4096, .f32⟩
  | .hbm, ⟨4, _⟩ => ⟨S9216x3072, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .f32⟩
  | .local _ .vmem, ⟨3, _⟩ => ⟨S512x4096, .f32⟩
  | .local _ .vmem, ⟨4, _⟩ => ⟨S1024x512, .f32⟩
  | .local _ .vmem, ⟨5, _⟩ => ⟨S1024x512, .f32⟩
  | .local _ .vmem, ⟨6, _⟩ => ⟨S4096x512, .bf16⟩
  | _, _ => ⟨S9216x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 9], ![false, false]⟩

def k0_mult1 (i : grid0.Coords) : BitVec 32 :=
  let c22536_i32 : BitVec 32 := 22536#32
  let arg0 : BitVec 32 := BitVec.ofNat 32 (i 0).val
  let c512_i32 : BitVec 32 := 512#32
  let v0 : BitVec 32 := Scalar.muli arg0 c512_i32
  let v1 : BitVec 32 := Scalar.addi c22536_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c22536_i32 : BitVec 32 := 22536#32
  let v1 : BitVec 32 := Scalar.addi c22536_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S9216x4096 : Shape := ⟨2, ![9216, 4096]⟩
abbrev S2x4096x22536 : Shape := ⟨3, ![2, 4096, 22536]⟩
abbrev S1x4096x22536 : Shape := ⟨3, ![1, 4096, 22536]⟩
abbrev S4096x22536 : Shape := ⟨2, ![4096, 22536]⟩
abbrev S9216x22536 : Shape := ⟨2, ![9216, 22536]⟩
abbrev S9216x3072 : Shape := ⟨2, ![9216, 3072]⟩

abbrev nBuf : Space → Nat
  | .hbm => 7
  | .vmem => 0
  | .smem => 0
  | _ => 0

abbrev bufTy : (tb : Table) → Fin (tcTables nBuf tb) → BufTy
  | .hbm, ⟨0, _⟩ => ⟨S9216x4096, .bf16⟩
  | .hbm, ⟨1, _⟩ => ⟨S2x4096x22536, .f32⟩
  | .hbm, ⟨2, _⟩ => ⟨S9216x4096, .f32⟩
  | .hbm, ⟨3, _⟩ => ⟨S1x4096x22536, .f32⟩
  | .hbm, ⟨4, _⟩ => ⟨S4096x22536, .f32⟩
  | .hbm, ⟨5, _⟩ => ⟨S9216x22536, .f32⟩
  | .hbm, ⟨6, _⟩ => ⟨S9216x3072, .f32⟩
  | _, _ => ⟨S9216x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel2.lean ====
abbrev S9216x4096 : Shape := ⟨2, ![9216, 4096]⟩
abbrev S2x4096x22536 : Shape := ⟨3, ![2, 4096, 22536]⟩
abbrev S2x22536x4096 : Shape := ⟨3, ![2, 22536, 4096]⟩
abbrev S45072x4096 : Shape := ⟨2, ![45072, 4096]⟩
abbrev S9216x19456 : Shape := ⟨2, ![9216, 19456]⟩
abbrev S1024x4096 : Shape := ⟨2, ![1024, 4096]⟩
abbrev S512x4096 : Shape := ⟨2, ![512, 4096]⟩
abbrev S1024x512 : Shape := ⟨2, ![1024, 512]⟩
abbrev S4096x512 : Shape := ⟨2, ![4096, 512]⟩

abbrev nBuf : Space → Nat
  | .hbm => 5
  | .vmem => 7
  | .smem => 0
  | _ => 0

abbrev bufTy : (tb : Table) → Fin (tcTables nBuf tb) → BufTy
  | .hbm, ⟨0, _⟩ => ⟨S9216x4096, .bf16⟩
  | .hbm, ⟨1, _⟩ => ⟨S2x4096x22536, .f32⟩
  | .hbm, ⟨2, _⟩ => ⟨S2x22536x4096, .f32⟩
  | .hbm, ⟨3, _⟩ => ⟨S45072x4096, .f32⟩
  | .hbm, ⟨4, _⟩ => ⟨S9216x19456, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .f32⟩
  | .local _ .vmem, ⟨3, _⟩ => ⟨S512x4096, .f32⟩
  | .local _ .vmem, ⟨4, _⟩ => ⟨S1024x512, .f32⟩
  | .local _ .vmem, ⟨5, _⟩ => ⟨S1024x512, .f32⟩
  | .local _ .vmem, ⟨6, _⟩ => ⟨S4096x512, .bf16⟩
  | _, _ => ⟨S9216x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![38, 9], ![false, false]⟩

def k0_mult1 (i : grid0.Coords) : BitVec 32 :=
  let c25616_i32 : BitVec 32 := 25616#32
  let arg0 : BitVec 32 := BitVec.ofNat 32 (i 0).val
  let c512_i32 : BitVec 32 := 512#32
  let v0 : BitVec 32 := Scalar.muli arg0 c512_i32
  let v1 : BitVec 32 := Scalar.addi c25616_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c25616_i32 : BitVec 32 := 25616#32
  let v1 : BitVec 32 := Scalar.addi c25616_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S9216x4096 : Shape := ⟨2, ![9216, 4096]⟩
abbrev S2x4096x22536 : Shape := ⟨3, ![2, 4096, 22536]⟩
abbrev S1x4096x22536 : Shape := ⟨3, ![1, 4096, 22536]⟩
abbrev S4096x22536 : Shape := ⟨2, ![4096, 22536]⟩
abbrev S9216x22536 : Shape := ⟨2, ![9216, 22536]⟩
abbrev S9216x19456 : Shape := ⟨2, ![9216, 19456]⟩

abbrev nBuf : Space → Nat
  | .hbm => 7
  | .vmem => 0
  | .smem => 0
  | _ => 0

abbrev bufTy : (tb : Table) → Fin (tcTables nBuf tb) → BufTy
  | .hbm, ⟨0, _⟩ => ⟨S9216x4096, .bf16⟩
  | .hbm, ⟨1, _⟩ => ⟨S2x4096x22536, .f32⟩
  | .hbm, ⟨2, _⟩ => ⟨S9216x4096, .f32⟩
  | .hbm, ⟨3, _⟩ => ⟨S1x4096x22536, .f32⟩
  | .hbm, ⟨4, _⟩ => ⟨S4096x22536, .f32⟩
  | .hbm, ⟨5, _⟩ => ⟨S9216x22536, .f32⟩
  | .hbm, ⟨6, _⟩ => ⟨S9216x19456, .f32⟩
  | _, _ => ⟨S9216x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel5.lean ====
abbrev S9216x4096 : Shape := ⟨2, ![9216, 4096]⟩
abbrev S1x4096x11008 : Shape := ⟨3, ![1, 4096, 11008]⟩
abbrev S4096x11008 : Shape := ⟨2, ![4096, 11008]⟩
abbrev S_ : Shape := ⟨0, ![]⟩
abbrev S4096x11264 : Shape := ⟨2, ![4096, 11264]⟩
abbrev S9216x11264 : Shape := ⟨2, ![9216, 11264]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 14
  | .vmem => 8
  | .smem => 0
  | _ => 0

abbrev bufTy : (tb : Table) → Fin (tcTables nBuf tb) → BufTy
  | .hbm, ⟨0, _⟩ => ⟨S9216x4096, .bf16⟩
  | .hbm, ⟨1, _⟩ => ⟨S1x4096x11008, .f32⟩
  | .hbm, ⟨2, _⟩ => ⟨S1x4096x11008, .f32⟩
  | .hbm, ⟨3, _⟩ => ⟨S4096x11008, .f32⟩
  | .hbm, ⟨4, _⟩ => ⟨S_, .i32⟩
  | .hbm, ⟨5, _⟩ => ⟨S_, .f32⟩
  | .hbm, ⟨6, _⟩ => ⟨S4096x11264, .f32⟩
  | .hbm, ⟨7, _⟩ => ⟨S4096x11264, .bf16⟩
  | .hbm, ⟨8, _⟩ => ⟨S4096x11008, .f32⟩
  | .hbm, ⟨9, _⟩ => ⟨S_, .i32⟩
  | .hbm, ⟨10, _⟩ => ⟨S_, .f32⟩
  | .hbm, ⟨11, _⟩ => ⟨S4096x11264, .f32⟩
  | .hbm, ⟨12, _⟩ => ⟨S4096x11264, .bf16⟩
  | .hbm, ⟨13, _⟩ => ⟨S9216x11264, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S1024x512, .bf16⟩
  | .local _ .vmem, ⟨7, _⟩ => ⟨S1024x512, .bf16⟩
  | _, _ => ⟨S9216x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_call1_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![9, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S9216x4096 : Shape := ⟨2, ![9216, 4096]⟩
abbrev S1x4096x11008 : Shape := ⟨3, ![1, 4096, 11008]⟩
abbrev S4096x11008 : Shape := ⟨2, ![4096, 11008]⟩
abbrev S9216x11008 : Shape := ⟨2, ![9216, 11008]⟩
abbrev S_ : Shape := ⟨0, ![]⟩
abbrev S9216x11264 : Shape := ⟨2, ![9216, 11264]⟩

abbrev nBuf : Space → Nat
  | .hbm => 22
  | .vmem => 0
  | .smem => 0
  | _ => 0

abbrev bufTy : (tb : Table) → Fin (tcTables nBuf tb) → BufTy
  | .hbm, ⟨0, _⟩ => ⟨S9216x4096, .bf16⟩
  | .hbm, ⟨1, _⟩ => ⟨S1x4096x11008, .f32⟩
  | .hbm, ⟨2, _⟩ => ⟨S1x4096x11008, .f32⟩
  | .hbm, ⟨3, _⟩ => ⟨S9216x4096, .f32⟩
  | .hbm, ⟨4, _⟩ => ⟨S4096x11008, .f32⟩
  | .hbm, ⟨5, _⟩ => ⟨S9216x11008, .f32⟩
  | .hbm, ⟨6, _⟩ => ⟨S9216x11008, .f32⟩
  | .hbm, ⟨7, _⟩ => ⟨S9216x11008, .f32⟩
  | .hbm, ⟨8, _⟩ => ⟨S_, .f32⟩
  | .hbm, ⟨9, _⟩ => ⟨S9216x11008, .f32⟩
  | .hbm, ⟨10, _⟩ => ⟨S9216x11008, .f32⟩
  | .hbm, ⟨11, _⟩ => ⟨S_, .f32⟩
  | .hbm, ⟨12, _⟩ => ⟨S9216x11008, .f32⟩
  | .hbm, ⟨13, _⟩ => ⟨S9216x11008, .f32⟩
  | .hbm, ⟨14, _⟩ => ⟨S9216x11008, .f32⟩
  | .hbm, ⟨15, _⟩ => ⟨S4096x11008, .f32⟩
  | .hbm, ⟨16, _⟩ => ⟨S9216x11008, .f32⟩
  | .hbm, ⟨17, _⟩ => ⟨S9216x11008, .f32⟩
  | .hbm, ⟨18, _⟩ => ⟨S_, .i32⟩
  | .hbm, ⟨19, _⟩ => ⟨S_, .f32⟩
  | .hbm, ⟨20, _⟩ => ⟨S9216x11264, .f32⟩
  | .hbm, ⟨21, _⟩ => ⟨S9216x11264, .bf16⟩
  | _, _ => ⟨S9216x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_call1_v0 : Ref sig .tc := ⟨.hbm, 19, rfl⟩
abbrev main_v7 : Ref sig .tc := ⟨.hbm, 20, rfl⟩
abbrev main_v8 : Ref sig .tc := ⟨.hbm, 21, rfl⟩

abbrev nD : Nat := 1
abbrev τ : Topo := Topo.v7x

variable {F : FTy → Type} [FloatOps F]
-- ==== Kernel6.lean ====
abbrev S9216x11264 : Shape := ⟨2, ![9216, 11264]⟩
abbrev S1x11008x4096 : Shape := ⟨3, ![1, 11008, 4096]⟩
abbrev S9216x4096 : Shape := ⟨2, ![9216, 4096]⟩
abbrev S11008x4096 : Shape := ⟨2, ![11008, 4096]⟩
abbrev S_ : Shape := ⟨0, ![]⟩
abbrev S11264x4096 : Shape := ⟨2, ![11264, 4096]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 9
  | .vmem => 9
  | .smem => 0
  | _ => 0

abbrev bufTy : (tb : Table) → Fin (tcTables nBuf tb) → BufTy
  | .hbm, ⟨0, _⟩ => ⟨S9216x11264, .bf16⟩
  | .hbm, ⟨1, _⟩ => ⟨S1x11008x4096, .f32⟩
  | .hbm, ⟨2, _⟩ => ⟨S9216x4096, .f32⟩
  | .hbm, ⟨3, _⟩ => ⟨S11008x4096, .f32⟩
  | .hbm, ⟨4, _⟩ => ⟨S_, .i32⟩
  | .hbm, ⟨5, _⟩ => ⟨S_, .f32⟩
  | .hbm, ⟨6, _⟩ => ⟨S11264x4096, .f32⟩
  | .hbm, ⟨7, _⟩ => ⟨S11264x4096, .bf16⟩
  | .hbm, ⟨8, _⟩ => ⟨S9216x4096, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S9216x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![9, 4, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S9216x11264 : Shape := ⟨2, ![9216, 11264]⟩
abbrev S1x11008x4096 : Shape := ⟨3, ![1, 11008, 4096]⟩
abbrev S9216x4096 : Shape := ⟨2, ![9216, 4096]⟩
abbrev S9216x11008 : Shape := ⟨2, ![9216, 11008]⟩
abbrev S11008x4096 : Shape := ⟨2, ![11008, 4096]⟩

abbrev nBuf : Space → Nat
  | .hbm => 8
  | .vmem => 0
  | .smem => 0
  | _ => 0

abbrev bufTy : (tb : Table) → Fin (tcTables nBuf tb) → BufTy
  | .hbm, ⟨0, _⟩ => ⟨S9216x11264, .bf16⟩
  | .hbm, ⟨1, _⟩ => ⟨S1x11008x4096, .f32⟩
  | .hbm, ⟨2, _⟩ => ⟨S9216x4096, .f32⟩
  | .hbm, ⟨3, _⟩ => ⟨S9216x11008, .bf16⟩
  | .hbm, ⟨4, _⟩ => ⟨S9216x11008, .f32⟩
  | .hbm, ⟨5, _⟩ => ⟨S11008x4096, .f32⟩
  | .hbm, ⟨6, _⟩ => ⟨S9216x4096, .f32⟩
  | .hbm, ⟨7, _⟩ => ⟨S9216x4096, .f32⟩
  | _, _ => ⟨S9216x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S9216x1024 : Shape := ⟨2, ![9216, 1024]⟩
abbrev S9216x2048 : Shape := ⟨2, ![9216, 2048]⟩
abbrev S2x1024x4096 : Shape := ⟨3, ![2, 1024, 4096]⟩
abbrev S2x2048x4096 : Shape := ⟨3, ![2, 2048, 4096]⟩
abbrev S9216x19456 : Shape := ⟨2, ![9216, 19456]⟩
abbrev S1x1024x4096 : Shape := ⟨3, ![1, 1024, 4096]⟩
abbrev S1024x4096 : Shape := ⟨2, ![1024, 4096]⟩
abbrev S1x2048x4096 : Shape := ⟨3, ![1, 2048, 4096]⟩
abbrev S2048x4096 : Shape := ⟨2, ![2048, 4096]⟩
abbrev S9216x4096 : Shape := ⟨2, ![9216, 4096]⟩
abbrev S1024x1024 : Shape := ⟨2, ![1024, 1024]⟩
abbrev S1024x2048 : Shape := ⟨2, ![1024, 2048]⟩
abbrev S1024x512 : Shape := ⟨2, ![1024, 512]⟩
abbrev S2048x512 : Shape := ⟨2, ![2048, 512]⟩

abbrev nBuf : Space → Nat
  | .hbm => 17
  | .vmem => 20
  | .smem => 0
  | _ => 0

abbrev bufTy : (tb : Table) → Fin (tcTables nBuf tb) → BufTy
  | .hbm, ⟨0, _⟩ => ⟨S9216x1024, .bf16⟩
  | .hbm, ⟨1, _⟩ => ⟨S9216x1024, .bf16⟩
  | .hbm, ⟨2, _⟩ => ⟨S9216x2048, .bf16⟩
  | .hbm, ⟨3, _⟩ => ⟨S2x1024x4096, .f32⟩
  | .hbm, ⟨4, _⟩ => ⟨S2x1024x4096, .f32⟩
  | .hbm, ⟨5, _⟩ => ⟨S2x2048x4096, .f32⟩
  | .hbm, ⟨6, _⟩ => ⟨S9216x19456, .f32⟩
  | .hbm, ⟨7, _⟩ => ⟨S1x1024x4096, .f32⟩
  | .hbm, ⟨8, _⟩ => ⟨S1024x4096, .f32⟩
  | .hbm, ⟨9, _⟩ => ⟨S1024x4096, .bf16⟩
  | .hbm, ⟨10, _⟩ => ⟨S1x1024x4096, .f32⟩
  | .hbm, ⟨11, _⟩ => ⟨S1024x4096, .f32⟩
  | .hbm, ⟨12, _⟩ => ⟨S1024x4096, .bf16⟩
  | .hbm, ⟨13, _⟩ => ⟨S1x2048x4096, .f32⟩
  | .hbm, ⟨14, _⟩ => ⟨S2048x4096, .f32⟩
  | .hbm, ⟨15, _⟩ => ⟨S2048x4096, .bf16⟩
  | .hbm, ⟨16, _⟩ => ⟨S9216x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x2048, .bf16⟩
  | .local _ .vmem, ⟨5, _⟩ => ⟨S1024x2048, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S2048x512, .bf16⟩
  | .local _ .vmem, ⟨11, _⟩ => ⟨S2048x512, .bf16⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | .local _ .vmem, ⟨16, _⟩ => ⟨S1024x512, .f32⟩
  | .local _ .vmem, ⟨17, _⟩ => ⟨S1024x512, .f32⟩
  | .local _ .vmem, ⟨18, _⟩ => ⟨S1024x512, .bf16⟩
  | .local _ .vmem, ⟨19, _⟩ => ⟨S1024x512, .bf16⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![9, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c30_i32 : BitVec 32 := 30#32
  let v0 : BitVec 32 := Scalar.addi c30_i32 arg1
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference7Ideal.lean ====
abbrev S9216x1024 : Shape := ⟨2, ![9216, 1024]⟩
abbrev S9216x2048 : Shape := ⟨2, ![9216, 2048]⟩
abbrev S2x1024x4096 : Shape := ⟨3, ![2, 1024, 4096]⟩
abbrev S2x2048x4096 : Shape := ⟨3, ![2, 2048, 4096]⟩
abbrev S9216x19456 : Shape := ⟨2, ![9216, 19456]⟩
abbrev S9216x12288 : Shape := ⟨2, ![9216, 12288]⟩
abbrev S_ : Shape := ⟨0, ![]⟩
abbrev S9216x3x4096 : Shape := ⟨3, ![9216, 3, 4096]⟩
abbrev S9216x1x4096 : Shape := ⟨3, ![9216, 1, 4096]⟩
abbrev S9216x4096 : Shape := ⟨2, ![9216, 4096]⟩
abbrev S1x1024x4096 : Shape := ⟨3, ![1, 1024, 4096]⟩
abbrev S1024x4096 : Shape := ⟨2, ![1024, 4096]⟩
abbrev S1x2048x4096 : Shape := ⟨3, ![1, 2048, 4096]⟩
abbrev S2048x4096 : Shape := ⟨2, ![2048, 4096]⟩

abbrev nBuf : Space → Nat
  | .hbm => 41
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S9216x1024, .bf16⟩
  | .hbm, ⟨2, _⟩ => ⟨S9216x2048, .bf16⟩
  | .hbm, ⟨3, _⟩ => ⟨S2x1024x4096, .f32⟩
  | .hbm, ⟨4, _⟩ => ⟨S2x1024x4096, .f32⟩
  | .hbm, ⟨5, _⟩ => ⟨S2x2048x4096, .f32⟩
  | .hbm, ⟨6, _⟩ => ⟨S9216x19456, .f32⟩
  | .hbm, ⟨7, _⟩ => ⟨S9216x12288, .f32⟩
  | .hbm, ⟨8, _⟩ => ⟨S9216x12288, .f32⟩
  | .hbm, ⟨9, _⟩ => ⟨S9216x12288, .f32⟩
  | .hbm, ⟨10, _⟩ => ⟨S_, .f32⟩
  | .hbm, ⟨11, _⟩ => ⟨S9216x12288, .f32⟩
  | .hbm, ⟨12, _⟩ => ⟨S9216x12288, .f32⟩
  | .hbm, ⟨13, _⟩ => ⟨S_, .f32⟩
  | .hbm, ⟨14, _⟩ => ⟨S9216x12288, .f32⟩
  | .hbm, ⟨15, _⟩ => ⟨S9216x12288, .f32⟩
  | .hbm, ⟨16, _⟩ => ⟨S9216x3x4096, .f32⟩
  | .hbm, ⟨17, _⟩ => ⟨S9216x1x4096, .f32⟩
  | .hbm, ⟨18, _⟩ => ⟨S9216x4096, .f32⟩
  | .hbm, ⟨19, _⟩ => ⟨S9216x1024, .f32⟩
  | .hbm, ⟨20, _⟩ => ⟨S1x1024x4096, .f32⟩
  | .hbm, ⟨21, _⟩ => ⟨S1024x4096, .f32⟩
  | .hbm, ⟨22, _⟩ => ⟨S9216x4096, .f32⟩
  | .hbm, ⟨23, _⟩ => ⟨S9216x4096, .f32⟩
  | .hbm, ⟨24, _⟩ => ⟨S9216x1x4096, .f32⟩
  | .hbm, ⟨25, _⟩ => ⟨S9216x4096, .f32⟩
  | .hbm, ⟨26, _⟩ => ⟨S9216x1024, .f32⟩
  | .hbm, ⟨27, _⟩ => ⟨S1x1024x4096, .f32⟩
  | .hbm, ⟨28, _⟩ => ⟨S1024x4096, .f32⟩
  | .hbm, ⟨29, _⟩ => ⟨S9216x4096, .f32⟩
  | .hbm, ⟨30, _⟩ => ⟨S9216x4096, .f32⟩
  | .hbm, ⟨31, _⟩ => ⟨S9216x4096, .f32⟩
  | .hbm, ⟨32, _⟩ => ⟨S9216x1x4096, .f32⟩
  | .hbm, ⟨33, _⟩ => ⟨S9216x4096, .f32⟩
  | .hbm, ⟨34, _⟩ => ⟨S9216x2048, .f32⟩
  | .hbm, ⟨35, _⟩ => ⟨S1x2048x4096, .f32⟩
  | .hbm, ⟨36, _⟩ => ⟨S2048x4096, .f32⟩
  | .hbm, ⟨37, _⟩ => ⟨S9216x4096, .f32⟩
  | .hbm, ⟨38, _⟩ => ⟨S9216x4096, .f32⟩
  | .hbm, ⟨39, _⟩ => ⟨S9216x4096, .f32⟩
  | .hbm, ⟨40, _⟩ => ⟨S9216x4096, .bf16⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]
-- ==== Kernel8.lean ====
abbrev S9216x4096 : Shape := ⟨2, ![9216, 4096]⟩
abbrev S2x4096x4096 : Shape := ⟨3, ![2, 4096, 4096]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 4
  | .vmem => 8
  | .smem => 0
  | _ => 0

abbrev bufTy : (tb : Table) → Fin (tcTables nBuf tb) → BufTy
  | .hbm, ⟨0, _⟩ => ⟨S9216x4096, .bf16⟩
  | .hbm, ⟨1, _⟩ => ⟨S2x4096x4096, .f32⟩
  | .hbm, ⟨2, _⟩ => ⟨S9216x4096, .f32⟩
  | .hbm, ⟨3, _⟩ => ⟨S9216x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S9216x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![9, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference8Ideal.lean ====
abbrev S9216x4096 : Shape := ⟨2, ![9216, 4096]⟩
abbrev S2x4096x4096 : Shape := ⟨3, ![2, 4096, 4096]⟩
abbrev S1x4096x4096 : Shape := ⟨3, ![1, 4096, 4096]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S9216x4096, .bf16⟩
  | .hbm, ⟨1, _⟩ => ⟨S2x4096x4096, .f32⟩
  | .hbm, ⟨2, _⟩ => ⟨S9216x4096, .f32⟩
  | .hbm, ⟨3, _⟩ => ⟨S9216x4096, .f32⟩
  | .hbm, ⟨4, _⟩ => ⟨S1x4096x4096, .f32⟩
  | .hbm, ⟨5, _⟩ => ⟨S4096x4096, .f32⟩
  | .hbm, ⟨6, _⟩ => ⟨S9216x4096, .f32⟩
  | .hbm, ⟨7, _⟩ => ⟨S9216x4096, .f32⟩
  | _, _ => ⟨S9216x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S9216x4096 : Shape := ⟨2, ![9216, 4096]⟩
abbrev S2x4096x1024 : Shape := ⟨3, ![2, 4096, 1024]⟩
abbrev S9216x1024 : Shape := ⟨2, ![9216, 1024]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 3
  | .vmem => 6
  | .smem => 0
  | _ => 0

abbrev bufTy : (tb : Table) → Fin (tcTables nBuf tb) → BufTy
  | .hbm, ⟨0, _⟩ => ⟨S9216x4096, .bf16⟩
  | .hbm, ⟨1, _⟩ => ⟨S2x4096x1024, .f32⟩
  | .hbm, ⟨2, _⟩ => ⟨S9216x1024, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .bf16⟩
  | .local _ .vmem, ⟨5, _⟩ => ⟨S1024x512, .bf16⟩
  | _, _ => ⟨S9216x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![9, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S9216x4096 : Shape := ⟨2, ![9216, 4096]⟩
abbrev S2x4096x1024 : Shape := ⟨3, ![2, 4096, 1024]⟩
abbrev S1x4096x1024 : Shape := ⟨3, ![1, 4096, 1024]⟩
abbrev S4096x1024 : Shape := ⟨2, ![4096, 1024]⟩
abbrev S9216x1024 : Shape := ⟨2, ![9216, 1024]⟩

abbrev nBuf : Space → Nat
  | .hbm => 7
  | .vmem => 0
  | .smem => 0
  | _ => 0

abbrev bufTy : (tb : Table) → Fin (tcTables nBuf tb) → BufTy
  | .hbm, ⟨0, _⟩ => ⟨S9216x4096, .bf16⟩
  | .hbm, ⟨1, _⟩ => ⟨S2x4096x1024, .f32⟩
  | .hbm, ⟨2, _⟩ => ⟨S9216x4096, .f32⟩
  | .hbm, ⟨3, _⟩ => ⟨S1x4096x1024, .f32⟩
  | .hbm, ⟨4, _⟩ => ⟨S4096x1024, .f32⟩
  | .hbm, ⟨5, _⟩ => ⟨S9216x1024, .f32⟩
  | .hbm, ⟨6, _⟩ => ⟨S9216x1024, .bf16⟩
  | _, _ => ⟨S9216x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel10.lean ====
abbrev S9216x1024 : Shape := ⟨2, ![9216, 1024]⟩
abbrev S2x1024x4096 : Shape := ⟨3, ![2, 1024, 4096]⟩
abbrev S9216x4096 : Shape := ⟨2, ![9216, 4096]⟩
abbrev S1024x1024 : Shape := ⟨2, ![1024, 1024]⟩
abbrev S1x1024x512 : Shape := ⟨3, ![1, 1024, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S9216x1024, .bf16⟩
  | .hbm, ⟨1, _⟩ => ⟨S2x1024x4096, .f32⟩
  | .hbm, ⟨2, _⟩ => ⟨S9216x4096, .f32⟩
  | .hbm, ⟨3, _⟩ => ⟨S9216x4096, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x512, .f32⟩
  | .local _ .vmem, ⟨3, _⟩ => ⟨S1x1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![9, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference10Ideal.lean ====
abbrev S9216x1024 : Shape := ⟨2, ![9216, 1024]⟩
abbrev S2x1024x4096 : Shape := ⟨3, ![2, 1024, 4096]⟩
abbrev S9216x4096 : Shape := ⟨2, ![9216, 4096]⟩
abbrev S1x1024x4096 : Shape := ⟨3, ![1, 1024, 4096]⟩
abbrev S1024x4096 : Shape := ⟨2, ![1024, 4096]⟩

abbrev nBuf : Space → Nat
  | .hbm => 8
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S2x1024x4096, .f32⟩
  | .hbm, ⟨2, _⟩ => ⟨S9216x4096, .f32⟩
  | .hbm, ⟨3, _⟩ => ⟨S9216x1024, .f32⟩
  | .hbm, ⟨4, _⟩ => ⟨S1x1024x4096, .f32⟩
  | .hbm, ⟨5, _⟩ => ⟨S1024x4096, .f32⟩
  | .hbm, ⟨6, _⟩ => ⟨S9216x4096, .f32⟩
  | .hbm, ⟨7, _⟩ => ⟨S9216x4096, .f32⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S512x4096 : Shape := ⟨2, ![512, 4096]⟩
abbrev S2x4096x1024 : Shape := ⟨3, ![2, 4096, 1024]⟩
abbrev S512x1024 : Shape := ⟨2, ![512, 1024]⟩
abbrev S1x4096x512 : Shape := ⟨3, ![1, 4096, 512]⟩
abbrev S512x512 : Shape := ⟨2, ![512, 512]⟩
abbrev S4096x512 : Shape := ⟨2, ![4096, 512]⟩

abbrev nBuf : Space → Nat
  | .hbm => 3
  | .vmem => 5
  | .smem => 0
  | _ => 0

abbrev bufTy : (tb : Table) → Fin (tcTables nBuf tb) → BufTy
  | .hbm, ⟨0, _⟩ => ⟨S512x4096, .bf16⟩
  | .hbm, ⟨1, _⟩ => ⟨S2x4096x1024, .f32⟩
  | .hbm, ⟨2, _⟩ => ⟨S512x1024, .f32⟩
  | .local _ .vmem, ⟨0, _⟩ => ⟨S512x4096, .bf16⟩
  | .local _ .vmem, ⟨1, _⟩ => ⟨S1x4096x512, .f32⟩
  | .local _ .vmem, ⟨2, _⟩ => ⟨S1x4096x512, .f32⟩
  | .local _ .vmem, ⟨3, _⟩ => ⟨S512x512, .f32⟩
  | .local _ .vmem, ⟨4, _⟩ => ⟨S512x512, .f32⟩
  | _, _ => ⟨S512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S512x4096 : Shape := ⟨2, ![512, 4096]⟩
abbrev S2x4096x1024 : Shape := ⟨3, ![2, 4096, 1024]⟩
abbrev S1x4096x1024 : Shape := ⟨3, ![1, 4096, 1024]⟩
abbrev S4096x1024 : Shape := ⟨2, ![4096, 1024]⟩
abbrev S512x1024 : Shape := ⟨2, ![512, 1024]⟩

abbrev nBuf : Space → Nat
  | .hbm => 6
  | .vmem => 0
  | .smem => 0
  | _ => 0

abbrev bufTy : (tb : Table) → Fin (tcTables nBuf tb) → BufTy
  | .hbm, ⟨0, _⟩ => ⟨S512x4096, .bf16⟩
  | .hbm, ⟨1, _⟩ => ⟨S2x4096x1024, .f32⟩
  | .hbm, ⟨2, _⟩ => ⟨S512x4096, .f32⟩
  | .hbm, ⟨3, _⟩ => ⟨S1x4096x1024, .f32⟩
  | .hbm, ⟨4, _⟩ => ⟨S4096x1024, .f32⟩
  | .hbm, ⟨5, _⟩ => ⟨S512x1024, .f32⟩
  | _, _ => ⟨S512x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel12.lean ====
abbrev S9216x4096 : Shape := ⟨2, ![9216, 4096]⟩
abbrev S4096 : Shape := ⟨1, ![4096]⟩
abbrev S1x4096 : Shape := ⟨2, ![1, 4096]⟩
abbrev S8192x4096 : Shape := ⟨2, ![8192, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S9216x4096, .f32⟩
  | .hbm, ⟨1, _⟩ => ⟨S4096, .f32⟩
  | .hbm, ⟨2, _⟩ => ⟨S1x4096, .f32⟩
  | .hbm, ⟨3, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S9216x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference12Ideal.lean ====
abbrev S9216x4096 : Shape := ⟨2, ![9216, 4096]⟩
abbrev S4096 : Shape := ⟨1, ![4096]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S9216x4096, .f32⟩
  | .hbm, ⟨1, _⟩ => ⟨S4096, .f32⟩
  | .hbm, ⟨2, _⟩ => ⟨S8192x4096, .f32⟩
  | .hbm, ⟨3, _⟩ => ⟨S8192x4096, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x4096, .f32⟩
  | .hbm, ⟨15, _⟩ => ⟨S8192x4096, .f32⟩
  | .hbm, ⟨16, _⟩ => ⟨S1x4096, .f32⟩
  | .hbm, ⟨17, _⟩ => ⟨S8192x4096, .f32⟩
  | .hbm, ⟨18, _⟩ => ⟨S8192x4096, .f32⟩
  | _, _ => ⟨S9216x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel13.lean ====
abbrev S9216x4096 : Shape := ⟨2, ![9216, 4096]⟩
abbrev S4096 : Shape := ⟨1, ![4096]⟩
abbrev S1x4096 : Shape := ⟨2, ![1, 4096]⟩
abbrev S1024x4096 : Shape := ⟨2, ![1024, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S9216x4096, .f32⟩
  | .hbm, ⟨1, _⟩ => ⟨S4096, .f32⟩
  | .hbm, ⟨2, _⟩ => ⟨S1x4096, .f32⟩
  | .hbm, ⟨3, _⟩ => ⟨S1024x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S9216x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference13Ideal.lean ====
abbrev S9216x4096 : Shape := ⟨2, ![9216, 4096]⟩
abbrev S4096 : Shape := ⟨1, ![4096]⟩
abbrev S1024x4096 : Shape := ⟨2, ![1024, 4096]⟩
abbrev S_ : Shape := ⟨0, ![]⟩
abbrev S1024 : Shape := ⟨1, ![1024]⟩
abbrev S1024x1 : Shape := ⟨2, ![1024, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S9216x4096, .f32⟩
  | .hbm, ⟨1, _⟩ => ⟨S4096, .f32⟩
  | .hbm, ⟨2, _⟩ => ⟨S1024x4096, .f32⟩
  | .hbm, ⟨3, _⟩ => ⟨S1024x4096, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S_, .f32⟩
  | .hbm, ⟨8, _⟩ => ⟨S1024x1, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S1024x1, .f32⟩
  | .hbm, ⟨14, _⟩ => ⟨S1024x4096, .f32⟩
  | .hbm, ⟨15, _⟩ => ⟨S1024x4096, .f32⟩
  | .hbm, ⟨16, _⟩ => ⟨S1x4096, .f32⟩
  | .hbm, ⟨17, _⟩ => ⟨S1024x4096, .f32⟩
  | .hbm, ⟨18, _⟩ => ⟨S1024x4096, .f32⟩
  | _, _ => ⟨S9216x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel14.lean ====
abbrev S9216x4096 : Shape := ⟨2, ![9216, 4096]⟩
abbrev S2x4096x22536 : Shape := ⟨3, ![2, 4096, 22536]⟩
abbrev S2x8 : Shape := ⟨2, ![2, 8]⟩
abbrev S2x22536x4096 : Shape := ⟨3, ![2, 22536, 4096]⟩
abbrev S45072x4096 : Shape := ⟨2, ![45072, 4096]⟩
abbrev S8x4096 : Shape := ⟨2, ![8, 4096]⟩
abbrev S4096x8 : Shape := ⟨2, ![4096, 8]⟩
abbrev S1x8 : Shape := ⟨2, ![1, 8]⟩
abbrev S8 : Shape := ⟨1, ![8]⟩
abbrev S_ : Shape := ⟨0, ![]⟩
abbrev S4096x128 : Shape := ⟨2, ![4096, 128]⟩
abbrev S1 : Shape := ⟨1, ![1]⟩
abbrev S1x128 : Shape := ⟨2, ![1, 128]⟩
abbrev S2 : Shape := ⟨1, ![2]⟩
abbrev S9216x128 : Shape := ⟨2, ![9216, 128]⟩
abbrev S1024x4096 : Shape := ⟨2, ![1024, 4096]⟩
abbrev S1024x128 : Shape := ⟨2, ![1024, 128]⟩
abbrev S9216x8 : Shape := ⟨2, ![9216, 8]⟩

abbrev nBuf : Space → Nat
  | .hbm => 24
  | .vmem => 6
  | .smem => 0
  | _ => 0

abbrev bufTy : (tb : Table) → Fin (tcTables nBuf tb) → BufTy
  | .hbm, ⟨0, _⟩ => ⟨S9216x4096, .bf16⟩
  | .hbm, ⟨1, _⟩ => ⟨S2x4096x22536, .f32⟩
  | .hbm, ⟨2, _⟩ => ⟨S2x8, .f32⟩
  | .hbm, ⟨3, _⟩ => ⟨S2x22536x4096, .f32⟩
  | .hbm, ⟨4, _⟩ => ⟨S45072x4096, .f32⟩
  | .hbm, ⟨5, _⟩ => ⟨S8x4096, .f32⟩
  | .hbm, ⟨6, _⟩ => ⟨S4096x8, .f32⟩
  | .hbm, ⟨7, _⟩ => ⟨S1x8, .f32⟩
  | .hbm, ⟨8, _⟩ => ⟨S8, .f32⟩
  | .hbm, ⟨9, _⟩ => ⟨S_, .f32⟩
  | .hbm, ⟨10, _⟩ => ⟨S4096x128, .f32⟩
  | .hbm, ⟨11, _⟩ => ⟨S_, .i32⟩
  | .hbm, ⟨12, _⟩ => ⟨S1, .i32⟩
  | .hbm, ⟨13, _⟩ => ⟨S4096x128, .f32⟩
  | .hbm, ⟨14, _⟩ => ⟨S_, .f32⟩
  | .hbm, ⟨15, _⟩ => ⟨S1x128, .f32⟩
  | .hbm, ⟨16, _⟩ => ⟨S_, .i32⟩
  | .hbm, ⟨17, _⟩ => ⟨S1, .i32⟩
  | .hbm, ⟨18, _⟩ => ⟨S_, .i32⟩
  | .hbm, ⟨19, _⟩ => ⟨S1, .i32⟩
  | .hbm, ⟨20, _⟩ => ⟨S2, .i32⟩
  | .hbm, ⟨21, _⟩ => ⟨S1x128, .f32⟩
  | .hbm, ⟨22, _⟩ => ⟨S9216x128, .f32⟩
  | .hbm, ⟨23, _⟩ => ⟨S9216x8, .f32⟩
  | .local _ .vmem, ⟨0, _⟩ => ⟨S1024x4096, .bf16⟩
  | .local _ .vmem, ⟨1, _⟩ => ⟨S1024x4096, .bf16⟩
  | .local _ .vmem, ⟨2, _⟩ => ⟨S4096x128, .f32⟩
  | .local _ .vmem, ⟨3, _⟩ => ⟨S1x128, .f32⟩
  | .local _ .vmem, ⟨4, _⟩ => ⟨S1024x128, .f32⟩
  | .local _ .vmem, ⟨5, _⟩ => ⟨S1024x128, .f32⟩
  | _, _ => ⟨S9216x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference14Ideal.lean ====
abbrev S9216x4096 : Shape := ⟨2, ![9216, 4096]⟩
abbrev S2x4096x22536 : Shape := ⟨3, ![2, 4096, 22536]⟩
abbrev S2x8 : Shape := ⟨2, ![2, 8]⟩
abbrev S1x4096x22536 : Shape := ⟨3, ![1, 4096, 22536]⟩
abbrev S4096x22536 : Shape := ⟨2, ![4096, 22536]⟩
abbrev S9216x22536 : Shape := ⟨2, ![9216, 22536]⟩
abbrev S9216x8 : Shape := ⟨2, ![9216, 8]⟩
abbrev S1x8 : Shape := ⟨2, ![1, 8]⟩
abbrev S8 : Shape := ⟨1, ![8]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S9216x4096, .bf16⟩
  | .hbm, ⟨1, _⟩ => ⟨S2x4096x22536, .f32⟩
  | .hbm, ⟨2, _⟩ => ⟨S2x8, .f32⟩
  | .hbm, ⟨3, _⟩ => ⟨S9216x4096, .f32⟩
  | .hbm, ⟨4, _⟩ => ⟨S1x4096x22536, .f32⟩
  | .hbm, ⟨5, _⟩ => ⟨S4096x22536, .f32⟩
  | .hbm, ⟨6, _⟩ => ⟨S9216x22536, .f32⟩
  | .hbm, ⟨7, _⟩ => ⟨S9216x8, .f32⟩
  | .hbm, ⟨8, _⟩ => ⟨S1x8, .f32⟩
  | .hbm, ⟨9, _⟩ => ⟨S8, .f32⟩
  | .hbm, ⟨10, _⟩ => ⟨S1x8, .f32⟩
  | .hbm, ⟨11, _⟩ => ⟨S9216x8, .f32⟩
  | .hbm, ⟨12, _⟩ => ⟨S9216x8, .f32⟩
  | .hbm, ⟨13, _⟩ => ⟨S9216x8, .f32⟩
  | .hbm, ⟨14, _⟩ => ⟨S_, .f32⟩
  | .hbm, ⟨15, _⟩ => ⟨S9216x8, .f32⟩
  | .hbm, ⟨16, _⟩ => ⟨S9216x8, .f32⟩
  | .hbm, ⟨17, _⟩ => ⟨S9216x8, .f32⟩
  | .hbm, ⟨18, _⟩ => ⟨S9216x8, .f32⟩
  | .hbm, ⟨19, _⟩ => ⟨S9216x8, .i1⟩
  | .hbm, ⟨20, _⟩ => ⟨S9216x8, .f32⟩
  | .hbm, ⟨21, _⟩ => ⟨S9216x8, .f32⟩
  | .hbm, ⟨22, _⟩ => ⟨S9216x8, .f32⟩
  | .hbm, ⟨23, _⟩ => ⟨S9216x8, .f32⟩
  | .hbm, ⟨24, _⟩ => ⟨S9216x8, .f32⟩
  | .hbm, ⟨25, _⟩ => ⟨S9216x8, .f32⟩
  | .hbm, ⟨26, _⟩ => ⟨S9216x8, .f32⟩
  | .hbm, ⟨27, _⟩ => ⟨S9216x8, .f32⟩
  | .hbm, ⟨28, _⟩ => ⟨S9216x8, .f32⟩
  | _, _ => ⟨S9216x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_call0_v0 : Ref sig .tc := ⟨.hbm, 13, rfl⟩
abbrev main_call0_call0_cst : Ref sig .tc := ⟨.hbm, 14, rfl⟩
abbrev main_call0_call0_v0 : Ref sig .tc := ⟨.hbm, 15, rfl⟩
abbrev main_call0_call0_v1 : Ref sig .tc := ⟨.hbm, 16, rfl⟩
abbrev main_call0_call0_v2 : Ref sig .tc := ⟨.hbm, 17, rfl⟩
abbrev main_call0_call0_v3 : Ref sig .tc := ⟨.hbm, 18, rfl⟩
abbrev main_call0_call0_v4 : Ref sig .tc := ⟨.hbm, 19, rfl⟩
abbrev main_call0_call0_v5 : Ref sig .tc := ⟨.hbm, 20, rfl⟩
abbrev main_call0_call0_v6 : Ref sig .tc := ⟨.hbm, 21, rfl⟩
abbrev main_call0_call0_v7 : Ref sig .tc := ⟨.hbm, 22, rfl⟩
abbrev main_call0_call0_v8 : Ref sig .tc := ⟨.hbm, 23, rfl⟩
abbrev main_call0_call0_v9 : Ref sig .tc := ⟨.hbm, 24, rfl⟩
abbrev main_call0_call0_v10 : Ref sig .tc := ⟨.hbm, 25, rfl⟩
abbrev main_call0_call0_v11 : Ref sig .tc := ⟨.hbm, 26, rfl⟩
abbrev main_call0_v1 : Ref sig .tc := ⟨.hbm, 27, rfl⟩
abbrev main_v10 : Ref sig .tc := ⟨.hbm, 28, rfl⟩

abbrev nD : Nat := 1
abbrev τ : Topo := Topo.v7x

variable {F : FTy → Type} [FloatOps F]
-- ==== Kernel15.lean ====
abbrev S9216x19456 : Shape := ⟨2, ![9216, 19456]⟩
abbrev S2x16x8x128x256 : Shape := ⟨5, ![2, 16, 8, 128, 256]⟩
abbrev S1x16x8x128x256 : Shape := ⟨5, ![1, 16, 8, 128, 256]⟩
abbrev S16x8x128x256 : Shape := ⟨4, ![16, 8, 128, 256]⟩
abbrev S64 : Shape := ⟨1, ![64]⟩
abbrev S_ : Shape := ⟨0, ![]⟩
abbrev S64x1 : Shape := ⟨2, ![64, 1]⟩
abbrev S1x64 : Shape := ⟨2, ![1, 64]⟩
abbrev S64x64 : Shape := ⟨2, ![64, 64]⟩
abbrev S64x128 : Shape := ⟨2, ![64, 128]⟩
abbrev S8 : Shape := ⟨1, ![8]⟩
abbrev S8x1x1 : Shape := ⟨3, ![8, 1, 1]⟩
abbrev S8x1x128 : Shape := ⟨3, ![8, 1, 128]⟩
abbrev S1024x2048 : Shape := ⟨2, ![1024, 2048]⟩
abbrev S64x256 : Shape := ⟨2, ![64, 256]⟩
abbrev S1x1x128 : Shape := ⟨3, ![1, 1, 128]⟩
abbrev S1x1x128x256 : Shape := ⟨4, ![1, 1, 128, 256]⟩
abbrev S128x256 : Shape := ⟨2, ![128, 256]⟩
abbrev S1x1x1 : Shape := ⟨3, ![1, 1, 1]⟩
abbrev S1x1 : Shape := ⟨2, ![1, 1]⟩

abbrev nBuf : Space → Nat
  | .hbm => 43
  | .vmem => 19
  | .smem => 0
  | _ => 0

abbrev bufTy : (tb : Table) → Fin (tcTables nBuf tb) → BufTy
  | .hbm, ⟨0, _⟩ => ⟨S9216x19456, .f32⟩
  | .hbm, ⟨1, _⟩ => ⟨S2x16x8x128x256, .f32⟩
  | .hbm, ⟨2, _⟩ => ⟨S1x16x8x128x256, .f32⟩
  | .hbm, ⟨3, _⟩ => ⟨S16x8x128x256, .f32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S64, .i32⟩
  | .hbm, ⟨13, _⟩ => ⟨S_, .i32⟩
  | .hbm, ⟨14, _⟩ => ⟨S64, .i32⟩
  | .hbm, ⟨15, _⟩ => ⟨S64, .i32⟩
  | .hbm, ⟨16, _⟩ => ⟨S64, .f32⟩
  | .hbm, ⟨17, _⟩ => ⟨S64x1, .f32⟩
  | .hbm, ⟨18, _⟩ => ⟨S1x64, .f32⟩
  | .hbm, ⟨19, _⟩ => ⟨S64x64, .f32⟩
  | .hbm, ⟨20, _⟩ => ⟨S64x64, .f32⟩
  | .hbm, ⟨21, _⟩ => ⟨S64x64, .f32⟩
  | .hbm, ⟨22, _⟩ => ⟨S64x64, .f32⟩
  | .hbm, ⟨23, _⟩ => ⟨S64x64, .f32⟩
  | .hbm, ⟨24, _⟩ => ⟨S64x128, .f32⟩
  | .hbm, ⟨25, _⟩ => ⟨S64x64, .f32⟩
  | .hbm, ⟨26, _⟩ => ⟨S64x64, .f32⟩
  | .hbm, ⟨27, _⟩ => ⟨S64x64, .f32⟩
  | .hbm, ⟨28, _⟩ => ⟨S64x128, .f32⟩
  | .hbm, ⟨29, _⟩ => ⟨S8, .f32⟩
  | .hbm, ⟨30, _⟩ => ⟨S_, .f32⟩
  | .hbm, ⟨31, _⟩ => ⟨S8, .f32⟩
  | .hbm, ⟨32, _⟩ => ⟨S8, .f32⟩
  | .hbm, ⟨33, _⟩ => ⟨S_, .f32⟩
  | .hbm, ⟨34, _⟩ => ⟨S8, .f32⟩
  | .hbm, ⟨35, _⟩ => ⟨S8, .f32⟩
  | .hbm, ⟨36, _⟩ => ⟨S8, .f32⟩
  | .hbm, ⟨37, _⟩ => ⟨S8, .f32⟩
  | .hbm, ⟨38, _⟩ => ⟨S8, .f32⟩
  | .hbm, ⟨39, _⟩ => ⟨S8x1x1, .f32⟩
  | .hbm, ⟨40, _⟩ => ⟨S8x1x128, .f32⟩
  | .hbm, ⟨41, _⟩ => ⟨S1024x2048, .bf16⟩
  | .hbm, ⟨42, _⟩ => ⟨S16x8x128x256, .f32⟩
  | .local _ .vmem, ⟨0, _⟩ => ⟨S64x128, .f32⟩
  | .local _ .vmem, ⟨1, _⟩ => ⟨S64x128, .f32⟩
  | .local _ .vmem, ⟨2, _⟩ => ⟨S64x128, .f32⟩
  | .local _ .vmem, ⟨3, _⟩ => ⟨S64x128, .f32⟩
  | .local _ .vmem, ⟨4, _⟩ => ⟨S64x256, .f32⟩
  | .local _ .vmem, ⟨5, _⟩ => ⟨S64x256, .f32⟩
  | .local _ .vmem, ⟨6, _⟩ => ⟨S64x256, .f32⟩
  | .local _ .vmem, ⟨7, _⟩ => ⟨S64x256, .f32⟩
  | .local _ .vmem, ⟨8, _⟩ => ⟨S64x128, .f32⟩
  | .local _ .vmem, ⟨9, _⟩ => ⟨S64x128, .f32⟩
  | .local _ .vmem, ⟨10, _⟩ => ⟨S1x1x128, .f32⟩
  | .local _ .vmem, ⟨11, _⟩ => ⟨S1x1x128, .f32⟩
  | .local _ .vmem, ⟨12, _⟩ => ⟨S1x1x128x256, .f32⟩
  | .local _ .vmem, ⟨13, _⟩ => ⟨S1x1x128x256, .f32⟩
  | .local _ .vmem, ⟨14, _⟩ => ⟨S64x256, .bf16⟩
  | .local _ .vmem, ⟨15, _⟩ => ⟨S64x256, .bf16⟩
  | .local _ .vmem, ⟨16, _⟩ => ⟨S1x1x128x256, .f32⟩
  | .local _ .vmem, ⟨17, _⟩ => ⟨S1x1x128x256, .f32⟩
  | .local _ .vmem, ⟨18, _⟩ => ⟨S128x256, .f32⟩
  | _, _ => ⟨S9216x19456, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_1 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34_0 : Ref sig .tc := ⟨.hbm, 41, rfl⟩
abbrev main_v34_1 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨3, ![16, 8, 1], ![false, false, false]⟩

def k0_cond2 (i : grid0.Coords) : BitVec 1 :=
  let arg2 : BitVec 32 := BitVec.ofNat 32 (i 2).val
  let c0_i32_38 : BitVec 32 := 0#32
  let v98 : BitVec 1 := Scalar.cmpi .eq arg2 c0_i32_38
  let v99 : BitVec 32 := Scalar.extui v98
  let c0_i32_39 : BitVec 32 := 0#32
  let v100 : BitVec 1 := Scalar.cmpi .ne v99 c0_i32_39
  v100

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c128_i32 : BitVec 32 := 128#32
  let v1 : BitVec 32 := Scalar.addi c128_i32 v0
  let v2 : BitVec 32 := Scalar.addi v1 arg2
  let c8_i32 : BitVec 32 := 8#32
  let v3 : BitVec 32 := Scalar.addi c8_i32 arg1
  let c0_i32 : BitVec 32 := 0#32
  ![v2.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c128_i32 : BitVec 32 := 128#32
  let v1 : BitVec 32 := Scalar.addi c128_i32 v0
  let v2 : BitVec 32 := Scalar.addi v1 arg2
  let c16_i32 : BitVec 32 := 16#32
  let v3 : BitVec 32 := Scalar.addi c16_i32 arg1
  let c0_i32 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c128_i32 : BitVec 32 := 128#32
  let v1 : BitVec 32 := Scalar.addi c128_i32 v0
  let v2 : BitVec 32 := Scalar.addi v1 arg2
  let c12_i32 : BitVec 32 := 12#32
  let v3 : BitVec 32 := Scalar.addi c12_i32 arg1
  let c0_i32 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c128_i32 : BitVec 32 := 128#32
  let v1 : BitVec 32 := Scalar.addi c128_i32 v0
  let v2 : BitVec 32 := Scalar.addi v1 arg2
  let c20_i32 : BitVec 32 := 20#32
  let v3 : BitVec 32 := Scalar.addi c20_i32 arg1
  let c0_i32 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, true]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, true]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x1x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S64x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== Reference15Ideal.lean ====
abbrev S9216x19456 : Shape := ⟨2, ![9216, 19456]⟩
abbrev S2x16x8x128x256 : Shape := ⟨5, ![2, 16, 8, 128, 256]⟩
abbrev S1024x19456 : Shape := ⟨2, ![1024, 19456]⟩
abbrev S64 : Shape := ⟨1, ![64]⟩
abbrev S_ : Shape := ⟨0, ![]⟩
abbrev S64x1 : Shape := ⟨2, ![64, 1]⟩
abbrev S1x64 : Shape := ⟨2, ![1, 64]⟩
abbrev S64x64 : Shape := ⟨2, ![64, 64]⟩
abbrev S1x64x1x64 : Shape := ⟨4, ![1, 64, 1, 64]⟩
abbrev S1024x1024 : Shape := ⟨2, ![1024, 1024]⟩
abbrev S16x64x8x128 : Shape := ⟨4, ![16, 64, 8, 128]⟩
abbrev S16x64x8x64 : Shape := ⟨4, ![16, 64, 8, 64]⟩
abbrev S1024x2048 : Shape := ⟨2, ![1024, 2048]⟩
abbrev S16x64x8x256 : Shape := ⟨4, ![16, 64, 8, 256]⟩
abbrev S1x16x8x128x256 : Shape := ⟨5, ![1, 16, 8, 128, 256]⟩
abbrev S16x8x128x256 : Shape := ⟨4, ![16, 8, 128, 256]⟩
abbrev S8 : Shape := ⟨1, ![8]⟩
abbrev S8x1x1 : Shape := ⟨3, ![8, 1, 1]⟩
abbrev S1x64x64 : Shape := ⟨3, ![1, 64, 64]⟩
abbrev S8x64x64 : Shape := ⟨3, ![8, 64, 64]⟩
abbrev S16x8x64x64 : Shape := ⟨4, ![16, 8, 64, 64]⟩
abbrev S1x8x64x64 : Shape := ⟨4, ![1, 8, 64, 64]⟩
abbrev S16x8x256x64 : Shape := ⟨4, ![16, 8, 256, 64]⟩
abbrev S1x8 : Shape := ⟨2, ![1, 8]⟩
abbrev S64x8 : Shape := ⟨2, ![64, 8]⟩
abbrev S64x8x1 : Shape := ⟨3, ![64, 8, 1]⟩
abbrev S1x64x8x1 : Shape := ⟨4, ![1, 64, 8, 1]⟩
abbrev S1x8x1x1 : Shape := ⟨4, ![1, 8, 1, 1]⟩
abbrev S16x64x8 : Shape := ⟨3, ![16, 64, 8]⟩
abbrev S16x64x8x1 : Shape := ⟨4, ![16, 64, 8, 1]⟩

abbrev nBuf : Space → Nat
  | .hbm => 165
  | .vmem => 0
  | .smem => 0
  | _ => 0

abbrev hbmTy0_0 (i : Nat) : BufTy := match i % 128 with
  | 0 => ⟨S9216x19456, .f32⟩
  | 1 => ⟨S2x16x8x128x256, .f32⟩
  | 2 => ⟨S1024x19456, .f32⟩
  | 3 => ⟨S64, .i32⟩
  | 4 => ⟨S_, .i32⟩
  | 5 => ⟨S64, .i32⟩
  | 6 => ⟨S64, .i32⟩
  | 7 => ⟨S64, .f32⟩
  | 8 => ⟨S64, .f32⟩
  | 9 => ⟨S_, .f32⟩
  | 10 => ⟨S64, .f32⟩
  | 11 => ⟨S64, .f32⟩
  | 12 => ⟨S_, .f32⟩
  | 13 => ⟨S64, .f32⟩
  | 14 => ⟨S64, .f32⟩
  | 15 => ⟨S64, .f32⟩
  | 16 => ⟨S64x1, .f32⟩
  | 17 => ⟨S1x64, .f32⟩
  | 18 => ⟨S64x64, .f32⟩
  | 19 => ⟨S64x64, .f32⟩
  | 20 => ⟨S64x64, .f32⟩
  | 21 => ⟨S64x64, .f32⟩
  | 22 => ⟨S1x64x1x64, .f32⟩
  | 23 => ⟨S64x64, .f32⟩
  | 24 => ⟨S1x64x1x64, .f32⟩
  | 25 => ⟨S1024x1024, .f32⟩
  | 26 => ⟨S16x64x8x128, .f32⟩
  | 27 => ⟨S16x64x8x64, .f32⟩
  | 28 => ⟨S16x64x8x64, .f32⟩
  | 29 => ⟨S16x64x8x64, .f32⟩
  | 30 => ⟨S16x64x8x64, .f32⟩
  | 31 => ⟨S16x64x8x64, .f32⟩
  | 32 => ⟨S16x64x8x64, .f32⟩
  | 33 => ⟨S16x64x8x64, .f32⟩
  | 34 => ⟨S16x64x8x64, .f32⟩
  | 35 => ⟨S16x64x8x64, .f32⟩
  | 36 => ⟨S16x64x8x64, .f32⟩
  | 37 => ⟨S16x64x8x64, .f32⟩
  | 38 => ⟨S16x64x8x64, .f32⟩
  | 39 => ⟨S16x64x8x128, .f32⟩
  | 40 => ⟨S1024x1024, .f32⟩
  | 41 => ⟨S16x64x8x128, .f32⟩
  | 42 => ⟨S16x64x8x64, .f32⟩
  | 43 => ⟨S16x64x8x64, .f32⟩
  | 44 => ⟨S16x64x8x64, .f32⟩
  | 45 => ⟨S16x64x8x64, .f32⟩
  | 46 => ⟨S16x64x8x64, .f32⟩
  | 47 => ⟨S16x64x8x64, .f32⟩
  | 48 => ⟨S16x64x8x64, .f32⟩
  | 49 => ⟨S16x64x8x64, .f32⟩
  | 50 => ⟨S16x64x8x64, .f32⟩
  | 51 => ⟨S16x64x8x64, .f32⟩
  | 52 => ⟨S16x64x8x64, .f32⟩
  | 53 => ⟨S16x64x8x64, .f32⟩
  | 54 => ⟨S16x64x8x128, .f32⟩
  | 55 => ⟨S_, .f32⟩
  | 56 => ⟨S16x64x8x128, .f32⟩
  | 57 => ⟨S16x64x8x128, .f32⟩
  | 58 => ⟨S1024x2048, .f32⟩
  | 59 => ⟨S16x64x8x256, .f32⟩
  | 60 => ⟨S1024x2048, .f32⟩
  | 61 => ⟨S1x16x8x128x256, .f32⟩
  | 62 => ⟨S16x8x128x256, .f32⟩
  | 63 => ⟨S8, .f32⟩
  | 64 => ⟨S_, .f32⟩
  | 65 => ⟨S8, .f32⟩
  | 66 => ⟨S8, .f32⟩
  | 67 => ⟨S_, .f32⟩
  | 68 => ⟨S8, .f32⟩
  | 69 => ⟨S8, .f32⟩
  | 70 => ⟨S8, .f32⟩
  | 71 => ⟨S8, .f32⟩
  | 72 => ⟨S8, .f32⟩
  | 73 => ⟨S64, .f32⟩
  | 74 => ⟨S64x1, .f32⟩
  | 75 => ⟨S1x64, .f32⟩
  | 76 => ⟨S64x64, .f32⟩
  | 77 => ⟨S64x64, .f32⟩
  | 78 => ⟨S64x64, .f32⟩
  | 79 => ⟨S_, .f32⟩
  | 80 => ⟨S64x64, .f32⟩
  | 81 => ⟨S64x64, .i1⟩
  | 82 => ⟨S8x1x1, .f32⟩
  | 83 => ⟨S_, .f32⟩
  | 84 => ⟨S64x64, .f32⟩
  | 85 => ⟨S64x64, .f32⟩
  | 86 => ⟨S1x64x64, .f32⟩
  | 87 => ⟨S8x64x64, .f32⟩
  | 88 => ⟨S8x64x64, .f32⟩
  | 89 => ⟨S8x64x64, .f32⟩
  | 90 => ⟨S8x64x64, .f32⟩
  | 91 => ⟨S_, .f32⟩
  | 92 => ⟨S_, .f32⟩
  | 93 => ⟨S8x64x64, .i1⟩
  | 94 => ⟨S8x64x64, .f32⟩
  | 95 => ⟨S8x64x64, .f32⟩
  | 96 => ⟨S16x8x64x64, .f32⟩
  | 97 => ⟨S1x8x64x64, .f32⟩
  | 98 => ⟨S16x8x64x64, .f32⟩
  | 99 => ⟨S16x8x64x64, .f32⟩
  | 100 => ⟨S16x8x256x64, .f32⟩
  | 101 => ⟨S16x64x8x256, .f32⟩
  | 102 => ⟨S1x8, .f32⟩
  | 103 => ⟨S_, .f32⟩
  | 104 => ⟨S64, .f32⟩
  | 105 => ⟨S64, .f32⟩
  | 106 => ⟨S64x1, .f32⟩
  | 107 => ⟨S64x8, .f32⟩
  | 108 => ⟨S64x8, .f32⟩
  | 109 => ⟨S64x8, .f32⟩
  | 110 => ⟨S64x8, .f32⟩
  | 111 => ⟨S64x8x1, .f32⟩
  | 112 => ⟨S1x64x8x1, .f32⟩
  | 113 => ⟨S16x64x8x128, .f32⟩
  | 114 => ⟨S16x64x8x128, .f32⟩
  | 115 => ⟨S16x8x128x256, .f32⟩
  | 116 => ⟨S_, .f32⟩
  | 117 => ⟨S8, .f32⟩
  | 118 => ⟨S8, .f32⟩
  | 119 => ⟨S8, .f32⟩
  | 120 => ⟨S1x8x1x1, .f32⟩
  | 121 => ⟨S16x8x128x256, .f32⟩
  | 122 => ⟨S16x8x128x256, .f32⟩
  | 123 => ⟨S16x8x128x256, .f32⟩
  | 124 => ⟨S1x8, .f32⟩
  | 125 => ⟨S_, .f32⟩
  | 126 => ⟨S64, .f32⟩
  | 127 => ⟨S64, .f32⟩
  | _ => ⟨S9216x19456, .f32⟩

abbrev hbmTy0_1 (i : Nat) : BufTy := match i % 128 with
  | 0 => ⟨S64x1, .f32⟩
  | 1 => ⟨S64x8, .f32⟩
  | 2 => ⟨S64x8, .f32⟩
  | 3 => ⟨S64x8, .f32⟩
  | 4 => ⟨S64x8, .f32⟩
  | 5 => ⟨S64x8x1, .f32⟩
  | 6 => ⟨S1x64x8x1, .f32⟩
  | 7 => ⟨S16x64x8x128, .f32⟩
  | 8 => ⟨S16x64x8x128, .f32⟩
  | 9 => ⟨S16x8x256x64, .f32⟩
  | 10 => ⟨S16x64x8x256, .f32⟩
  | 11 => ⟨S16x64x8x256, .f32⟩
  | 12 => ⟨S16x64x8x256, .f32⟩
  | 13 => ⟨S_, .f32⟩
  | 14 => ⟨S16x64x8, .f32⟩
  | 15 => ⟨S16x64x8x1, .f32⟩
  | 16 => ⟨S_, .f32⟩
  | 17 => ⟨S16x64x8x1, .f32⟩
  | 18 => ⟨S16x64x8x1, .f32⟩
  | 19 => ⟨S_, .f32⟩
  | 20 => ⟨S16x64x8x1, .f32⟩
  | 21 => ⟨S16x64x8x1, .f32⟩
  | 22 => ⟨S16x64x8x1, .f32⟩
  | 23 => ⟨S16x64x8x256, .f32⟩
  | 24 => ⟨S16x64x8x256, .f32⟩
  | 25 => ⟨S1024x2048, .f32⟩
  | 26 => ⟨S1024x2048, .f32⟩
  | 27 => ⟨S1024x2048, .f32⟩
  | 28 => ⟨S_, .f32⟩
  | 29 => ⟨S1024x2048, .f32⟩
  | 30 => ⟨S1024x2048, .f32⟩
  | 31 => ⟨S_, .f32⟩
  | 32 => ⟨S1024x2048, .f32⟩
  | 33 => ⟨S1024x2048, .f32⟩
  | 34 => ⟨S1024x2048, .f32⟩
  | 35 => ⟨S1024x2048, .f32⟩
  | 36 => ⟨S1024x2048, .bf16⟩
  | _ => ⟨S9216x19456, .f32⟩

abbrev hbmTy (i : Nat) : BufTy := match i / 128 with
  | 0 => hbmTy0_0 i
  | 1 => hbmTy0_1 i
  | _ => ⟨S9216x19456, .f32⟩

abbrev bufTy : (tb : Table) → Fin (tcTables nBuf tb) → BufTy
  | .hbm, ⟨i, _⟩ => hbmTy i
  | _, _ => ⟨S9216x19456, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_cst_1 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_cst_2 : Ref sig .tc := ⟨.hbm, 64, rfl⟩
abbrev main_v58 : Ref sig .tc := ⟨.hbm, 65, rfl⟩
abbrev main_v59 : Ref sig .tc := ⟨.hbm, 66, rfl⟩
abbrev main_cst_3 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_cst_4 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_cst_5 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_cst_6 : Ref sig .tc := ⟨.hbm, 91, rfl⟩
abbrev main_call0_v0 : Ref sig .tc := ⟨.hbm, 92, rfl⟩
abbrev main_call0_v1 : Ref sig .tc := ⟨.hbm, 93, rfl⟩
abbrev main_call0_v2 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_cst_7 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_cst_8 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_cst_9 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_cst_10 : Ref sig .tc := ⟨.hbm, 141, rfl⟩
abbrev main_v124 : Ref sig .tc := ⟨.hbm, 142, rfl⟩
abbrev main_v125 : Ref sig .tc := ⟨.hbm, 143, rfl⟩
abbrev main_cst_11 : Ref sig .tc := ⟨.hbm, 144, rfl⟩
abbrev main_v126 : Ref sig .tc := ⟨.hbm, 145, rfl⟩
abbrev main_v127 : Ref sig .tc := ⟨.hbm, 146, rfl⟩
abbrev main_cst_12 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_call1_v0 : Ref sig .tc := ⟨.hbm, 154, rfl⟩
abbrev main_call1_v1 : Ref sig .tc := ⟨.hbm, 155, rfl⟩
abbrev main_call1_cst : Ref sig .tc := ⟨.hbm, 156, rfl⟩
abbrev main_call1_v2 : Ref sig .tc := ⟨.hbm, 157, rfl⟩
abbrev main_call1_v3 : Ref sig .tc := ⟨.hbm, 158, rfl⟩
abbrev main_call1_cst_0 : Ref sig .tc := ⟨.hbm, 159, rfl⟩
abbrev main_call1_v4 : Ref sig .tc := ⟨.hbm, 160, rfl⟩
abbrev main_call1_v5 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩

abbrev nD : Nat := 1
abbrev τ : Topo := Topo.v7x

variable {F : FTy → Type} [FloatOps F]
-- ==== Kernel3.lean ====
abbrev S26624x4096 : Shape := ⟨2, ![26624, 4096]⟩
abbrev S1x8x4096x14336 : Shape := ⟨4, ![1, 8, 4096, 14336]⟩
abbrev S26 : Shape := ⟨1, ![26]⟩
abbrev S26624x14336 : Shape := ⟨2, ![26624, 14336]⟩
abbrev S1024x4096 : Shape := ⟨2, ![1024, 4096]⟩
abbrev S1x1x4096x512 : Shape := ⟨4, ![1, 1, 4096, 512]⟩
abbrev S1 : Shape := ⟨1, ![1]⟩
abbrev S1024x512 : Shape := ⟨2, ![1024, 512]⟩
abbrev S4096x512 : Shape := ⟨2, ![4096, 512]⟩
abbrev S256x4096 : Shape := ⟨2, ![256, 4096]⟩
abbrev S256x512 : Shape := ⟨2, ![256, 512]⟩

abbrev nBuf : Space → Nat
  | .hbm => 4
  | .vmem => 7
  | .smem => 2
  | _ => 0

abbrev bufTy : (tb : Table) → Fin (tcTables nBuf tb) → BufTy
  | .hbm, ⟨0, _⟩ => ⟨S26624x4096, .bf16⟩
  | .hbm, ⟨1, _⟩ => ⟨S1x8x4096x14336, .f32⟩
  | .hbm, ⟨2, _⟩ => ⟨S1x8x4096x14336, .f32⟩
  | .hbm, ⟨3, _⟩ => ⟨S26624x14336, .bf16⟩
  | .local _ .vmem, ⟨0, _⟩ => ⟨S1024x4096, .bf16⟩
  | .local _ .vmem, ⟨1, _⟩ => ⟨S1x1x4096x512, .f32⟩
  | .local _ .vmem, ⟨2, _⟩ => ⟨S1x1x4096x512, .f32⟩
  | .local _ .vmem, ⟨3, _⟩ => ⟨S1x1x4096x512, .f32⟩
  | .local _ .vmem, ⟨4, _⟩ => ⟨S1x1x4096x512, .f32⟩
  | .local _ .vmem, ⟨5, _⟩ => ⟨S1024x512, .bf16⟩
  | .local _ .vmem, ⟨6, _⟩ => ⟨S1024x512, .bf16⟩
  | .local _ .smem, ⟨0, _⟩ => ⟨S26, .i32⟩
  | .local _ .smem, ⟨1, _⟩ => ⟨S26, .i32⟩
  | _, _ => ⟨S26624x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_arg3 : Ref sig .tc := ⟨.smem, 0, rfl⟩
abbrev main_arg4 : Ref sig .tc := ⟨.smem, 1, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![26, 28], ![false, false]⟩

abbrev pre0 : Pipeline.Prefetch sig := ⟨2, ![main_arg3.idx, main_arg4.idx], fun | 0 => main_arg3.names | 1 => main_arg4.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (v1 : BitVec 32) : BitVec 1 :=
  let c4_i32 : BitVec 32 := 4#32
  let v2 : BitVec 1 := Scalar.cmpi .eq v1 c4_i32
  let v3 : BitVec 32 := Scalar.extui v2
  let c0_i32 : BitVec 32 := 0#32
  let v4 : BitVec 1 := Scalar.cmpi .ne v3 c0_i32
  v4

def k0_cond2 (v1 : BitVec 32) : BitVec 1 :=
  let c4_i32_0 : BitVec 32 := 4#32
  let v5 : BitVec 1 := Scalar.cmpi .slt v1 c4_i32_0
  let v6 : BitVec 32 := Scalar.extui v5
  let c0_i32_1 : BitVec 32 := 0#32
  let v7 : BitVec 1 := Scalar.cmpi .ne v6 c0_i32_1
  v7

def k0_cond3 (v1 : BitVec 32) : BitVec 1 :=
  let c0_i32_2 : BitVec 32 := 0#32
  let v8 : BitVec 1 := Scalar.cmpi .sgt v1 c0_i32_2
  let v9 : BitVec 32 := Scalar.extui v8
  let c0_i32_3 : BitVec 32 := 0#32
  let v10 : BitVec 1 := Scalar.cmpi .ne v9 c0_i32_3
  v10

def k0_cond4 (v1 : BitVec 32) : BitVec 1 :=
  let c0_i32_4 : BitVec 32 := 0#32
  let v11 : BitVec 1 := Scalar.cmpi .sle v1 c0_i32_4
  let v12 : BitVec 32 := Scalar.extui v11
  let c0_i32_5 : BitVec 32 := 0#32
  let v13 : BitVec 1 := Scalar.cmpi .ne v12 c0_i32_5
  v13

def k0_cond5 (v1 : BitVec 32) : BitVec 1 :=
  let c1_i32 : BitVec 32 := 1#32
  let v14 : BitVec 1 := Scalar.cmpi .sgt v1 c1_i32
  let v15 : BitVec 32 := Scalar.extui v14
  let c0_i32_6 : BitVec 32 := 0#32
  let v16 : BitVec 1 := Scalar.cmpi .ne v15 c0_i32_6
  v16

def k0_cond6 (v1 : BitVec 32) : BitVec 1 :=
  let c1_i32_7 : BitVec 32 := 1#32
  let v17 : BitVec 1 := Scalar.cmpi .sle v1 c1_i32_7
  let v18 : BitVec 32 := Scalar.extui v17
  let c0_i32_8 : BitVec 32 := 0#32
  let v19 : BitVec 1 := Scalar.cmpi .ne v18 c0_i32_8
  v19

def k0_cond7 (v1 : BitVec 32) : BitVec 1 :=
  let c2_i32 : BitVec 32 := 2#32
  let v20 : BitVec 1 := Scalar.cmpi .sgt v1 c2_i32
  let v21 : BitVec 32 := Scalar.extui v20
  let c0_i32_9 : BitVec 32 := 0#32
  let v22 : BitVec 1 := Scalar.cmpi .ne v21 c0_i32_9
  v22

def k0_cond8 (v1 : BitVec 32) : BitVec 1 :=
  let c2_i32_10 : BitVec 32 := 2#32
  let v23 : BitVec 1 := Scalar.cmpi .sle v1 c2_i32_10
  let v24 : BitVec 32 := Scalar.extui v23
  let c0_i32_11 : BitVec 32 := 0#32
  let v25 : BitVec 1 := Scalar.cmpi .ne v24 c0_i32_11
  v25

def k0_cond9 (v1 : BitVec 32) : BitVec 1 :=
  let c3_i32 : BitVec 32 := 3#32
  let v26 : BitVec 1 := Scalar.cmpi .sgt v1 c3_i32
  let v27 : BitVec 32 := Scalar.extui v26
  let c0_i32_12 : BitVec 32 := 0#32
  let v28 : BitVec 1 := Scalar.cmpi .ne v27 c0_i32_12
  v28

def k0_cond10 (v1 : BitVec 32) : BitVec 1 :=
  let c3_i32_13 : BitVec 32 := 3#32
  let v29 : BitVec 1 := Scalar.cmpi .sle v1 c3_i32_13
  let v30 : BitVec 32 := Scalar.extui v29
  let c0_i32_14 : BitVec 32 := 0#32
  let v31 : BitVec 1 := Scalar.cmpi .ne v30 c0_i32_14
  v31

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S26.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S26) ![v0.toNat] S1.size (k0_off1_inb i)) numel1_S1
  let v2 : Index := Scalar.indexCast arg0
  let v3 : BitVec 32 := pf.at 1 (Rect.unit (s := S26) ![v2.toNat] S1.size (k0_off1_inb i)) numel1_S1
  let c0_i32 : BitVec 32 := 0#32
  let v4 : BitVec 1 := Scalar.cmpi .sgt v3 c0_i32
  let c27_i32 : BitVec 32 := 27#32
  let v5 : BitVec 32 := Scalar.select v4 arg1 c27_i32
  let c0_i32_0 : BitVec 32 := 0#32
  let c0_i32_1 : BitVec 32 := 0#32
  let c0_i32_2 : BitVec 32 := 0#32
  ![c0_i32_0.toNat, v1.toNat, c0_i32_1.toNat, v5.toNat]

def cc0_transform_2 (k0_off1_inb : ∀ i : grid0.Coords, ∀ a, (k0_off1 i) a + S1.size a ≤ S26.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S26) ![v0.toNat] S1.size (k0_off1_inb i)) numel1_S1
  let v2 : Index := Scalar.indexCast arg0
  let v3 : BitVec 32 := pf.at 1 (Rect.unit (s := S26) ![v2.toNat] S1.size (k0_off1_inb i)) numel1_S1
  let c0_i32 : BitVec 32 := 0#32
  let v4 : BitVec 1 := Scalar.cmpi .sgt v3 c0_i32
  let c27_i32 : BitVec 32 := 27#32
  let v5 : BitVec 32 := Scalar.select v4 arg1 c27_i32
  let c0_i32_0 : BitVec 32 := 0#32
  let c0_i32_1 : BitVec 32 := 0#32
  let c0_i32_2 : BitVec 32 := 0#32
  ![c0_i32_0.toNat, v1.toNat, c0_i32_1.toNat, v5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S26624x4096 : Shape := ⟨2, ![26624, 4096]⟩
abbrev S1x8x4096x14336 : Shape := ⟨4, ![1, 8, 4096, 14336]⟩
abbrev S26 : Shape := ⟨1, ![26]⟩
abbrev S26x1024x4096 : Shape := ⟨3, ![26, 1024, 4096]⟩
abbrev S8x4096x14336 : Shape := ⟨3, ![8, 4096, 14336]⟩
abbrev S_ : Shape := ⟨0, ![]⟩
abbrev S26x1 : Shape := ⟨2, ![26, 1]⟩
abbrev S26x4096x14336 : Shape := ⟨3, ![26, 4096, 14336]⟩
abbrev S26x1024x14336 : Shape := ⟨3, ![26, 1024, 14336]⟩
abbrev S1024 : Shape := ⟨1, ![1024]⟩
abbrev S1x1024 : Shape := ⟨2, ![1, 1024]⟩
abbrev S26x1024 : Shape := ⟨2, ![26, 1024]⟩
abbrev S26x1024x1 : Shape := ⟨3, ![26, 1024, 1]⟩
abbrev S26624x14336 : Shape := ⟨2, ![26624, 14336]⟩

abbrev nBuf : Space → Nat
  | .hbm => 56
  | .vmem => 0
  | .smem => 0
  | _ => 0

abbrev bufTy : (tb : Table) → Fin (tcTables nBuf tb) → BufTy
  | .hbm, ⟨0, _⟩ => ⟨S26624x4096, .bf16⟩
  | .hbm, ⟨1, _⟩ => ⟨S1x8x4096x14336, .f32⟩
  | .hbm, ⟨2, _⟩ => ⟨S1x8x4096x14336, .f32⟩
  | .hbm, ⟨3, _⟩ => ⟨S26, .i32⟩
  | .hbm, ⟨4, _⟩ => ⟨S26, .i32⟩
  | .hbm, ⟨5, _⟩ => ⟨S26624x4096, .f32⟩
  | .hbm, ⟨6, _⟩ => ⟨S26x1024x4096, .f32⟩
  | .hbm, ⟨7, _⟩ => ⟨S8x4096x14336, .f32⟩
  | .hbm, ⟨8, _⟩ => ⟨S_, .i32⟩
  | .hbm, ⟨9, _⟩ => ⟨S26, .i32⟩
  | .hbm, ⟨10, _⟩ => ⟨S26, .i1⟩
  | .hbm, ⟨11, _⟩ => ⟨S_, .i32⟩
  | .hbm, ⟨12, _⟩ => ⟨S26, .i32⟩
  | .hbm, ⟨13, _⟩ => ⟨S26, .i32⟩
  | .hbm, ⟨14, _⟩ => ⟨S26, .i32⟩
  | .hbm, ⟨15, _⟩ => ⟨S26x1, .i32⟩
  | .hbm, ⟨16, _⟩ => ⟨S26x4096x14336, .f32⟩
  | .hbm, ⟨17, _⟩ => ⟨S26x1024x14336, .f32⟩
  | .hbm, ⟨18, _⟩ => ⟨S26x1024x14336, .f32⟩
  | .hbm, ⟨19, _⟩ => ⟨S26x1024x14336, .f32⟩
  | .hbm, ⟨20, _⟩ => ⟨S_, .f32⟩
  | .hbm, ⟨21, _⟩ => ⟨S26x1024x14336, .f32⟩
  | .hbm, ⟨22, _⟩ => ⟨S26x1024x14336, .f32⟩
  | .hbm, ⟨23, _⟩ => ⟨S_, .f32⟩
  | .hbm, ⟨24, _⟩ => ⟨S26x1024x14336, .f32⟩
  | .hbm, ⟨25, _⟩ => ⟨S26x1024x14336, .f32⟩
  | .hbm, ⟨26, _⟩ => ⟨S26x1024x14336, .f32⟩
  | .hbm, ⟨27, _⟩ => ⟨S8x4096x14336, .f32⟩
  | .hbm, ⟨28, _⟩ => ⟨S_, .i32⟩
  | .hbm, ⟨29, _⟩ => ⟨S26, .i32⟩
  | .hbm, ⟨30, _⟩ => ⟨S26, .i1⟩
  | .hbm, ⟨31, _⟩ => ⟨S_, .i32⟩
  | .hbm, ⟨32, _⟩ => ⟨S26, .i32⟩
  | .hbm, ⟨33, _⟩ => ⟨S26, .i32⟩
  | .hbm, ⟨34, _⟩ => ⟨S26, .i32⟩
  | .hbm, ⟨35, _⟩ => ⟨S26x1, .i32⟩
  | .hbm, ⟨36, _⟩ => ⟨S26x4096x14336, .f32⟩
  | .hbm, ⟨37, _⟩ => ⟨S26x1024x14336, .f32⟩
  | .hbm, ⟨38, _⟩ => ⟨S26x1024x14336, .f32⟩
  | .hbm, ⟨39, _⟩ => ⟨S1024, .i32⟩
  | .hbm, ⟨40, _⟩ => ⟨S1x1024, .i32⟩
  | .hbm, ⟨41, _⟩ => ⟨S26x1, .i32⟩
  | .hbm, ⟨42, _⟩ => ⟨S_, .i32⟩
  | .hbm, ⟨43, _⟩ => ⟨S26x1, .i32⟩
  | .hbm, ⟨44, _⟩ => ⟨S26x1, .i32⟩
  | .hbm, ⟨45, _⟩ => ⟨S26x1024, .i32⟩
  | .hbm, ⟨46, _⟩ => ⟨S26x1024, .i32⟩
  | .hbm, ⟨47, _⟩ => ⟨S26x1024, .i1⟩
  | .hbm, ⟨48, _⟩ => ⟨S26x1024x1, .i1⟩
  | .hbm, ⟨49, _⟩ => ⟨S_, .f32⟩
  | .hbm, ⟨50, _⟩ => ⟨S_, .f32⟩
  | .hbm, ⟨51, _⟩ => ⟨S26x1024x14336, .i1⟩
  | .hbm, ⟨52, _⟩ => ⟨S26x1024x14336, .f32⟩
  | .hbm, ⟨53, _⟩ => ⟨S26x1024x14336, .f32⟩
  | .hbm, ⟨54, _⟩ => ⟨S26624x14336, .f32⟩
  | .hbm, ⟨55, _⟩ => ⟨S26624x14336, .bf16⟩
  | _, _ => ⟨S26624x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v11 : Ref sig .tc := ⟨.hbm, 26, rfl⟩
abbrev main_v12 : Ref sig .tc := ⟨.hbm, 27, rfl⟩
abbrev main_c_1 : Ref sig .tc := ⟨.hbm, 28, rfl⟩
abbrev main_v13 : Ref sig .tc := ⟨.hbm, 29, rfl⟩
abbrev main_v14 : Ref sig .tc := ⟨.hbm, 30, rfl⟩
abbrev main_c_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_3 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩

abbrev nD : Nat := 1
abbrev τ : Topo := Topo.v7x

variable {F : FTy → Type} [FloatOps F]
-- ==== Kernel4.lean ====
abbrev S26624x14336 : Shape := ⟨2, ![26624, 14336]⟩
abbrev S1x8x14336x4096 : Shape := ⟨4, ![1, 8, 14336, 4096]⟩
abbrev S26 : Shape := ⟨1, ![26]⟩
abbrev S26624x32x128 : Shape := ⟨3, ![26624, 32, 128]⟩
abbrev S1024x2048 : Shape := ⟨2, ![1024, 2048]⟩
abbrev S1x1x2048x1024 : Shape := ⟨4, ![1, 1, 2048, 1024]⟩
abbrev S1 : Shape := ⟨1, ![1]⟩
abbrev S1024x8x128 : Shape := ⟨3, ![1024, 8, 128]⟩
abbrev S1024x1024 : Shape := ⟨2, ![1024, 1024]⟩
abbrev S2048x1024 : Shape := ⟨2, ![2048, 1024]⟩
abbrev S256x2048 : Shape := ⟨2, ![256, 2048]⟩
abbrev S256x1024 : Shape := ⟨2, ![256, 1024]⟩
abbrev S256x8x128 : Shape := ⟨3, ![256, 8, 128]⟩

abbrev nBuf : Space → Nat
  | .hbm => 3
  | .vmem => 7
  | .smem => 2
  | _ => 0

abbrev bufTy : (tb : Table) → Fin (tcTables nBuf tb) → BufTy
  | .hbm, ⟨0, _⟩ => ⟨S26624x14336, .bf16⟩
  | .hbm, ⟨1, _⟩ => ⟨S1x8x14336x4096, .f32⟩
  | .hbm, ⟨2, _⟩ => ⟨S26624x32x128, .f32⟩
  | .local _ .vmem, ⟨0, _⟩ => ⟨S1024x2048, .bf16⟩
  | .local _ .vmem, ⟨1, _⟩ => ⟨S1024x2048, .bf16⟩
  | .local _ .vmem, ⟨2, _⟩ => ⟨S1x1x2048x1024, .f32⟩
  | .local _ .vmem, ⟨3, _⟩ => ⟨S1x1x2048x1024, .f32⟩
  | .local _ .vmem, ⟨4, _⟩ => ⟨S1024x8x128, .f32⟩
  | .local _ .vmem, ⟨5, _⟩ => ⟨S1024x8x128, .f32⟩
  | .local _ .vmem, ⟨6, _⟩ => ⟨S1024x1024, .f32⟩
  | .local _ .smem, ⟨0, _⟩ => ⟨S26, .i32⟩
  | .local _ .smem, ⟨1, _⟩ => ⟨S26, .i32⟩
  | _, _ => ⟨S26624x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev main_arg3 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![26, 4, 7], ![false, false, false]⟩

abbrev pre0 : Pipeline.Prefetch sig := ⟨2, ![main_arg2.idx, main_arg3.idx], fun | 0 => main_arg2.names | 1 => main_arg3.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (v1 : BitVec 32) : BitVec 1 :=
  let c4_i32 : BitVec 32 := 4#32
  let v2 : BitVec 1 := Scalar.cmpi .eq v1 c4_i32
  let v3 : BitVec 32 := Scalar.extui v2
  let c0_i32 : BitVec 32 := 0#32
  let v4 : BitVec 1 := Scalar.cmpi .ne v3 c0_i32
  v4

def k0_cond4 (i : grid0.Coords) : BitVec 1 :=
  let arg2 : BitVec 32 := BitVec.ofNat 32 (i 2).val
  let c6_i32 : BitVec 32 := 6#32
  let v19 : BitVec 1 := Scalar.cmpi .eq arg2 c6_i32
  let v20 : BitVec 32 := Scalar.extui v19
  let c0_i32_11 : BitVec 32 := 0#32
  let v21 : BitVec 1 := Scalar.cmpi .ne v20 c0_i32_11
  v21

def k0_cond5 (v1 : BitVec 32) : BitVec 1 :=
  let c4_i32_0 : BitVec 32 := 4#32
  let v5 : BitVec 1 := Scalar.cmpi .slt v1 c4_i32_0
  let v6 : BitVec 32 := Scalar.extui v5
  let c0_i32_1 : BitVec 32 := 0#32
  let v7 : BitVec 1 := Scalar.cmpi .ne v6 c0_i32_1
  v7

def k0_cond6 (v1 : BitVec 32) : BitVec 1 :=
  let c0_i32_2 : BitVec 32 := 0#32
  let v8 : BitVec 1 := Scalar.cmpi .sgt v1 c0_i32_2
  let v9 : BitVec 32 := Scalar.extui v8
  let c0_i32_3 : BitVec 32 := 0#32
  let v10 : BitVec 1 := Scalar.cmpi .ne v9 c0_i32_3
  v10

def k0_cond9 (i : grid0.Coords) : BitVec 1 :=
  let arg2 : BitVec 32 := BitVec.ofNat 32 (i 2).val
  let c6_i32 : BitVec 32 := 6#32
  let v43 : BitVec 1 := Scalar.cmpi .eq arg2 c6_i32
  let v44 : BitVec 32 := Scalar.extui v43
  let c0_i32_24 : BitVec 32 := 0#32
  let v45 : BitVec 1 := Scalar.cmpi .ne v44 c0_i32_24
  v45

def k0_cond10 (v1 : BitVec 32) : BitVec 1 :=
  let c0_i32_4 : BitVec 32 := 0#32
  let v11 : BitVec 1 := Scalar.cmpi .sle v1 c0_i32_4
  let v12 : BitVec 32 := Scalar.extui v11
  let c0_i32_5 : BitVec 32 := 0#32
  let v13 : BitVec 1 := Scalar.cmpi .ne v12 c0_i32_5
  v13

def k0_cond11 (i : grid0.Coords) : BitVec 1 :=
  let arg2 : BitVec 32 := BitVec.ofNat 32 (i 2).val
  let c6_i32 : BitVec 32 := 6#32
  let v32 : BitVec 1 := Scalar.cmpi .eq arg2 c6_i32
  let v33 : BitVec 32 := Scalar.extui v32
  let c0_i32_15 : BitVec 32 := 0#32
  let v34 : BitVec 1 := Scalar.cmpi .ne v33 c0_i32_15
  v34

def k0_cond12 (v1 : BitVec 32) : BitVec 1 :=
  let c1_i32 : BitVec 32 := 1#32
  let v14 : BitVec 1 := Scalar.cmpi .sgt v1 c1_i32
  let v15 : BitVec 32 := Scalar.extui v14
  let c0_i32_6 : BitVec 32 := 0#32
  let v16 : BitVec 1 := Scalar.cmpi .ne v15 c0_i32_6
  v16

def k0_cond15 (i : grid0.Coords) : BitVec 1 :=
  let arg2 : BitVec 32 := BitVec.ofNat 32 (i 2).val
  let c6_i32 : BitVec 32 := 6#32
  let v43 : BitVec 1 := Scalar.cmpi .eq arg2 c6_i32
  let v44 : BitVec 32 := Scalar.extui v43
  let c0_i32_23 : BitVec 32 := 0#32
  let v45 : BitVec 1 := Scalar.cmpi .ne v44 c0_i32_23
  v45

def k0_cond16 (v1 : BitVec 32) : BitVec 1 :=
  let c1_i32_7 : BitVec 32 := 1#32
  let v17 : BitVec 1 := Scalar.cmpi .sle v1 c1_i32_7
  let v18 : BitVec 32 := Scalar.extui v17
  let c0_i32_8 : BitVec 32 := 0#32
  let v19 : BitVec 1 := Scalar.cmpi .ne v18 c0_i32_8
  v19

def k0_cond17 (i : grid0.Coords) : BitVec 1 :=
  let arg2 : BitVec 32 := BitVec.ofNat 32 (i 2).val
  let c6_i32 : BitVec 32 := 6#32
  let v32 : BitVec 1 := Scalar.cmpi .eq arg2 c6_i32
  let v33 : BitVec 32 := Scalar.extui v32
  let c0_i32_15 : BitVec 32 := 0#32
  let v34 : BitVec 1 := Scalar.cmpi .ne v33 c0_i32_15
  v34

def k0_cond18 (v1 : BitVec 32) : BitVec 1 :=
  let c2_i32 : BitVec 32 := 2#32
  let v20 : BitVec 1 := Scalar.cmpi .sgt v1 c2_i32
  let v21 : BitVec 32 := Scalar.extui v20
  let c0_i32_9 : BitVec 32 := 0#32
  let v22 : BitVec 1 := Scalar.cmpi .ne v21 c0_i32_9
  v22

def k0_cond21 (i : grid0.Coords) : BitVec 1 :=
  let arg2 : BitVec 32 := BitVec.ofNat 32 (i 2).val
  let c6_i32 : BitVec 32 := 6#32
  let v43 : BitVec 1 := Scalar.cmpi .eq arg2 c6_i32
  let v44 : BitVec 32 := Scalar.extui v43
  let c0_i32_23 : BitVec 32 := 0#32
  let v45 : BitVec 1 := Scalar.cmpi .ne v44 c0_i32_23
  v45

def k0_cond22 (v1 : BitVec 32) : BitVec 1 :=
  let c2_i32_10 : BitVec 32 := 2#32
  let v23 : BitVec 1 := Scalar.cmpi .sle v1 c2_i32_10
  let v24 : BitVec 32 := Scalar.extui v23
  let c0_i32_11 : BitVec 32 := 0#32
  let v25 : BitVec 1 := Scalar.cmpi .ne v24 c0_i32_11
  v25

def k0_cond23 (i : grid0.Coords) : BitVec 1 :=
  let arg2 : BitVec 32 := BitVec.ofNat 32 (i 2).val
  let c6_i32 : BitVec 32 := 6#32
  let v32 : BitVec 1 := Scalar.cmpi .eq arg2 c6_i32
  let v33 : BitVec 32 := Scalar.extui v32
  let c0_i32_15 : BitVec 32 := 0#32
  let v34 : BitVec 1 := Scalar.cmpi .ne v33 c0_i32_15
  v34

def k0_cond24 (v1 : BitVec 32) : BitVec 1 :=
  let c3_i32 : BitVec 32 := 3#32
  let v26 : BitVec 1 := Scalar.cmpi .sgt v1 c3_i32
  let v27 : BitVec 32 := Scalar.extui v26
  let c0_i32_12 : BitVec 32 := 0#32
  let v28 : BitVec 1 := Scalar.cmpi .ne v27 c0_i32_12
  v28

def k0_cond27 (i : grid0.Coords) : BitVec 1 :=
  let arg2 : BitVec 32 := BitVec.ofNat 32 (i 2).val
  let c6_i32 : BitVec 32 := 6#32
  let v43 : BitVec 1 := Scalar.cmpi .eq arg2 c6_i32
  let v44 : BitVec 32 := Scalar.extui v43
  let c0_i32_23 : BitVec 32 := 0#32
  let v45 : BitVec 1 := Scalar.cmpi .ne v44 c0_i32_23
  v45

def k0_cond28 (v1 : BitVec 32) : BitVec 1 :=
  let c3_i32_13 : BitVec 32 := 3#32
  let v29 : BitVec 1 := Scalar.cmpi .sle v1 c3_i32_13
  let v30 : BitVec 32 := Scalar.extui v29
  let c0_i32_14 : BitVec 32 := 0#32
  let v31 : BitVec 1 := Scalar.cmpi .ne v30 c0_i32_14
  v31

def k0_cond29 (i : grid0.Coords) : BitVec 1 :=
  let arg2 : BitVec 32 := BitVec.ofNat 32 (i 2).val
  let c6_i32 : BitVec 32 := 6#32
  let v32 : BitVec 1 := Scalar.cmpi .eq arg2 c6_i32
  let v33 : BitVec 32 := Scalar.extui v32
  let c0_i32_15 : BitVec 32 := 0#32
  let v34 : BitVec 1 := Scalar.cmpi .ne v33 c0_i32_15
  v34

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (k0_off1_inb : ∀ i : grid0.Coords, ∀ a, (k0_off1 i) a + S1.size a ≤ S26.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg0
  let v1 : BitVec 32 := pf.at 1 (Rect.unit (s := S26) ![v0.toNat] S1.size (k0_off1_inb i)) numel1_S1
  let c0_i32 : BitVec 32 := 0#32
  let v2 : BitVec 1 := Scalar.cmpi .sgt v1 c0_i32
  let v3 : Index := Scalar.indexCast arg0
  let v4 : BitVec 32 := pf.at 0 (Rect.unit (s := S26) ![v3.toNat] S1.size (k0_off1_inb i)) numel1_S1
  let c6_i32 : BitVec 32 := 6#32
  let v5 : BitVec 32 := Scalar.select v2 arg2 c6_i32
  let c3_i32 : BitVec 32 := 3#32
  let v6 : BitVec 32 := Scalar.select v2 arg1 c3_i32
  let c0_i32_0 : BitVec 32 := 0#32
  let c0_i32_1 : BitVec 32 := 0#32
  ![c0_i32_0.toNat, v4.toNat, v5.toNat, v6.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1024x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S26624x14336 : Shape := ⟨2, ![26624, 14336]⟩
abbrev S1x8x14336x4096 : Shape := ⟨4, ![1, 8, 14336, 4096]⟩
abbrev S26 : Shape := ⟨1, ![26]⟩
abbrev S26x1024x14336 : Shape := ⟨3, ![26, 1024, 14336]⟩
abbrev S8x14336x4096 : Shape := ⟨3, ![8, 14336, 4096]⟩
abbrev S_ : Shape := ⟨0, ![]⟩
abbrev S26x1 : Shape := ⟨2, ![26, 1]⟩
abbrev S26x14336x4096 : Shape := ⟨3, ![26, 14336, 4096]⟩
abbrev S26x1024x4096 : Shape := ⟨3, ![26, 1024, 4096]⟩
abbrev S1024 : Shape := ⟨1, ![1024]⟩
abbrev S1x1024 : Shape := ⟨2, ![1, 1024]⟩
abbrev S26x1024 : Shape := ⟨2, ![26, 1024]⟩
abbrev S26x1024x1 : Shape := ⟨3, ![26, 1024, 1]⟩
abbrev S26624x32x128 : Shape := ⟨3, ![26624, 32, 128]⟩

abbrev nBuf : Space → Nat
  | .hbm => 33
  | .vmem => 0
  | .smem => 0
  | _ => 0

abbrev bufTy : (tb : Table) → Fin (tcTables nBuf tb) → BufTy
  | .hbm, ⟨0, _⟩ => ⟨S26624x14336, .bf16⟩
  | .hbm, ⟨1, _⟩ => ⟨S1x8x14336x4096, .f32⟩
  | .hbm, ⟨2, _⟩ => ⟨S26, .i32⟩
  | .hbm, ⟨3, _⟩ => ⟨S26, .i32⟩
  | .hbm, ⟨4, _⟩ => ⟨S26624x14336, .f32⟩
  | .hbm, ⟨5, _⟩ => ⟨S26x1024x14336, .f32⟩
  | .hbm, ⟨6, _⟩ => ⟨S8x14336x4096, .f32⟩
  | .hbm, ⟨7, _⟩ => ⟨S_, .i32⟩
  | .hbm, ⟨8, _⟩ => ⟨S26, .i32⟩
  | .hbm, ⟨9, _⟩ => ⟨S26, .i1⟩
  | .hbm, ⟨10, _⟩ => ⟨S_, .i32⟩
  | .hbm, ⟨11, _⟩ => ⟨S26, .i32⟩
  | .hbm, ⟨12, _⟩ => ⟨S26, .i32⟩
  | .hbm, ⟨13, _⟩ => ⟨S26, .i32⟩
  | .hbm, ⟨14, _⟩ => ⟨S26x1, .i32⟩
  | .hbm, ⟨15, _⟩ => ⟨S26x14336x4096, .f32⟩
  | .hbm, ⟨16, _⟩ => ⟨S26x1024x4096, .f32⟩
  | .hbm, ⟨17, _⟩ => ⟨S1024, .i32⟩
  | .hbm, ⟨18, _⟩ => ⟨S1x1024, .i32⟩
  | .hbm, ⟨19, _⟩ => ⟨S26x1, .i32⟩
  | .hbm, ⟨20, _⟩ => ⟨S_, .i32⟩
  | .hbm, ⟨21, _⟩ => ⟨S26x1, .i32⟩
  | .hbm, ⟨22, _⟩ => ⟨S26x1, .i32⟩
  | .hbm, ⟨23, _⟩ => ⟨S26x1024, .i32⟩
  | .hbm, ⟨24, _⟩ => ⟨S26x1024, .i32⟩
  | .hbm, ⟨25, _⟩ => ⟨S26x1024, .i1⟩
  | .hbm, ⟨26, _⟩ => ⟨S26x1024x1, .i1⟩
  | .hbm, ⟨27, _⟩ => ⟨S_, .f32⟩
  | .hbm, ⟨28, _⟩ => ⟨S_, .f32⟩
  | .hbm, ⟨29, _⟩ => ⟨S26x1024x4096, .i1⟩
  | .hbm, ⟨30, _⟩ => ⟨S26x1024x4096, .f32⟩
  | .hbm, ⟨31, _⟩ => ⟨S26x1024x4096, .f32⟩
  | .hbm, ⟨32, _⟩ => ⟨S26624x32x128, .f32⟩
  | _, _ => ⟨S26624x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]
-- ==== Proof.Fox.lean ====
module

public import proofs.«01_k».proof.Proof.Gen.KernelIdeal.Value
public import proofs.«01_k».proof.Proof.Gen.ReferenceIdeal.Run
public import Idealize.ShloMosaic.Lib.Pipeline.ValueKit
public import Idealize.ShloMosaic.Lib.Claim
public import proofs.«01_k».proof.Defs

/-! The projection onto the recurrent attention's queries, keys and values (`proj_in_fox`). The scratch holds the
    transposed weight block from the first point of a column on; with that every point stores the product of its two
    blocks, and the blocks tile the result. -/

@[expose] public section

set_option maxRecDepth 16384

noncomputable section

namespace Cert.Fox

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The product the call computes: row `i 0` of the activations with column `i 1` of layer 1's weight. -/
def prod (x : FVec Ideal S9216x4096 .bf16) (w : FVec Ideal S2x4096x22536 .f32) : FVec Ideal S9216x3072 .f32 := fun i =>
  ∑ k : Fin 4096, x (ix2 (i 0) k) * w (ix3 1 k ⟨(i 1).val, lt_of_lt_of_le (i 1).isLt (by decide)⟩)

/-- Each window's block index at a point (for the weight, the element offset). -/
theorem idx : ∀ t : Fin cfg0.N, win0_0.index t = ![t.val % 9, 0] ∧ win0_1.index t = ![22536 + 512 * (t.val / 9), 0] ∧ win0_2.index t = ![t.val % 9, t.val / 9] :=
  (by decide +kernel : ∀ t : Fin grid0.N, _)

/-- Where the element window's block of point `t` lies in the transposed weight. -/
theorem weight_emb (t : Fin cfg0.N) (j : S512x4096.Idx) (a : Fin 2) :
    (((cfg0.win 1).blk t).view.emb j a).val = win0_1.index t a + (j a).val := by
  match a with
  | ⟨0, _⟩ =>
    show win0_1.index t 0 + 1 * (j 0).val = _
    rw [Nat.one_mul]; rfl
  | ⟨1, _⟩ =>
    show win0_1.index t 1 + 1 * (j 1).val = _
    rw [Nat.one_mul]; rfl

/-- The transposed weight, read at row `r` and lane `k`. -/
theorem rows (c : Dev nD) (j : S45072x4096.Idx) (k : Fin 4096) (e : Fin 22536) (l : Fin 2) (hr : (j 0).val = 22536 * l.val + e.val) (hk : (j 1).val = k.val) :
    V m c main_v1 j = m ((c : Thread nD τ).loc main_arg1) (ix3 l k e) := by
  entry_read
  pointwise
  refine congrArg (m ((c : Thread nD τ).loc main_arg1)) ?_
  have he := e.isLt
  funext a
  apply Fin.ext
  match a with
  | ⟨0, _⟩ => show (j 0).val / 22536 = l.val; omega
  | ⟨1, _⟩ => exact hk
  | ⟨2, _⟩ => show (j 0).val % 22536 = e.val; omega

/-- The weight's block of point `t`, read at row `s` and lane `k`: an entry of layer 1's weight. -/
theorem weight_block (c : Dev nD) (t : Fin cfg0.N) (s : Fin 512) (k : Fin 4096) :
    iblk m c 1 t (ix2 s k) = m ((c : Thread nD τ).loc main_arg1) (ix3 1 k ⟨512 * (t.val / 9) + s.val, by have := lt_of_lt_of_eq t.isLt N_0; omega⟩) := by
  show V m c main_v1 (((cfg0.win 1).blk t).view.emb (ix2 s k)) = _
  refine rows m c _ k _ 1 ?_ ?_
  · rw [weight_emb, (idx t).2.1]; simp; omega
  · rw [weight_emb, (idx t).2.1]; simp

/-- Points of one column share the weight's block. -/
theorem weight_same (c : Dev nD) (t t' : Fin cfg0.N) (h : t.val / 9 = t'.val / 9) : iblk m c 1 t = iblk m c 1 t' := by
  funext j
  show V m c main_v1 (((cfg0.win 1).blk t).view.emb j) = V m c main_v1 (((cfg0.win 1).blk t').view.emb j)
  refine congrArg (V m c main_v1) ?_
  funext a
  apply Fin.ext
  rw [weight_emb t j a, weight_emb t' j a, (idx t).2.1, (idx t').2.1, h]

/-- What the scratch holds after a point: the point's own weight block, transposed. -/
theorem kept (c : Dev nD) (n : ℕ) (hn : n < cfg0.N) : (outsAt0 m c n hn).2 = k0_pay1 (iblk m c 1 ⟨n, hn⟩) := by
  induction n with
  | zero => rw [outsAt0_A m c ⟨0, hn⟩ (Nat.zero_mod _)]; frame_out
  | succ n ih =>
    by_cases h : (n + 1) % 9 = 0
    · rw [outsAt0_A m c ⟨n + 1, hn⟩ h]; frame_out
    · rw [outsAt0_B m c ⟨n + 1, hn⟩ h]
      dsimp only
      unfold sout0_B_0
      show (outsAt0 m c n _).2 = _
      rw [ih, weight_same m c ⟨n, Nat.lt_of_succ_lt hn⟩ ⟨n + 1, hn⟩ (by show n / 9 = (n + 1) / 9; omega)]

/-- What a point leaves in the result's buffer: its two blocks' product. -/
theorem point (c : Dev nD) (t : Fin cfg0.N) : (outsAt0 m c t.val t.isLt).1 = k0_pay2 (iblk m c 0 t) (k0_pay1 (iblk m c 1 t)) := by
  by_cases h : t.val % 9 = 0
  · rw [outsAt0_A m c t h]; frame_out
  · rw [← kept m c t.val t.isLt]
    rw [outsAt0_B m c t h]; frame_out
    unfold sout0_B_0
    exact congrArg (k0_pay2 (iblk m c 0 t)) ((Memref.isWhole_whole _).read_unread _)

/-- The array after the run is the product. -/
theorem final (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t _ y => ?_
  blk_simp
  rw [after0_2, point]
  idx_vars y
  pointwise [k0_pay1, k0_pay2, prod, weight_block]
  blk_point [iblk, V, idx t]

/-- The reference's term is the product. -/
theorem reference (x : FVec Ideal S9216x4096 .bf16) (w : FVec Ideal S2x4096x22536 .f32) (h1) (h2) (h3) (h4) :
    extractStridedSlice Cert.ReferenceIdeal.S9216x3072 ![0, 0] (Host.dotGeneral (F := Ideal) Cert.ReferenceIdeal.dot_S9216x4096_S4096x22536_S9216x22536_1_0_0_1_n_n none (extf .f32 x h1) (shapeCast _ (extractStridedSlice Cert.ReferenceIdeal.S1x4096x22536 ![1, 0, 0] w h2) h3)) h4
    = prod x w := by
  funext j
  idx_vars j
  pointwise [prod]

/-- Every run of the kernel ends with the product in its result and with its arguments unchanged. -/
theorem run (ρ : Dev nD → PrngReg) : θ_run defs (onTc (τ := τ) (main (F := Ideal))) ⟨m, fun _ => 0, ρ⟩ fun r => ∀ c : Dev nD,
      r.2.mem ((c : Thread nD τ).loc main_v2) = prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Cert.KernelIdeal.Value.run_blocks m ρ)

/-- At exact arithmetic the kernel and the reference end with the same array. -/
theorem algebraic : Cert.algebraic_KernelIdeal_ReferenceIdeal := by
  intro m ρ m' ρ' _ hagree
  refine ⟨_, run m ρ, ?_⟩
  refine (θ_run Cert.ReferenceIdeal.defs _ _).mono (fun _ h c => ⟨?_, (h c).2⟩) (Cert.ReferenceIdeal.Value.run (F := Ideal) m' ρ')
  rw [(h c).1, (hagree c).1, (hagree c).2]
  exact reference _ _ _ _ _ _

end Cert.Fox

end
-- ==== Proof.Proj.lean ====
module

public import proofs.«01_k».proof.Proof.Gen.Kernel2Ideal.Value
public import proofs.«01_k».proof.Proof.Gen.Reference2Ideal.Run
public import Idealize.ShloMosaic.Lib.Pipeline.ValueKit
public import Idealize.ShloMosaic.Lib.Claim
public import proofs.«01_k».proof.Defs

/-! The projection onto the remaining columns (`proj_in`), by the same steps as `proj_in_fox`: the weight's rows
    now begin 3080 columns further on. -/

@[expose] public section

set_option maxRecDepth 16384

noncomputable section

namespace Cert.Proj

open Idealize.ShloMosaic Idealize.ShloMosaic.TcCoe Idealize.SL.Sem
open Idealize.ShloMosaic.Pipeline (Dat)
open Cert.Kernel2Ideal Cert.Kernel2Ideal.Gen

variable (m : (ℓ : Loc nD τ sig) → Buf (Elt Ideal) ℓ)

/-- The product the call computes: row `i 0` of the activations with column `3080 + i 1` of layer 1's weight. -/
def prod (x : FVec Ideal S9216x4096 .bf16) (w : FVec Ideal S2x4096x22536 .f32) : FVec Ideal S9216x19456 .f32 := fun i =>
  ∑ k : Fin 4096, x (ix2 (i 0) k) * w (ix3 1 k ⟨3080 + (i 1).val, Nat.add_lt_add_left (i 1).isLt 3080⟩)

/-- Each window's block index at a point (for the weight, the element offset). -/
theorem idx : ∀ t : Fin cfg0.N, win0_0.index t = ![t.val % 9, 0] ∧ win0_1.index t = ![25616 + 512 * (t.val / 9), 0] ∧ win0_2.index t = ![t.val % 9, t.val / 9] :=
  (by decide +kernel : ∀ t : Fin grid0.N, _)

/-- Where the element window's block of point `t` lies in the transposed weight. -/
theorem weight_emb (t : Fin cfg0.N) (j : S512x4096.Idx) (a : Fin 2) :
    (((cfg0.win 1).blk t).view.emb j a).val = win0_1.index t a + (j a).val := by
  match a with
  | ⟨0, _⟩ =>
    show win0_1.index t 0 + 1 * (j 0).val = _
    rw [Nat.one_mul]; rfl
  | ⟨1, _⟩ =>
    show win0_1.index t 1 + 1 * (j 1).val = _
    rw [Nat.one_mul]; rfl

/-- The transposed weight, read at row `r` and lane `k`. -/
theorem rows (c : Dev nD) (j : S45072x4096.Idx) (k : Fin 4096) (e : Fin 22536) (l : Fin 2) (hr : (j 0).val = 22536 * l.val + e.val) (hk : (j 1).val = k.val) :
    V m c main_v1 j = m ((c : Thread nD τ).loc main_arg1) (ix3 l k e) := by
  entry_read
  pointwise
  refine congrArg (m ((c : Thread nD τ).loc main_arg1)) ?_
  have he := e.isLt
  funext a
  apply Fin.ext
  match a with
  | ⟨0, _⟩ => show (j 0).val / 22536 = l.val; omega
  | ⟨1, _⟩ => exact hk
  | ⟨2, _⟩ => show (j 0).val % 22536 = e.val; omega

/-- The weight's block of point `t`, read at row `s` and lane `k`: an entry of layer 1's weight. -/
theorem weight_block (c : Dev nD) (t : Fin cfg0.N) (s : Fin 512) (k : Fin 4096) :
    iblk m c 1 t (ix2 s k) = m ((c : Thread nD τ).loc main_arg1) (ix3 1 k ⟨3080 + 512 * (t.val / 9) + s.val, by have := lt_of_lt_of_eq t.isLt N_0; omega⟩) := by
  show V m c main_v1 (((cfg0.win 1).blk t).view.emb (ix2 s k)) = _
  refine rows m c _ k _ 1 ?_ ?_
  · rw [weight_emb, (idx t).2.1]; simp; omega
  · rw [weight_emb, (idx t).2.1]; simp

/-- Points of one column share the weight's block. -/
theorem weight_same (c : Dev nD) (t t' : Fin cfg0.N) (h : t.val / 9 = t'.val / 9) : iblk m c 1 t = iblk m c 1 t' := by
  funext j
  show V m c main_v1 (((cfg0.win 1).blk t).view.emb j) = V m c main_v1 (((cfg0.win 1).blk t').view.emb j)
  refine congrArg (V m c main_v1) ?_
  funext a
  apply Fin.ext
  rw [weight_emb t j a, weight_emb t' j a, (idx t).2.1, (idx t').2.1, h]

/-- What the scratch holds after a point: the point's own weight block, transposed. -/
theorem kept (c : Dev nD) (n : ℕ) (hn : n < cfg0.N) : (outsAt0 m c n hn).2 = k0_pay1 (iblk m c 1 ⟨n, hn⟩) := by
  induction n with
  | zero => rw [outsAt0_A m c ⟨0, hn⟩ (Nat.zero_mod _)]; frame_out
  | succ n ih =>
    by_cases h : (n + 1) % 9 = 0
    · rw [outsAt0_A m c ⟨n + 1, hn⟩ h]; frame_out
    · rw [outsAt0_B m c ⟨n + 1, hn⟩ h]
      dsimp only
      unfold sout0_B_0
      show (outsAt0 m c n _).2 = _
      rw [ih, weight_same m c ⟨n, Nat.lt_of_succ_lt hn⟩ ⟨n + 1, hn⟩ (by show n / 9 = (n + 1) / 9; omega)]

/-- What a point leaves in the result's buffer: its two blocks' product. -/
theorem point (c : Dev nD) (t : Fin cfg0.N) : (outsAt0 m c t.val t.isLt).1 = k0_pay2 (iblk m c 0 t) (k0_pay1 (iblk m c 1 t)) := by
  by_cases h : t.val % 9 = 0
  · rw [outsAt0_A m c t h]; frame_out
  · rw [← kept m c t.val t.isLt]
    rw [outsAt0_B m c t h]; frame_out
    unfold sout0_B_0
    exact congrArg (k0_pay2 (iblk m c 0 t)) ((Memref.isWhole_whole _).read_unread _)

/-- The array after the run is the product. -/
theorem final (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t _ y => ?_
  blk_simp
  rw [after0_2, point]
  idx_vars y
  pointwise [k0_pay1, k0_pay2, prod, weight_block]
  blk_point [iblk, V, idx t]

/-- The reference's term is the product. -/
theorem reference (x : FVec Ideal S9216x4096 .bf16) (w : FVec Ideal S2x4096x22536 .f32) (h1) (h2) (h3) (h4) :
    extractStridedSlice Cert.Reference2Ideal.S9216x19456 ![0, 3080] (Host.dotGeneral (F := Ideal) Cert.Reference2Ideal.dot_S9216x4096_S4096x22536_S9216x22536_1_0_0_1_n_n none (extf .f32 x h1) (shapeCast _ (extractStridedSlice Cert.Reference2Ideal.S1x4096x22536 ![1, 0, 0] w h2) h3)) h4
    = prod x w := by
  funext j
  idx_vars j
  pointwise [prod]

/-- Every run of the kernel ends with the product in its result and with its arguments unchanged. -/
theorem run (ρ : Dev nD → PrngReg) : θ_run defs (onTc (τ := τ) (main (F := Ideal))) ⟨m, fun _ => 0, ρ⟩ fun r => ∀ c : Dev nD,
      r.2.mem ((c : Thread nD τ).loc main_v2) = prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Cert.Kernel2Ideal.Value.run_blocks m ρ)

/-- At exact arithmetic the kernel and the reference end with the same array. -/
theorem algebraic : Cert.algebraic_Kernel2Ideal_Reference2Ideal := by
  intro m ρ m' ρ' _ hagree
  refine ⟨_, run m ρ, ?_⟩
  refine (θ_run Cert.Reference2Ideal.defs _ _).mono (fun _ h c => ⟨?_, (h c).2⟩) (Cert.Reference2Ideal.Value.run (F := Ideal) m' ρ')
  rw [(h c).1, (hagree c).1, (hagree c).2]
  exact reference _ _ _ _ _ _

end Cert.Proj

end
-- ==== Proof.Glu.lean ====
module

public import proofs.«01_k».proof.Proof.Gen.Kernel5Ideal.Value
public import proofs.«01_k».proof.Proof.Gen.Reference5Ideal.Run
public import Idealize.ShloMosaic.Lib.Pipeline.ValueKit
public import Idealize.ShloMosaic.Lib.Claim
public import Idealize.ShloMosaic.Lib.KernelVsHost
public import proofs.«01_k».proof.Defs

/-! The dense layer's gated product (`ffn_glu`): every point stores the gated product of its blocks, and the blocks
    tile the result. The weights are padded with zero columns, where the product is zero. -/

@[expose] public section

set_option maxRecDepth 16384

noncomputable section

namespace Cert.Glu

open Idealize.ShloMosaic Idealize.ShloMosaic.TcCoe Idealize.SL.Sem
open Idealize.ShloMosaic.Pipeline (Dat)
open Cert.Kernel5Ideal Cert.Kernel5Ideal.Gen

variable (m : (ℓ : Loc nD τ sig) → Buf (Elt Ideal) ℓ)

/-- An array padded on the right only, at an index: the array on its own columns, the padding value after them. -/
theorem pad_cols {α : Type} {R C q p : Nat} (x : (⟨2, ![R, C]⟩ : Shape).Idx → α) {u : Shape} (v : u.Idx → α)
    (h : (⟨2, ![R, C]⟩ : Shape).Pads (![0, 0] : Fin 2 → Nat) ![0, p] ![0, 0] ⟨2, ![R, q]⟩) (hu : 0 < u.numel) (a : Fin R) (b : Fin q) :
    pad ⟨2, ![R, q]⟩ ![0, 0] ![0, p] ![0, 0] x v h hu (ix2 a b) = if hb : b.val < C then x (ix2 a ⟨b.val, hb⟩) else v (Shape.Idx.first hu) := by
  split
  · rename_i hb
    refine pad_apply_of_inside _ _ _ x v h hu (ix2 a b) (ix2 a ⟨b.val, hb⟩) (Fin.forall_fin_two.mpr ⟨?_, ?_⟩)
    · show a.val = 0 + a.val * (0 + 1); omega
    · show b.val = 0 + b.val * (0 + 1); omega
  · rename_i hb
    refine pad_apply_of_not_inside _ _ _ x v h hu (ix2 a b) 1 fun hin => hb ?_
    have h2 : (b.val - 0) / (0 + 1) < C := hin.2.2
    omega

/-- A weight with its padding: its own columns, then zeros. -/
def padded (w : FVec Ideal S1x4096x11008 .f32) : FVec Ideal S4096x11264 .f32 := fun i =>
  if h : (i 1).val < 11008 then w (ix3 0 (i 0) ⟨(i 1).val, h⟩) else 0

/-- A padded weight on the weight's own columns. -/
theorem padded_in (w : FVec Ideal S1x4096x11008 .f32) {e : Fin 11264} (he : e.val < 11008) (k : Fin 4096) : padded w (ix2 k e) = w (ix3 0 k ⟨e.val, he⟩) :=
  dif_pos he

/-- A padded weight on the columns of the padding. -/
theorem padded_out (w : FVec Ideal S1x4096x11008 .f32) {e : Fin 11264} (he : ¬e.val < 11008) (k : Fin 4096) : padded w (ix2 k e) = 0 :=
  dif_neg he

/-- Row `r` of the activations with column `e` of a padded weight. -/
def up (x : FVec Ideal S9216x4096 .bf16) (w : FVec Ideal S1x4096x11008 .f32) (r : Fin 9216) (e : Fin 11264) : EReal :=
  ∑ k : Fin 4096, x (ix2 r k) * padded w (ix2 k e)

/-- The gated product over the padded columns. -/
def gated (x : FVec Ideal S9216x4096 .bf16) (w1 : FVec Ideal S1x4096x11008 .f32) (w3 : FVec Ideal S1x4096x11008 .f32) : FVec Ideal S9216x11264 .bf16 := fun i =>
  up x w1 (i 0) (i 1) * Ideal.div 1 (1 + Ideal.exp (0 - up x w1 (i 0) (i 1))) * up x w3 (i 0) (i 1)

/-- `gated` at a row and a column. -/
theorem gated_at (x w1 w3) (r : Fin 9216) (e : Fin 11264) :
    gated x w1 w3 (ix2 r e) = up x w1 r e * Ideal.div 1 (1 + Ideal.exp (0 - up x w1 r e)) * up x w3 r e := rfl

/-- Each window's block index at a point. -/
theorem idx : ∀ t : Fin cfg0.N, win0_0.index t = ![t.val / 22, 0] ∧ win0_1.index t = ![0, t.val % 22] ∧ win0_2.index t = ![0, t.val % 22] ∧ win0_3.index t = ![t.val / 22, t.val % 22] :=
  (by decide +kernel : ∀ t : Fin grid0.N, _)

/-- The padding's word denotes zero. -/
theorem zero : (FloatOps.sitofp .f32 0#32 : Ideal .f32) = 0 := by
  show ((((0#32 : BitVec 32).toInt : ℤ) : ℝ) : EReal) = 0
  simp

/-- A weight without its axis of length one. -/
theorem cast_at (w : FVec Ideal S1x4096x11008 .f32) (a : Fin 4096) (e : Fin 11008) :
    shapeCast S4096x11008 w shapeCasts_S1x4096x11008_S4096x11008 (ix2 a e) = w (ix3 0 a e) := by
  pointwise

/-- The first weight's operand: the weight padded with the number 0. -/
theorem first_entry (c : Dev nD) : V m c main_v2 = (truncf .bf16 (pad S4096x11264 ![0, 0] ![0, 256] ![0, 0]
    (shapeCast S4096x11008 (m ((c : Thread nD τ).loc main_arg1) : FVec Ideal S1x4096x11008 .f32) shapeCasts_S1x4096x11008_S4096x11008) (sitofp .f32 (constantI S_ 32 0#32))
    pads_S4096x11008_S4096x11264_000_02560 h_S_) bitsLt_bf16_f32 : FVec Ideal S4096x11264 .bf16) := by
  simp only [V, hostOps0, hostOps0_1, hostOps0_2, hostOps0_3, hostOps0_4, List.flatten_cons, List.flatten_nil, List.cons_append, List.nil_append, List.append_nil]
  entry_read
  rfl

/-- The first weight's operand, entry by entry. -/
theorem first (c : Dev nD) : V m c main_v2 = padded (m ((c : Thread nD τ).loc main_arg1)) := by
  rw [first_entry]
  funext i
  idx_vars i
  refine (pad_cols _ _ pads_S4096x11008_S4096x11264_000_02560 h_S_ i0 i1).trans ?_
  unfold padded
  by_cases hi : i1.val < 11008
  · rw [dif_pos hi, dif_pos (show ((ix2 i0 i1 : S4096x11264.Idx) 1).val < 11008 from hi)]
    exact cast_at _ _ _
  · rw [dif_neg hi, dif_neg (show ¬((ix2 i0 i1 : S4096x11264.Idx) 1).val < 11008 from hi)]
    exact zero

/-- The second weight's operand: the weight padded with the number 0. -/
theorem second_entry (c : Dev nD) : V m c main_v5 = (truncf .bf16 (pad S4096x11264 ![0, 0] ![0, 256] ![0, 0]
    (shapeCast S4096x11008 (m ((c : Thread nD τ).loc main_arg2) : FVec Ideal S1x4096x11008 .f32) shapeCasts_S1x4096x11008_S4096x11008) (sitofp .f32 (constantI S_ 32 0#32))
    pads_S4096x11008_S4096x11264_000_02560 h_S_) bitsLt_bf16_f32 : FVec Ideal S4096x11264 .bf16) := by
  simp only [V, hostOps0, hostOps0_1, hostOps0_2, hostOps0_3, hostOps0_4, List.flatten_cons, List.flatten_nil, List.cons_append, List.nil_append, List.append_nil]
  entry_read
  rfl

/-- The second weight's operand, entry by entry. -/
theorem second (c : Dev nD) : V m c main_v5 = padded (m ((c : Thread nD τ).loc main_arg2)) := by
  rw [second_entry]
  funext i
  idx_vars i
  refine (pad_cols _ _ pads_S4096x11008_S4096x11264_000_02560 h_S_ i0 i1).trans ?_
  unfold padded
  by_cases hi : i1.val < 11008
  · rw [dif_pos hi, dif_pos (show ((ix2 i0 i1 : S4096x11264.Idx) 1).val < 11008 from hi)]
    exact cast_at _ _ _
  · rw [dif_neg hi, dif_neg (show ¬((ix2 i0 i1 : S4096x11264.Idx) 1).val < 11008 from hi)]
    exact zero

/-- The array after the run is the gated product. -/
theorem final (c : Dev nD) : (dats m 0 c).arrAt 3 (cfgs 0).N
    = gated (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  idx_vars y
  have h1 (x : Fin 4096) : iblk m c 1 t (ix2 x y1) = padded (m ((c : Thread nD τ).loc main_arg1)) (ix2 x (((View.whole main_v6).slice (win0_3.rect t)).emb (ix2 y0 y1) 1)) := by
    rw [← first]
    blk_simp [iblk]
    blk_ext [idx t]
  have h2 (x : Fin 4096) : iblk m c 2 t (ix2 x y1) = padded (m ((c : Thread nD τ).loc main_arg2)) (ix2 x (((View.whole main_v6).slice (win0_3.rect t)).emb (ix2 y0 y1) 1)) := by
    rw [← second]
    blk_simp [iblk]
    blk_ext [idx t]
  pointwise [k0_pay1, gated, up]
  simp only [h1, h2]
  generalize padded (m ((c : Thread nD τ).loc main_arg1)) = w1, padded (m ((c : Thread nD τ).loc main_arg2)) = w3
  blk_point [iblk, V, idx t]

/-- Every run of the kernel ends with the gated product in its result and with its arguments unchanged. -/
theorem run (ρ : Dev nD → PrngReg) : θ_run defs (onTc (τ := τ) (main (F := Ideal))) ⟨m, fun _ => 0, ρ⟩ fun r => ∀ c : Dev nD,
      r.2.mem ((c : Thread nD τ).loc main_v6) = gated (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Cert.Kernel5Ideal.Value.run_blocks m ρ)

open Cert.Reference5Ideal.Gen in
/-- The reference's gated product before its padding, at a row and a column. -/
theorem host_at (x : FVec Ideal S9216x4096 .bf16) (w1 w3 : FVec Ideal S1x4096x11008 .f32) (r : Fin 9216) (e : Fin 11008) :
    mulf (mulf
      (Host.dotGeneral Reference5Ideal.dot_S9216x4096_S4096x11008_S9216x11008_1_0_0_1_n_n none (extf .f32 x Reference5Ideal.Gen.bitsLt_bf16_f32)
        (shapeCast Reference5Ideal.S4096x11008 w1 Reference5Ideal.Gen.shapeCasts_S1x4096x11008_S4096x11008))
      (Host.divf (broadcastInDim Reference5Ideal.S9216x11008 ![] bcast_S_S9216x11008 (constant Reference5Ideal.S_ .f32 1065353216#32))
        (addf (broadcastInDim Reference5Ideal.S9216x11008 ![] bcast_S_S9216x11008 (constant Reference5Ideal.S_ .f32 1065353216#32))
          (Host.exp (Host.negf
            (Host.dotGeneral Reference5Ideal.dot_S9216x4096_S4096x11008_S9216x11008_1_0_0_1_n_n none (extf .f32 x Reference5Ideal.Gen.bitsLt_bf16_f32)
              (shapeCast Reference5Ideal.S4096x11008 w1 Reference5Ideal.Gen.shapeCasts_S1x4096x11008_S4096x11008)))))))
      (Host.dotGeneral Reference5Ideal.dot_S9216x4096_S4096x11008_S9216x11008_1_0_0_1_n_n none (extf .f32 x Reference5Ideal.Gen.bitsLt_bf16_f32)
        (shapeCast Reference5Ideal.S4096x11008 w3 Reference5Ideal.Gen.shapeCasts_S1x4096x11008_S4096x11008)) (ix2 r e)
    = (∑ k : Fin 4096, x (ix2 r k) * w1 (ix3 0 k e)) * Ideal.div 1 (1 + Ideal.exp (-∑ k : Fin 4096, x (ix2 r k) * w1 (ix3 0 k e)))
      * ∑ k : Fin 4096, x (ix2 r k) * w3 (ix3 0 k e) := by
  pointwise

/-- At exact arithmetic the kernel and the reference end with the same array. -/
theorem algebraic : Cert.algebraic_Kernel5Ideal_Reference5Ideal := by
  intro m ρ m' ρ' _ hagree
  refine ⟨_, run m ρ, ?_⟩
  refine (θ_run Cert.Reference5Ideal.defs _ _).mono (fun _ h c => ⟨?_, (h c).2⟩) (Cert.Reference5Ideal.Value.run (F := Ideal) m' ρ')
  rw [(h c).1, (hagree c).1, (hagree c).2.1, (hagree c).2.2]
  funext j
  idx_vars j
  refine (pad_cols _ _ Reference5Ideal.Gen.pads_S9216x11008_S9216x11264_000_02560 Reference5Ideal.Gen.h_S_ j0 j1).trans ?_
  by_cases hj : j1.val < 11008
  · rw [dif_pos hj]
    simp only [gated_at, up, padded_in _ hj]
    exact (host_at _ _ _ j0 ⟨j1.val, hj⟩).trans (by simp only [zero_sub])
  · rw [dif_neg hj]
    simp only [gated_at, up, padded_out _ hj, mul_zero, Finset.sum_const_zero, zero_mul]
    exact zero

end Cert.Glu

end
-- ==== Proof.Down.lean ====
module

public import proofs.«01_k».proof.Proof.Gen.Kernel6Ideal.Value
public import proofs.«01_k».proof.Proof.Gen.Reference6Ideal.Run
public import Idealize.ShloMosaic.Lib.Pipeline.ValueKit
public import Idealize.ShloMosaic.Lib.Claim
public import Idealize.ShloMosaic.Lib.KernelVsHost
public import proofs.«01_k».proof.Defs

/-! The dense layer's second product (`ffn_down`): four points in a row add up the products of their blocks, the last one adds
    the stream, and the blocks tile the result. The weight is padded with zero rows, which add nothing. -/

@[expose] public section

set_option maxRecDepth 16384

noncomputable section

namespace Cert.Down

open Idealize.ShloMosaic Idealize.ShloMosaic.TcCoe Idealize.SL.Sem
open Idealize.ShloMosaic.Pipeline (Dat)
open Cert.Kernel6Ideal Cert.Kernel6Ideal.Gen

variable (m : (ℓ : Loc nD τ sig) → Buf (Elt Ideal) ℓ)

/-- An array padded below only, at an index: the array on its own rows, the padding value after them. -/
theorem pad_rows {α : Type} {R C q p : Nat} (x : (⟨2, ![R, C]⟩ : Shape).Idx → α) {u : Shape} (v : u.Idx → α)
    (h : (⟨2, ![R, C]⟩ : Shape).Pads (![0, 0] : Fin 2 → Nat) ![p, 0] ![0, 0] ⟨2, ![q, C]⟩) (hu : 0 < u.numel) (a : Fin q) (b : Fin C) :
    pad ⟨2, ![q, C]⟩ ![0, 0] ![p, 0] ![0, 0] x v h hu (ix2 a b) = if ha : a.val < R then x (ix2 ⟨a.val, ha⟩ b) else v (Shape.Idx.first hu) := by
  split
  · rename_i ha
    refine pad_apply_of_inside _ _ _ x v h hu (ix2 a b) (ix2 ⟨a.val, ha⟩ b) (Fin.forall_fin_two.mpr ⟨?_, ?_⟩)
    · show a.val = 0 + a.val * (0 + 1); omega
    · show b.val = 0 + b.val * (0 + 1); omega
  · rename_i ha
    refine pad_apply_of_not_inside _ _ _ x v h hu (ix2 a b) 0 fun hin => ha ?_
    have h2 : (a.val - 0) / (0 + 1) < R := hin.2.2
    omega

/-- The weight with its padding: its own rows, then zeros. -/
def padded (w : FVec Ideal S1x11008x4096 .f32) : FVec Ideal S11264x4096 .f32 := fun i =>
  if h : (i 0).val < 11008 then w (ix3 0 ⟨(i 0).val, h⟩ (i 1)) else 0

/-- The sum over the padded lanes: the stream plus row `i 0` of the hidden array with column `i 1` of the padded weight. -/
def total (h : FVec Ideal S9216x11264 .bf16) (w : FVec Ideal S1x11008x4096 .f32) (x : FVec Ideal S9216x4096 .f32) : FVec Ideal S9216x4096 .f32 := fun i =>
  x (ix2 (i 0) (i 1)) + ∑ k : Fin 11264, h (ix2 (i 0) k) * padded w (ix2 k (i 1))

/-- Each window's block index at a point. -/
theorem idx : ∀ t : Fin cfg0.N, win0_0.index t = ![t.val / 16, t.val % 4] ∧ win0_1.index t = ![t.val % 4, t.val / 4 % 4]
    ∧ win0_2.index t = ![t.val / 16, t.val / 4 % 4] ∧ win0_3.index t = ![t.val / 16, t.val / 4 % 4] :=
  (by decide +kernel : ∀ t : Fin grid0.N, _)

/-- The padding's word denotes zero. -/
theorem zero : (FloatOps.sitofp .f32 0#32 : Ideal .f32) = 0 := by
  show ((((0#32 : BitVec 32).toInt : ℤ) : ℝ) : EReal) = 0
  simp

/-- The weight without its axis of length one. -/
theorem cast_at (w : FVec Ideal S1x11008x4096 .f32) (a : Fin 11008) (e : Fin 4096) :
    shapeCast S11008x4096 w shapeCasts_S1x11008x4096_S11008x4096 (ix2 a e) = w (ix3 0 a e) := by
  pointwise

/-- The weight's operand: the weight padded with the number 0. -/
theorem entry (c : Dev nD) : V m c main_v2 = (truncf .bf16 (pad S11264x4096 ![0, 0] ![256, 0] ![0, 0]
    (shapeCast S11008x4096 (m ((c : Thread nD τ).loc main_arg1) : FVec Ideal S1x11008x4096 .f32) shapeCasts_S1x11008x4096_S11008x4096) (sitofp .f32 (constantI S_ 32 0#32))
    pads_S11008x4096_S11264x4096_02560_000 h_S_) bitsLt_bf16_f32 : FVec Ideal S11264x4096 .bf16) := by
  simp only [V, hostOps0, hostOps0_1, hostOps0_2, List.flatten_cons, List.flatten_nil, List.cons_append, List.nil_append, List.append_nil]
  entry_read
  rfl

/-- The weight's operand, entry by entry. -/
theorem weight (c : Dev nD) : V m c main_v2 = padded (m ((c : Thread nD τ).loc main_arg1)) := by
  rw [entry]
  funext i
  idx_vars i
  refine (pad_rows _ _ pads_S11008x4096_S11264x4096_02560_000 h_S_ i0 i1).trans ?_
  unfold padded
  by_cases hi : i0.val < 11008
  · rw [dif_pos hi, dif_pos (show ((ix2 i0 i1 : S11264x4096.Idx) 0).val < 11008 from hi)]
    exact cast_at _ _ _
  · rw [dif_neg hi, dif_neg (show ¬((ix2 i0 i1 : S11264x4096.Idx) 0).val < 11008 from hi)]
    exact zero

/-- The first product is the blocks' product. -/
theorem first_at (v0 : Vec Ideal S1024x2816 .bf16) (v1 : Vec Ideal S2816x1024 .bf16) (j : S1024x1024.Idx) :
    k0_pay2 v0 v1 j = 0 + k0_pay1 v0 v1 j := by
  rw [zero_add]
  idx_vars j
  pointwise [k0_pay2]

/-- A later product is added to what is there. -/
theorem later_at (v0 : Vec Ideal S1024x2816 .bf16) (v1 : Vec Ideal S2816x1024 .bf16) (v : Vec Ideal S1024x1024 .f32) (j : S1024x1024.Idx) :
    k0_pay3 v0 v1 v j = v j + k0_pay1 v0 v1 j := by
  idx_vars j
  pointwise [k0_pay3]

/-- What the last point of a run holds in its accumulator: the sum of the run's products. -/
theorem acc (c : Dev nD) (t : Fin cfg0.N) (hr : t.val % 4 = 4 - 1) (j : S1024x1024.Idx) :
    (outsAt0 m c t.val t.isLt).2 j = ∑ s : Fin 4, k0_pay1 (iblk m c 0 ⟨_, Pipeline.run_point_lt_of_flush t hr s⟩) (iblk m c 1 ⟨_, Pipeline.run_point_lt_of_flush t hr s⟩) j := by
  rw [Pipeline.eq_sum_fin_of_reset_step_apply_of_flush (fun n h => (outsAt0 m c n h).2) 4 (fun _ => 0)
    (fun t j => k0_pay1 (iblk m c 0 t) (iblk m c 1 t) j)
    (fun t h j => by
      rw [outsAt0_A m c t h (by omega) (by omega)]; frame_out; rw [first_at])
    (fun t h j => by
      by_cases h2 : t.val % 4 = 3
      · rw [outsAt0_C m c t h (by omega) h2]; frame_out; rw [later_at, (Memref.isWhole_whole _).read_unread]
      · rw [outsAt0_B m c t h (by omega) h2]; frame_out; rw [later_at, (Memref.isWhole_whole _).read_unread]) t hr j, zero_add]

/-- What the last point of a run stores: its block of the stream plus its accumulator. -/
theorem stored (c : Dev nD) (t : Fin cfg0.N) (hr : t.val % 4 = 3) :
    (outsAt0 m c t.val t.isLt).1 = k0_pay4 (outsAt0 m c t.val t.isLt).2 (iblk m c 2 t) := by
  rw [outsAt0_C m c t (by omega) (by omega) hr]
  frame_out

/-- The array after the run is the sum. -/
theorem final (c : Dev nD) : (dats m 0 c).arrAt 3 (cfgs 0).N
    = total (m ((c : Thread nD τ).loc main_arg0)) (m ((c : Thread nD τ).loc main_arg1)) (m ((c : Thread nD τ).loc main_arg2)) := by
  refine (dats m 0 c).arrAt_eq_of_covers 3 _ (by decide +kernel) fun t hf y => ?_
  have hr : t.val % 4 = 3 := (flush0_3 t).mp hf
  blk_simp
  rw [after0_3, stored m c t hr]
  idx_vars y
  pointwise [k0_pay4, total]
  rw [acc m c t hr]
  refine congrArg₂ (fun a b : EReal => a + b) ?_ ?_
  · blk_point [iblk, V, idx t]
  · pointwise [k0_pay1]
    refine Fin.sum_mul_add_congr fun s k hl => ?_
    refine congrArg₂ (fun a b : EReal => a * b) ?_ ?_
    · blk_ext [iblk, V, idx ⟨_, Pipeline.run_point_lt_of_flush t hr s⟩, idx t]
    · rw [← weight]
      blk_simp [iblk]
      blk_ext [idx ⟨_, Pipeline.run_point_lt_of_flush t hr s⟩, idx t]

/-- Every run of the kernel ends with the sum in its result and with its arguments unchanged. -/
theorem run (ρ : Dev nD → PrngReg) : θ_run defs (onTc (τ := τ) (main (F := Ideal))) ⟨m, fun _ => 0, ρ⟩ fun r => ∀ c : Dev nD,
      r.2.mem ((c : Thread nD τ).loc main_v3) = total (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Cert.Kernel6Ideal.Value.run_blocks m ρ)

/-- The lanes of the padding add nothing: the sum over the padded lanes is the sum over the weight's own. -/
theorem lanes (h : FVec Ideal S9216x11264 .bf16) (w : FVec Ideal S1x11008x4096 .f32) (r : Fin 9216) (e : Fin 4096) :
    ∑ k : Fin 11264, h (ix2 r k) * padded w (ix2 k e) = ∑ k : Fin 11008, h (ix2 r (Fin.castLE (by decide) k)) * w (ix3 0 k e) := by
  refine (Fin.sum_univ_add (a := 11008) (b := 256) fun k => h (ix2 r k) * padded w (ix2 k e)).trans ?_
  have tail : ∑ k : Fin 256, h (ix2 r (Fin.natAdd 11008 k)) * padded w (ix2 (Fin.natAdd 11008 k : Fin 11264) e) = 0 :=
    Finset.sum_eq_zero fun k _ => by
      rw [show padded w (ix2 (Fin.natAdd 11008 k : Fin 11264) e) = 0 from dif_neg (not_lt.mpr (Nat.le_add_right 11008 k.val)), mul_zero]
  refine (congrArg _ tail).trans ((add_zero _).trans (Finset.sum_congr rfl fun k _ => ?_))
  exact congrArg _ (dif_pos k.isLt)

/-- `total` at a row and a column, over the weight's own lanes. -/
theorem total_at (h : FVec Ideal S9216x11264 .bf16) (w : FVec Ideal S1x11008x4096 .f32) (x : FVec Ideal S9216x4096 .f32) (r : Fin 9216) (e : Fin 4096) :
    total h w x (ix2 r e) = x (ix2 r e) + ∑ k : Fin 11008, h (ix2 r (Fin.castLE (by decide) k)) * w (ix3 0 k e) :=
  congrArg (fun b : EReal => x (ix2 r e) + b) (lanes h w r e)

open Cert.Reference6Ideal.Gen in
/-- The reference's result at a row and a column. -/
theorem host_at (h : FVec Ideal S9216x11264 .bf16) (w : FVec Ideal S1x11008x4096 .f32) (x : FVec Ideal S9216x4096 .f32) (r : Fin 9216) (e : Fin 4096) :
    addf x (Host.dotGeneral Reference6Ideal.dot_S9216x11008_S11008x4096_S9216x4096_1_0_0_1_n_n none
      (extf .f32 (extractStridedSlice Reference6Ideal.S9216x11008 ![0, 0] h slices_S9216x11264_S9216x11008_0_0) Reference6Ideal.Gen.bitsLt_bf16_f32)
      (shapeCast Reference6Ideal.S11008x4096 w Reference6Ideal.Gen.shapeCasts_S1x11008x4096_S11008x4096)) (ix2 r e)
    = x (ix2 r e) + ∑ k : Fin 11008, h (ix2 r (Fin.castLE (by decide) k)) * w (ix3 0 k e) := by
  pointwise
  rfl

/-- At exact arithmetic the kernel and the reference end with the same array. -/
theorem algebraic : Cert.algebraic_Kernel6Ideal_Reference6Ideal := by
  intro m ρ m' ρ' _ hagree
  refine ⟨_, run m ρ, ?_⟩
  refine (θ_run Cert.Reference6Ideal.defs _ _).mono (fun _ h c => ⟨?_, (h c).2⟩) (Cert.Reference6Ideal.Value.run (F := Ideal) m' ρ')
  rw [(h c).1, (hagree c).1, (hagree c).2.1, (hagree c).2.2]
  funext j
  idx_vars j
  refine Eq.trans ?_ (total_at _ _ _ j0 j1).symm
  exact host_at _ _ _ j0 j1

end Cert.Down

end
-- ==== Proof.Merge.lean ====
module

public import proofs.«01_k».proof.Proof.Gen.Kernel7Ideal.Value
public import proofs.«01_k».proof.Proof.Gen.Reference7Ideal.Run
public import Idealize.ShloMosaic.Lib.Pipeline.ValueKit
public import Idealize.ShloMosaic.Lib.Claim
public import proofs.«01_k».proof.Defs

/-! The gated merge of the three branches (`merge`): every point adds up the three gated products of its blocks, and
    the blocks tile the result. -/

@[expose] public section

set_option maxRecDepth 16384

noncomputable section

namespace Cert.Merge

open Idealize.ShloMosaic Idealize.ShloMosaic.TcCoe Idealize.SL.Sem
open Idealize.ShloMosaic.Pipeline (Dat)
open Cert.Kernel7Ideal Cert.Kernel7Ideal.Gen

variable (m : (ℓ : Loc nD τ sig) → Buf (Elt Ideal) ℓ)

/-- The gated sum: each branch's row with its weight's column, times the logistic of the branch's gate. -/
def merged (fo : FVec Ideal S9216x1024 .bf16) (po : FVec Ideal S9216x1024 .bf16) (ro : FVec Ideal S9216x2048 .bf16)
    (wf : FVec Ideal S2x1024x4096 .f32) (wp : FVec Ideal S2x1024x4096 .f32) (wr : FVec Ideal S2x2048x4096 .f32) (h : FVec Ideal S9216x19456 .f32) : FVec Ideal S9216x4096 .bf16 := fun i =>
  have e : Fin 4096 := i 1
  have g (b : Fin 3) : EReal := Ideal.logistic (h (ix2 (i 0) ⟨7168 + (b.val * 4096 + e.val), by omega⟩))
  g 0 * (∑ k : Fin 1024, fo (ix2 (i 0) k) * wf (ix3 1 k e)) + g 1 * (∑ k : Fin 1024, po (ix2 (i 0) k) * wp (ix3 1 k e))
    + g 2 * (∑ k : Fin 2048, ro (ix2 (i 0) k) * wr (ix3 1 k e))

/-- Each window's block index at a point. -/
theorem idx : ∀ t : Fin cfg0.N, win0_0.index t = ![t.val / 8, 0] ∧ win0_1.index t = ![t.val / 8, 0] ∧ win0_2.index t = ![t.val / 8, 0]
    ∧ win0_3.index t = ![0, t.val % 8] ∧ win0_4.index t = ![0, t.val % 8] ∧ win0_5.index t = ![0, t.val % 8]
    ∧ win0_6.index t = ![t.val / 8, 14 + t.val % 8] ∧ win0_7.index t = ![t.val / 8, 22 + t.val % 8] ∧ win0_8.index t = ![t.val / 8, 30 + t.val % 8]
    ∧ win0_9.index t = ![t.val / 8, t.val % 8] :=
  (by decide +kernel : ∀ t : Fin grid0.N, _)

/-- The array after the run is the gated sum. -/
theorem final (c : Dev nD) : (dats m 0 c).arrAt 9 (cfgs 0).N
    = merged (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t _ y => ?_
  blk_simp
  rw [after0_9]; frame_out
  idx_vars y
  pointwise [k0_pay1, k0_pay2, k0_pay3, merged]
  simp only [Ideal.logistic, zero_sub]
  blk_point [iblk, V, idx t]

/-- Every run of the kernel ends with the gated sum in its result and with its arguments unchanged. -/
theorem run (ρ : Dev nD → PrngReg) : θ_run defs (onTc (τ := τ) (main (F := Ideal))) ⟨m, fun _ => 0, ρ⟩ fun r => ∀ c : Dev nD,
      r.2.mem ((c : Thread nD τ).loc main_v9) = merged (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (final m c), (h c).2⟩) (Cert.Kernel7Ideal.Value.run_blocks m ρ)

/-- At exact arithmetic the kernel and the reference end with the same array. -/
theorem algebraic : Cert.algebraic_Kernel7Ideal_Reference7Ideal := by
  intro m ρ m' ρ' _ hagree
  refine ⟨_, run m ρ, ?_⟩
  refine (θ_run Cert.Reference7Ideal.defs _ _).mono (fun _ h c => ⟨?_, (h c).2⟩) (Cert.Reference7Ideal.Value.run (F := Ideal) m' ρ')
  rw [(h c).1, (hagree c).1, (hagree c).2.1, (hagree c).2.2.1, (hagree c).2.2.2.1, (hagree c).2.2.2.2.1, (hagree c).2.2.2.2.2.1, (hagree c).2.2.2.2.2.2]
  funext j
  idx_vars j
  pointwise [merged]
  simp only [Ideal.logistic]

end Cert.Merge

end
-- ==== Proof.Out.lean ====
module

public import proofs.«01_k».proof.Proof.Gen.Kernel8Ideal.Value
public import proofs.«01_k».proof.Proof.Gen.Reference8Ideal.Run
public import Idealize.ShloMosaic.Lib.Pipeline.ValueKit
public import Idealize.ShloMosaic.Lib.Claim
public import proofs.«01_k».proof.Defs

/-! The projection of the merged branches back onto the residual stream (`proj_out`): every point adds the product of
    its two blocks to its block of the stream, and the blocks tile the result. -/

@[expose] public section

set_option maxRecDepth 16384

noncomputable section

namespace Cert.Out

open Idealize.ShloMosaic Idealize.ShloMosaic.TcCoe Idealize.SL.Sem
open Idealize.ShloMosaic.Pipeline (Dat)
open Cert.Kernel8Ideal Cert.Kernel8Ideal.Gen

variable (m : (ℓ : Loc nD τ sig) → Buf (Elt Ideal) ℓ)

/-- The sum the call computes: the stream plus row `i 0` of the merged branches with column `i 1` of layer 1's weight. -/
def total (a : FVec Ideal S9216x4096 .bf16) (w : FVec Ideal S2x4096x4096 .f32) (x : FVec Ideal S9216x4096 .f32) : FVec Ideal S9216x4096 .f32 := fun i =>
  x (ix2 (i 0) (i 1)) + ∑ k : Fin 4096, a (ix2 (i 0) k) * w (ix3 1 k (i 1))

/-- Each window's block index at a point. -/
theorem idx : ∀ t : Fin cfg0.N, win0_0.index t = ![t.val / 8, 0] ∧ win0_1.index t = ![1, 0, t.val % 8] ∧ win0_2.index t = ![t.val / 8, t.val % 8] ∧ win0_3.index t = ![t.val / 8, t.val % 8] :=
  (by decide +kernel : ∀ t : Fin grid0.N, _)

/-- The array after the run is the sum. -/
theorem final (c : Dev nD) : (dats m 0 c).arrAt 3 (cfgs 0).N
    = total (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  idx_vars y
  pointwise [k0_pay1, total]
  blk_point [iblk, V, idx t]

/-- Every run of the kernel ends with the sum in its result and with its arguments unchanged. -/
theorem run (ρ : Dev nD → PrngReg) : θ_run defs (onTc (τ := τ) (main (F := Ideal))) ⟨m, fun _ => 0, ρ⟩ fun r => ∀ c : Dev nD,
      r.2.mem ((c : Thread nD τ).loc main_v0) = total (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Cert.Kernel8Ideal.Value.run_blocks m ρ)

/-- At exact arithmetic the kernel and the reference end with the same array. -/
theorem algebraic : Cert.algebraic_Kernel8Ideal_Reference8Ideal := by
  intro m ρ m' ρ' _ hagree
  refine ⟨_, run m ρ, ?_⟩
  refine (θ_run Cert.Reference8Ideal.defs _ _).mono (fun _ h c => ⟨?_, (h c).2⟩) (Cert.Reference8Ideal.Value.run (F := Ideal) m' ρ')
  rw [(h c).1, (hagree c).1, (hagree c).2.1, (hagree c).2.2]
  funext j
  idx_vars j
  pointwise [total]

end Cert.Out

end
-- ==== Proof.Query.lean ====
module

public import proofs.«01_k».proof.Proof.Gen.Kernel9Ideal.Value
public import proofs.«01_k».proof.Proof.Gen.Reference9Ideal.Run
public import Idealize.ShloMosaic.Lib.Pipeline.ValueKit
public import Idealize.ShloMosaic.Lib.Claim
public import proofs.«01_k».proof.Defs

/-! The queries of the cross attention (`xattn_q`): every point stores the product of its two blocks, and the blocks
    tile the result. -/

@[expose] public section

set_option maxRecDepth 16384

noncomputable section

namespace Cert.Query

open Idealize.ShloMosaic Idealize.ShloMosaic.TcCoe Idealize.SL.Sem
open Idealize.ShloMosaic.Pipeline (Dat)
open Cert.Kernel9Ideal Cert.Kernel9Ideal.Gen

variable (m : (ℓ : Loc nD τ sig) → Buf (Elt Ideal) ℓ)

/-- The product the call computes: row `i 0` of the operand with column `i 1` of layer 1's weight. -/
def prod (a : FVec Ideal S9216x4096 .bf16) (w : FVec Ideal S2x4096x1024 .f32) : FVec Ideal S9216x1024 .bf16 := fun i =>
  ∑ k : Fin 4096, a (ix2 (i 0) k) * w (ix3 1 k (i 1))

/-- Each window's block index at a point. -/
theorem idx : ∀ t : Fin cfg0.N, win0_0.index t = ![t.val / 2, 0] ∧ win0_1.index t = ![1, 0, t.val % 2] ∧ win0_2.index t = ![t.val / 2, t.val % 2] :=
  (by decide +kernel : ∀ t : Fin grid0.N, _)

/-- The array after the run is the product. -/
theorem final (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t _ y => ?_
  blk_simp
  rw [after0_2]; frame_out
  idx_vars y
  pointwise [k0_pay1, prod]
  blk_point [iblk, V, idx t]

/-- Every run of the kernel ends with the product in its result and with its arguments unchanged. -/
theorem run (ρ : Dev nD → PrngReg) : θ_run defs (onTc (τ := τ) (main (F := Ideal))) ⟨m, fun _ => 0, ρ⟩ fun r => ∀ c : Dev nD,
      r.2.mem ((c : Thread nD τ).loc main_v0) = prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Cert.Kernel9Ideal.Value.run_blocks m ρ)

/-- At exact arithmetic the kernel and the reference end with the same array. -/
theorem algebraic : Cert.algebraic_Kernel9Ideal_Reference9Ideal := by
  intro m ρ m' ρ' _ hagree
  refine ⟨_, run m ρ, ?_⟩
  refine (θ_run Cert.Reference9Ideal.defs _ _).mono (fun _ h c => ⟨?_, (h c).2⟩) (Cert.Reference9Ideal.Value.run (F := Ideal) m' ρ')
  rw [(h c).1, (hagree c).1, (hagree c).2]
  funext j
  idx_vars j
  pointwise [prod]

end Cert.Query

end
-- ==== Proof.Attend.lean ====
module

public import proofs.«01_k».proof.Proof.Gen.Kernel10Ideal.Value
public import proofs.«01_k».proof.Proof.Gen.Reference10Ideal.Run
public import Idealize.ShloMosaic.Lib.Pipeline.ValueKit
public import Idealize.ShloMosaic.Lib.Claim
public import proofs.«01_k».proof.Defs

/-! The cross attention's output projection (`xattn_out`): every point adds the product of its two blocks to its block
    of the stream, and the blocks tile the result. -/

@[expose] public section

set_option maxRecDepth 16384

noncomputable section

namespace Cert.Attend

open Idealize.ShloMosaic Idealize.ShloMosaic.TcCoe Idealize.SL.Sem
open Idealize.ShloMosaic.Pipeline (Dat)
open Cert.Kernel10Ideal Cert.Kernel10Ideal.Gen

variable (m : (ℓ : Loc nD τ sig) → Buf (Elt Ideal) ℓ)

/-- The sum the call computes: the stream plus row `i 0` of the operand with column `i 1` of layer 1's weight. -/
def total (a : FVec Ideal S9216x1024 .bf16) (w : FVec Ideal S2x1024x4096 .f32) (x : FVec Ideal S9216x4096 .f32) : FVec Ideal S9216x4096 .f32 := fun i =>
  x (ix2 (i 0) (i 1)) + ∑ k : Fin 1024, a (ix2 (i 0) k) * w (ix3 1 k (i 1))

/-- Each window's block index at a point. -/
theorem idx : ∀ t : Fin cfg0.N, win0_0.index t = ![t.val / 8, 0] ∧ win0_1.index t = ![1, 0, t.val % 8] ∧ win0_2.index t = ![t.val / 8, t.val % 8] ∧ win0_3.index t = ![t.val / 8, t.val % 8] :=
  (by decide +kernel : ∀ t : Fin grid0.N, _)

/-- The array after the run is the sum. -/
theorem final (c : Dev nD) : (dats m 0 c).arrAt 3 (cfgs 0).N
    = total (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  idx_vars y
  pointwise [k0_pay1, total]
  blk_point [iblk, V, idx t]

/-- Every run of the kernel ends with the sum in its result and with its arguments unchanged. -/
theorem run (ρ : Dev nD → PrngReg) : θ_run defs (onTc (τ := τ) (main (F := Ideal))) ⟨m, fun _ => 0, ρ⟩ fun r => ∀ c : Dev nD,
      r.2.mem ((c : Thread nD τ).loc main_v0) = total (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Cert.Kernel10Ideal.Value.run_blocks m ρ)

/-- At exact arithmetic the kernel and the reference end with the same array. -/
theorem algebraic : Cert.algebraic_Kernel10Ideal_Reference10Ideal := by
  intro m ρ m' ρ' _ hagree
  refine ⟨_, run m ρ, ?_⟩
  refine (θ_run Cert.Reference10Ideal.defs _ _).mono (fun _ h c => ⟨?_, (h c).2⟩) (Cert.Reference10Ideal.Value.run (F := Ideal) m' ρ')
  rw [(h c).1, (hagree c).1, (hagree c).2.1, (hagree c).2.2]
  funext j
  idx_vars j
  pointwise [total]

end Cert.Attend

end
-- ==== Proof.Memory.lean ====
module

public import proofs.«01_k».proof.Proof.Gen.Kernel11Ideal.Value
public import proofs.«01_k».proof.Proof.Gen.Reference11Ideal.Run
public import Idealize.ShloMosaic.Lib.Pipeline.ValueKit
public import Idealize.ShloMosaic.Lib.Claim
public import proofs.«01_k».proof.Defs

/-! The cross attention's keys and values (`mem_k`, `mem_v`: one call, applied with two weights): every point stores the
    product of its two blocks, and the blocks tile the result. -/

@[expose] public section

set_option maxRecDepth 16384

noncomputable section

namespace Cert.Memory

open Idealize.ShloMosaic Idealize.ShloMosaic.TcCoe Idealize.SL.Sem
open Idealize.ShloMosaic.Pipeline (Dat)
open Cert.Kernel11Ideal Cert.Kernel11Ideal.Gen

variable (m : (ℓ : Loc nD τ sig) → Buf (Elt Ideal) ℓ)

/-- The product the call computes: row `i 0` of the operand with column `i 1` of layer 1's weight. -/
def prod (a : FVec Ideal S512x4096 .bf16) (w : FVec Ideal S2x4096x1024 .f32) : FVec Ideal S512x1024 .f32 := fun i =>
  ∑ k : Fin 4096, a (ix2 (i 0) k) * w (ix3 1 k (i 1))

/-- Each window's block index at a point. -/
theorem idx : ∀ t : Fin cfg0.N, win0_0.index t = ![t.val / 2, 0] ∧ win0_1.index t = ![1, 0, t.val % 2] ∧ win0_2.index t = ![t.val / 2, t.val % 2] :=
  (by decide +kernel : ∀ t : Fin grid0.N, _)

/-- The array after the run is the product. -/
theorem final (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t _ y => ?_
  blk_simp
  rw [after0_2]; frame_out
  idx_vars y
  pointwise [k0_pay1, prod]
  blk_point [iblk, V, idx t]

/-- Every run of the kernel ends with the product in its result and with its arguments unchanged. -/
theorem run (ρ : Dev nD → PrngReg) : θ_run defs (onTc (τ := τ) (main (F := Ideal))) ⟨m, fun _ => 0, ρ⟩ fun r => ∀ c : Dev nD,
      r.2.mem ((c : Thread nD τ).loc main_v0) = prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Cert.Kernel11Ideal.Value.run_blocks m ρ)

/-- At exact arithmetic the kernel and the reference end with the same array. -/
theorem algebraic : Cert.algebraic_Kernel11Ideal_Reference11Ideal := by
  intro m ρ m' ρ' _ hagree
  refine ⟨_, run m ρ, ?_⟩
  refine (θ_run Cert.Reference11Ideal.defs _ _).mono (fun _ h c => ⟨?_, (h c).2⟩) (Cert.Reference11Ideal.Value.run (F := Ideal) m' ρ')
  rw [(h c).1, (hagree c).1, (hagree c).2]
  funext j
  idx_vars j
  pointwise [prod]

end Cert.Memory

end
-- ==== Proof.NormPrompt.lean ====
module

public import proofs.«01_k».proof.Proof.Gen.Kernel12Ideal.Value
public import proofs.«01_k».proof.Proof.Gen.Reference12Ideal.Run
public import Idealize.ShloMosaic.Lib.Pipeline.ValueKit
public import Idealize.ShloMosaic.Lib.Claim
public import proofs.«01_k».proof.Defs

/-! The final normalisation of the rows 0 to 8191: every point normalises its 256 rows, and the blocks tile the result. -/

@[expose] public section

set_option maxRecDepth 16384

noncomputable section

namespace Cert.NormPrompt

open Idealize.ShloMosaic Idealize.ShloMosaic.TcCoe Idealize.SL.Sem
open Idealize.ShloMosaic.Pipeline (Dat)
open Cert.Kernel12Ideal Cert.Kernel12Ideal.Gen

variable (m : (ℓ : Loc nD τ sig) → Buf (Elt Ideal) ℓ)

/-- The normalised row: `x` over the root of its mean square plus the constant, times the gain. -/
def normed (x : FVec Ideal S9216x4096 .f32) (g : FVec Ideal S4096 .f32) : FVec Ideal S8192x4096 .f32 := fun i =>
  have r : Fin 9216 := ⟨0 + (i 0).val, lt_of_lt_of_le (Nat.add_lt_add_left (i 0).isLt 0) (by decide)⟩
  x (ix2 r (i 1)) * Ideal.rsqrt (Ideal.div (∑ k : Fin 4096, x (ix2 r k) * x (ix2 r k)) (Ideal.ofBits .f32 0x45800000#32) + Ideal.ofBits .f32 0x358637BD#32) * g (ix1 (i 1))

/-- Each window's block index at a point. -/
theorem idx : ∀ t : Fin cfg0.N, win0_0.index t = ![0 + t.val, 0] ∧ win0_1.index t = ![0, 0] ∧ win0_2.index t = ![t.val, 0] :=
  (by decide +kernel : ∀ t : Fin grid0.N, _)

/-- The array after the run is the normalised rows. -/
theorem final (c : Dev nD) : (dats m 0 c).arrAt 2 (cfgs 0).N
    = normed (m ((c : Thread nD τ).loc main_arg0)) (m ((c : Thread nD τ).loc main_arg1)) := by
  refine (dats m 0 c).arrAt_eq_of_covers 2 _ (by decide +kernel) fun t _ y => ?_
  blk_simp
  rw [after0_2]; frame_out
  idx_vars y
  pointwise [k0_pay1, normed]
  blk_point [iblk, V, idx t]

/-- Every run of the kernel ends with the normalised rows in its result and with its arguments unchanged. -/
theorem run (ρ : Dev nD → PrngReg) : θ_run defs (onTc (τ := τ) (main (F := Ideal))) ⟨m, fun _ => 0, ρ⟩ fun r => ∀ c : Dev nD,
      r.2.mem ((c : Thread nD τ).loc main_v1) = normed (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Cert.Kernel12Ideal.Value.run_blocks m ρ)

/-- At exact arithmetic the kernel and the reference end with the same array. -/
theorem algebraic : Cert.algebraic_Kernel12Ideal_Reference12Ideal := by
  intro m ρ m' ρ' _ hagree
  refine ⟨_, run m ρ, ?_⟩
  refine (θ_run Cert.Reference12Ideal.defs _ _).mono (fun _ h c => ⟨?_, (h c).2⟩) (Cert.Reference12Ideal.Value.run (F := Ideal) m' ρ')
  rw [(h c).1, (hagree c).1, (hagree c).2]
  funext j
  idx_vars j
  pointwise [normed]

end Cert.NormPrompt

end
-- ==== Proof.NormSample.lean ====
module

public import proofs.«01_k».proof.Proof.Gen.Kernel13Ideal.Value
public import proofs.«01_k».proof.Proof.Gen.Reference13Ideal.Run
public import Idealize.ShloMosaic.Lib.Pipeline.ValueKit
public import Idealize.ShloMosaic.Lib.Claim
public import proofs.«01_k».proof.Defs

/-! The final normalisation of the rows 8192 to 9215: every point normalises its 256 rows, and the blocks tile the result. -/

@[expose] public section

set_option maxRecDepth 16384

noncomputable section

namespace Cert.NormSample

open Idealize.ShloMosaic Idealize.ShloMosaic.TcCoe Idealize.SL.Sem
open Idealize.ShloMosaic.Pipeline (Dat)
open Cert.Kernel13Ideal Cert.Kernel13Ideal.Gen

variable (m : (ℓ : Loc nD τ sig) → Buf (Elt Ideal) ℓ)

/-- The normalised row: `x` over the root of its mean square plus the constant, times the gain. -/
def normed (x : FVec Ideal S9216x4096 .f32) (g : FVec Ideal S4096 .f32) : FVec Ideal S1024x4096 .f32 := fun i =>
  have r : Fin 9216 := ⟨8192 + (i 0).val, lt_of_lt_of_le (Nat.add_lt_add_left (i 0).isLt 8192) (by decide)⟩
  x (ix2 r (i 1)) * Ideal.rsqrt (Ideal.div (∑ k : Fin 4096, x (ix2 r k) * x (ix2 r k)) (Ideal.ofBits .f32 0x45800000#32) + Ideal.ofBits .f32 0x358637BD#32) * g (ix1 (i 1))

/-- Each window's block index at a point. -/
theorem idx : ∀ t : Fin cfg0.N, win0_0.index t = ![32 + t.val, 0] ∧ win0_1.index t = ![0, 0] ∧ win0_2.index t = ![t.val, 0] :=
  (by decide +kernel : ∀ t : Fin grid0.N, _)

/-- The array after the run is the normalised rows. -/
theorem final (c : Dev nD) : (dats m 0 c).arrAt 2 (cfgs 0).N
    = normed (m ((c : Thread nD τ).loc main_arg0)) (m ((c : Thread nD τ).loc main_arg1)) := by
  refine (dats m 0 c).arrAt_eq_of_covers 2 _ (by decide +kernel) fun t _ y => ?_
  blk_simp
  rw [after0_2]; frame_out
  idx_vars y
  pointwise [k0_pay1, normed]
  blk_point [iblk, V, idx t]

/-- Every run of the kernel ends with the normalised rows in its result and with its arguments unchanged. -/
theorem run (ρ : Dev nD → PrngReg) : θ_run defs (onTc (τ := τ) (main (F := Ideal))) ⟨m, fun _ => 0, ρ⟩ fun r => ∀ c : Dev nD,
      r.2.mem ((c : Thread nD τ).loc main_v1) = normed (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Cert.Kernel13Ideal.Value.run_blocks m ρ)

/-- At exact arithmetic the kernel and the reference end with the same array. -/
theorem algebraic : Cert.algebraic_Kernel13Ideal_Reference13Ideal := by
  intro m ρ m' ρ' _ hagree
  refine ⟨_, run m ρ, ?_⟩
  refine (θ_run Cert.Reference13Ideal.defs _ _).mono (fun _ h c => ⟨?_, (h c).2⟩) (Cert.Reference13Ideal.Value.run (F := Ideal) m' ρ')
  rw [(h c).1, (hagree c).1, (hagree c).2]
  funext j
  idx_vars j
  pointwise [normed]

end Cert.NormSample

end
-- ==== Proof.Forget.lean ====
module

public import proofs.«01_k».proof.Proof.Gen.Kernel14Ideal.Frame
public import proofs.«01_k».proof.Proof.Gen.Reference14Ideal.Run
public import Idealize.ShloMosaic.Lib.Pipeline.ValueKit
public import Idealize.ShloMosaic.Lib.Routing.OpsOne
public import Idealize.ShloMosaic.Lib.Claim
public import proofs.«01_k».proof.Defs

/-! The logarithms of the recurrent attention's forget gates (`logf`): every point takes the log-sigmoid of its 1024 rows' products with the
    eight gate columns of the weight, to which the bias is added. The host writes the columns and the bias into arrays of zeros with 128
    columns, and keeps the first eight columns of what the call returns. -/

@[expose] public section

set_option maxRecDepth 16384

noncomputable section

namespace Cert.Forget

open Idealize.ShloMosaic Idealize.ShloMosaic.TcCoe Idealize.SL.Sem
open Idealize.ShloMosaic.Pipeline (Dat)
open Idealize.ShloMosaic.Routing
open Cert.Kernel14Ideal Cert.Kernel14Ideal.Gen

variable (m : (ℓ : Loc nD τ sig) → Buf (Elt Ideal) ℓ)

/-- The size of a number. -/
def size (z : EReal) : EReal := max z (-z)

/-- The log-sigmoid: the smaller of `z` and 0, less the logarithm of 1 plus the exponential of the negated size of `z`. -/
def gate (z : EReal) : EReal := min z 0 - Ideal.log1p (Ideal.exp (0 - size z))

/-- The logarithm of 1 plus a nonnegative real number is a real number. -/
theorem log1p_real (x : ℝ) (hx : 0 ≤ x) : ∃ r : ℝ, Ideal.log1p (x : EReal) = (r : EReal) := by
  refine ⟨Real.log (1 + x), ?_⟩
  unfold Ideal.log1p
  rw [show (1 : EReal) + (x : EReal) = ((1 + x : ℝ) : EReal) from (EReal.coe_add 1 x).symm]
  exact if_neg (by linarith)

/-- The logarithm of 1 plus an exponential of a negated size is a real number. -/
theorem soft (z : EReal) : ∃ r : ℝ, Ideal.log1p (Ideal.exp (0 - size z)) = (r : EReal) := by
  induction z with
  | bot =>
    rw [show size ⊥ = ⊤ by simp [size]]
    exact log1p_real 0 le_rfl
  | top =>
    rw [show size ⊤ = ⊤ by simp [size]]
    exact log1p_real 0 le_rfl
  | coe x =>
    rw [show (0 : EReal) - size (x : EReal) = ((-(max x (-x)) : ℝ) : EReal) by rw [zero_sub, size, ← EReal.coe_neg, ← EReal.coe_strictMono.monotone.map_max, ← EReal.coe_neg]]
    exact log1p_real _ (Real.exp_nonneg _)

/-- The log-sigmoid in its other form: the negated sum of the larger of `-z` and 0 and the same logarithm. -/
theorem gate_eq (z : EReal) : -(max (-z) 0 + Ideal.log1p (Ideal.exp (-(size (-z - 0))))) = gate z := by
  have hz : -(size (-z - 0)) = 0 - size z := by rw [sub_zero, zero_sub, size, size, neg_neg, max_comm]
  obtain ⟨r, hr⟩ := soft z
  unfold gate
  rw [hz, hr, EReal.neg_add (.inr (EReal.coe_ne_top r)) (.inr (EReal.coe_ne_bot r))]
  congr 1
  rcases le_total z 0 with h | h
  · rw [min_eq_left h, max_eq_left (EReal.neg_nonneg.2 h), neg_neg]
  · rw [min_eq_right h, max_eq_right (by simpa using EReal.neg_le_neg_iff.2 h), neg_zero]

/-- The other form as the reference has it, with its case for a `z` that does not equal itself, which is none. -/
theorem other (z : Ideal .f32) :
    -(if -z ≠ -z then -z else max (-z) 0 + Ideal.log1p (Ideal.exp (-(FloatOps.absf (-z : Ideal .f32))))) = gate z := by
  rw [if_neg (not_not.2 rfl), ← gate_eq z, sub_zero]
  rfl

/-- An update of eight columns, written at column 0, at one of these columns: the update's entry. -/
theorem columns {α : Type} (x : S4096x128.Idx → α) (i : IVec S1 32) (hi : i (ix1 0) = 0#32) (u : S4096x8.Idx → α) (r : Fin 4096) (e : Fin 8) :
    Host.scatter scatter_S4096x128_S1_S4096x8_01_n_1_0 (fun _ b => b) x i u (ix2 r (⟨e.val, by omega⟩ : Fin 128)) = u (ix2 r e) := by
  have hs : ∀ k : S4096x8.Idx, scatter_S4096x128_S1_S4096x8_01_n_1_0.start k i 1 = 0 := fun k => by
    unfold ScatterDims.start
    rw [dif_pos (by decide)]
    refine (congrArg (fun t => (i t).toInt) (?_ : _ = ix1 0)).trans (by rw [hi]; rfl)
    funext b
    match b with
    | ⟨0, _⟩ => exact Subsingleton.elim (α := Fin 1) _ _
  have hl : ∀ k : S4096x8.Idx, scatter_S4096x128_S1_S4096x8_01_n_1_0.resultIdx? k i = some (ix2 r (⟨e.val, by omega⟩ : Fin 128)) ↔ (k 0).val = r.val ∧ (k 1).val = e.val := fun k => by
    refine (resultIdx?_ix2 _ k i r (⟨e.val, by omega⟩ : Fin 128)).trans ?_
    rw [hs, show scatter_S4096x128_S1_S4096x8_01_n_1_0.start k i 0 = 0 from dif_neg (by decide),
      show scatter_S4096x128_S1_S4096x8_01_n_1_0.window k 0 = (k 0).val from rfl, show scatter_S4096x128_S1_S4096x8_01_n_1_0.window k 1 = (k 1).val from rfl]
    show ((0 : Int) + ((k 0).val : Int) = (r.val : Int) ∧ (0 : Int) + ((k 1).val : Int) = (e.val : Int)) ↔ _
    omega
  refine scatter_set_hit _ x i u _ _ (fun k hk => ?_) (ix2 r e) ((hl _).2 ⟨rfl, rfl⟩)
  have h := (hl k).1 hk
  rw [eq_ix2 k, Fin.ext h.1, Fin.ext h.2]

/-- An update of eight entries, written into a row at column 0, at one of these columns: the update's entry. -/
theorem entries {α : Type} (x : S1x128.Idx → α) (i : IVec S2 32) (hi : ∀ q : Fin 2, i (ix1 q) = 0#32) (u : S8.Idx → α) (r : Fin 1) (e : Fin 8) :
    Host.scatter scatter_S1x128_S2_S8_0_0_01_0 (fun _ b => b) x i u (ix2 r (⟨e.val, by omega⟩ : Fin 128)) = u (ix1 e) := by
  have hl : ∀ k : S8.Idx, scatter_S1x128_S2_S8_0_0_01_0.resultIdx? k i = some (ix2 r (⟨e.val, by omega⟩ : Fin 128)) ↔ (k 0).val = e.val := fun k => by
    refine (resultIdx?_ix2 _ k i r (⟨e.val, by omega⟩ : Fin 128)).trans ?_
    rw [show scatter_S1x128_S2_S8_0_0_01_0.start k i 0 = 0 from (start_pair _ rfl rfl i k 0).trans (congrArg BitVec.toInt (hi 0)),
      show scatter_S1x128_S2_S8_0_0_01_0.start k i 1 = 0 from (start_pair _ rfl rfl i k 1).trans (congrArg BitVec.toInt (hi 1)), show scatter_S1x128_S2_S8_0_0_01_0.window k 0 = 0 from rfl, show scatter_S1x128_S2_S8_0_0_01_0.window k 1 = (k 0).val from rfl]
    show ((0 : Int) + ((0 : ℕ) : Int) = (r.val : Int) ∧ (0 : Int) + ((k 0).val : Int) = (e.val : Int)) ↔ _
    omega
  refine scatter_set_hit _ x i u _ _ (fun k hk => ?_) (ix1 e) ((hl _).2 rfl)
  exact congrArg u ((ValueIdx.eq_ix1 k).trans (congrArg ix1 (Fin.ext ((hl k).1 hk))))

/-- The first operand: the gate columns, written into zeros. -/
theorem weight_entry (c : Dev nD) : ∃ x i, i (ix1 0) = 0#32 ∧ V m c main_v8 = (Host.scatter scatter_S4096x128_S1_S4096x8_01_n_1_0 (fun _ b => b) x i
    (transpose S4096x8 [1, 0] (extractStridedSlice S8x4096 ![25608, 0] (shapeCast S45072x4096 (transpose S2x22536x4096 [0, 2, 1] (m ((c : Thread nD τ).loc main_arg1) : FVec Ideal S2x4096x22536 .f32)
      transposes_S2x4096x22536_S2x22536x4096_0_2_1) shapeCasts_S2x22536x4096_S45072x4096) slices_S45072x4096_S8x4096_25608_0) transposes_S8x4096_S4096x8_1_0) : FVec Ideal S4096x128 .f32) := by
  refine ⟨broadcastInDim S4096x128 ![] bcast_S_S4096x128 (constant S_ .f32 0x00000000#32), broadcastInDim S1 ![] bcast_S_S1 (constantI S_ 32 0#32), rfl, ?_⟩
  show StableHlo.after hostOps0 (fun b => m (c, b)) (Proc.tc.devRef main_v8) = _
  after_results
  rfl

/-- The first operand at one of its first eight columns: the gate column's entry. -/
theorem weight (c : Dev nD) (k : Fin 4096) (e : Fin 8) :
    V m c main_v8 (ix2 k (⟨e.val, by omega⟩ : Fin 128)) = m ((c : Thread nD τ).loc main_arg1) (ix3 1 k (⟨3072 + e.val, by omega⟩ : Fin 22536)) := by
  obtain ⟨x, i, hi, h⟩ := weight_entry m c
  rw [h]
  refine (columns x i hi _ k e).trans ?_
  pointwise
  refine congrArg (m ((c : Thread nD τ).loc main_arg1)) ?_
  have he := e.isLt
  funext a
  apply Fin.ext
  match a with
  | ⟨0, _⟩ => show (25608 + e.val) / 22536 = 1; omega
  | ⟨1, _⟩ => rfl
  | ⟨2, _⟩ => show (25608 + e.val) % 22536 = 3072 + e.val; omega

/-- The second operand: the biases, written into zeros. -/
theorem bias_entry (c : Dev nD) : ∃ x i, (∀ q : Fin 2, i (ix1 q) = 0#32) ∧ V m c main_v13 = (Host.scatter scatter_S1x128_S2_S8_0_0_01_0 (fun _ b => b) x i
    (shapeCast S8 (extractStridedSlice S1x8 ![1, 0] (m ((c : Thread nD τ).loc main_arg2) : FVec Ideal S2x8 .f32) slices_S2x8_S1x8_1_0) shapeCasts_S1x8_S8) : FVec Ideal S1x128 .f32) := by
  refine ⟨broadcastInDim S1x128 ![] bcast_S_S1x128 (constant S_ .f32 0x00000000#32), concatenate S2 0 [⟨S1, broadcastInDim S1 ![] bcast_S_S1 (constantI S_ 32 0#32)⟩,
    ⟨S1, broadcastInDim S1 ![] bcast_S_S1 (constantI S_ 32 0#32)⟩] concatenates_S1_S1_S2_d0, fun q => by fin_cases q <;> rfl, ?_⟩
  entry_read
  rfl

/-- The second operand at one of its first eight columns: the gate's bias. -/
theorem bias (c : Dev nD) (e : Fin 8) :
    V m c main_v13 (ix2 0 (⟨e.val, by omega⟩ : Fin 128)) = m ((c : Thread nD τ).loc main_arg2) (ix2 1 e) := by
  obtain ⟨x, i, hi, h⟩ := bias_entry m c
  rw [h]
  refine (entries x i hi _ 0 e).trans ?_
  pointwise

/-- The gates: row `i 0` of the activations with the gate's column of layer 1's weight, its bias added, under the log-sigmoid. -/
def gates (x : FVec Ideal S9216x4096 .bf16) (w : FVec Ideal S2x4096x22536 .f32) (b : FVec Ideal S2x8 .f32) : FVec Ideal S9216x8 .f32 := fun i =>
  gate ((∑ k : Fin 4096, x (ix2 (i 0) k) * w (ix3 1 k ⟨3072 + (i 1).val, Nat.add_lt_add_left (lt_of_lt_of_le (i 1).isLt (by decide : 8 ≤ 19464)) 3072⟩)) + b (ix2 1 (i 1)))

/-- What the call returns, from its operands. -/
def wide (x : FVec Ideal S9216x4096 .bf16) (w : FVec Ideal S4096x128 .f32) (b : FVec Ideal S1x128 .f32) : FVec Ideal S9216x128 .f32 := fun i =>
  gate ((∑ k : Fin 4096, x (ix2 (i 0) k) * w (ix2 k (i 1))) + b (ix2 0 (i 1)))

/-- Each window's block index at a point. -/
theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

/-- What a point stores, entry by entry. -/
theorem pay (x : Vec Ideal S1024x4096 .bf16) (w : Vec Ideal S4096x128 .f32) (b : Vec Ideal S1x128 .f32) (r : Fin 1024) (e : Fin 128) :
    k0_pay1 x w b (ix2 r e) = gate ((∑ k : Fin 4096, x (ix2 r k) * w (ix2 k e)) + b (ix2 0 e)) := by
  pointwise [k0_pay1, gate, size]
  rfl

/-- The activations' block of point `t`: its 1024 rows. -/
theorem rows (c : Dev nD) (t : Fin cfg0.N) (r : Fin 1024) (k : Fin 4096) :
    iblk m c 0 t (ix2 r k) = V m c main_arg0 (ix2 (⟨1024 * t.val + r.val, by have := lt_of_lt_of_eq t.isLt N_0; omega⟩ : Fin 9216) k) := by
  show V m c main_arg0 (((cfg0.win 0).blk t).view.emb (ix2 r k)) = _
  refine congrArg (V m c main_arg0) ?_
  funext a
  apply Fin.ext
  match a with
  | ⟨0, _⟩ =>
    show win0_0.index t 0 * 1024 + 1 * r.val = 1024 * t.val + r.val
    rw [(idx t).1]; show t.val * 1024 + 1 * r.val = _; omega
  | ⟨1, _⟩ =>
    show win0_0.index t 1 * 4096 + 1 * k.val = k.val
    rw [(idx t).1]; show 0 * 4096 + 1 * k.val = _; omega

/-- The first operand's block of a point: the whole array. -/
theorem weight_block (c : Dev nD) (t : Fin cfg0.N) (k : Fin 4096) (e : Fin 128) : iblk m c 1 t (ix2 k e) = V m c main_v8 (ix2 k e) := by
  show V m c main_v8 (((cfg0.win 1).blk t).view.emb (ix2 k e)) = _
  refine congrArg (V m c main_v8) ?_
  funext a
  apply Fin.ext
  match a with
  | ⟨0, _⟩ =>
    show win0_1.index t 0 * 4096 + 1 * k.val = k.val
    rw [(idx t).2.1]; show 0 * 4096 + 1 * k.val = _; omega
  | ⟨1, _⟩ =>
    show win0_1.index t 1 * 128 + 1 * e.val = e.val
    rw [(idx t).2.1]; show 0 * 128 + 1 * e.val = _; omega

/-- The second operand's block of a point: the whole array. -/
theorem bias_block (c : Dev nD) (t : Fin cfg0.N) (e : Fin 128) : iblk m c 2 t (ix2 0 e) = V m c main_v13 (ix2 0 e) := by
  show V m c main_v13 (((cfg0.win 2).blk t).view.emb (ix2 0 e)) = _
  refine congrArg (V m c main_v13) ?_
  funext a
  apply Fin.ext
  match a with
  | ⟨0, _⟩ =>
    show win0_2.index t 0 * 1 + 1 * 0 = 0
    rw [(idx t).2.2.1]; rfl
  | ⟨1, _⟩ =>
    show win0_2.index t 1 * 128 + 1 * e.val = e.val
    rw [(idx t).2.2.1]; show 0 * 128 + 1 * e.val = _; omega

/-- Where a point's block of the result lies. -/
theorem result_emb (t : Fin cfg0.N) (r : Fin 1024) (e : Fin 128) :
    ((cfg0.win 3).blk t).view.emb (ix2 r e) = (ix2 (⟨1024 * t.val + r.val, by have := lt_of_lt_of_eq t.isLt N_0; omega⟩ : Fin 9216) e : S9216x128.Idx) := by
  funext a
  apply Fin.ext
  match a with
  | ⟨0, _⟩ =>
    show win0_3.index t 0 * 1024 + 1 * r.val = 1024 * t.val + r.val
    rw [(idx t).2.2.2]; show t.val * 1024 + 1 * r.val = _; omega
  | ⟨1, _⟩ =>
    show win0_3.index t 1 * 128 + 1 * e.val = e.val
    rw [(idx t).2.2.2]; show 0 * 128 + 1 * e.val = _; omega

/-- The array the call returns. -/
theorem final (c : Dev nD) : (dats m 0 c).arrAt 3 (cfgs 0).N = wide (V m c main_arg0) (V m c main_v8) (V m c main_v13) := by
  refine (dats m 0 c).arrAt_eq_of_covers 3 _ (by decide +kernel) fun t _ y => ?_
  blk_simp
  rw [after0_3]; frame_out
  idx_vars y
  rw [pay]
  refine Eq.trans ?_ (congrArg (wide (V m c main_arg0) (V m c main_v8) (V m c main_v13)) (result_emb t y0 y1)).symm
  exact congrArg gate (congrArg₂ (· + ·) (Finset.sum_congr rfl fun k _ => congrArg₂ (· * ·) (rows m c t y0 k) (weight_block m c t k y1)) (bias_block m c t y1))

/-- The result is the first eight columns of what the call returns. -/
theorem tail (c : Dev nD) : Pipeline.afterTail₀ cfgs (dats m) 0 (V0 m) [hostOps1] c main_v15
    = (extractStridedSlice S9216x8 ![0, 0] ((dats m 0 c).arrAt 3 (cfgs 0).N : FVec Ideal S9216x128 .f32) slices_S9216x128_S9216x8_0_0 : FVec Ideal S9216x8 .f32) := by
  unfold Pipeline.afterTail₀
  rw [← Pipeline.withArrays_arr spec0 (by decide) c (V0 m c) (fun w => (dats m 0 c).arrAt w (cfgs 0).N) 3]
  rfl

/-- Every run of the kernel ends with the gates in its result and with its arguments unchanged. -/
theorem run (ρ : Dev nD → PrngReg) : θ_run defs (onTc (τ := τ) (main (F := Ideal))) ⟨m, fun _ => 0, ρ⟩ fun r => ∀ c : Dev nD,
      r.2.mem ((c : Thread nD τ).loc main_v15) = gates (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ⟨?_, h.2 c⟩) (θ_run_and (run_main m ρ) (unchanged m ρ))
  refine ((h.1 c).2 main_v15 (by decide)).trans ((tail m c).trans ?_)
  rw [final, V_main_arg0]
  funext i
  idx_vars i
  pointwise [wide, gates]
  exact congrArg gate (congrArg₂ (· + ·) (Finset.sum_congr rfl fun k _ => congrArg _ (weight m c k i1)) (bias m c i1))

/-- At exact arithmetic the kernel and the reference end with the same array. -/
theorem algebraic : Cert.algebraic_Kernel14Ideal_Reference14Ideal := by
  intro m ρ m' ρ' _ hagree
  refine ⟨_, run m ρ, ?_⟩
  refine (θ_run Cert.Reference14Ideal.defs _ _).mono (fun _ h c => ⟨?_, (h c).2⟩) (Cert.Reference14Ideal.Value.run (F := Ideal) m' ρ')
  rw [(h c).1, (hagree c).1, (hagree c).2.1, (hagree c).2.2]
  funext j
  idx_vars j
  pointwise [gates]
  exact other _

end Cert.Forget

end
-- ==== Proof.RetainMath.lean ====
module

public import proofs.«01_k».proof.Kernel15Ideal
public import Idealize.ShloMosaic.Lib.Pipeline.ValueKit
public import Idealize.ShloMosaic.Lib.KernelVsHost

/-! What the retention of the sample rows computes, as functions of the activations and the states: a head's 64 rows of a sample are one
    chunk, whose queries and keys are turned by their positions. -/

@[expose] public section

set_option maxRecDepth 16384

noncomputable section

namespace Cert.Retain

open Idealize.ShloMosaic Idealize.ShloMosaic.TcCoe Idealize.SL.Sem
open Cert.Kernel15Ideal

/-- A natural number's 32-bit word as a number. -/
def num (n : ℕ) : EReal := (FloatOps.sitofp .f32 (BitVec.ofNat 32 n) : Ideal .f32)

/-- The logarithm of head `h`'s decay. -/
def rate (h : ℕ) : EReal := Ideal.log1p (-Ideal.exp (Ideal.ofBits .f32 0x3F317218#32 * (Ideal.ofBits .f32 0xC0A00000#32 - num h)))

/-- The angle of row `r` and frequency `j`. -/
def angle (r j : ℕ) : EReal :=
  (FloatOps.sitofp .f32 (IntOp.addi (4096#32) (BitVec.ofNat 32 r)) : Ideal .f32)
    * Ideal.pow (Ideal.ofBits .f32 0x461C4000#32) (Ideal.div (-num j) (Ideal.ofBits .f32 0x42800000#32))

/-- Row `r` of a head turned by its angles: entries 64 apart make a pair. -/
def turn (x : Fin 128 → EReal) (r : Fin 64) (d : Fin 128) : EReal :=
  if h : d.val < 64 then x ⟨d.val, by omega⟩ * Ideal.cos (angle r.val d.val) - x ⟨64 + d.val, by omega⟩ * Ideal.sin (angle r.val d.val)
  else x ⟨d.val - 64, by omega⟩ * Ideal.sin (angle r.val (d.val - 64)) + x ⟨64 + (d.val - 64), by omega⟩ * Ideal.cos (angle r.val (d.val - 64))

/-- The decay from row `j` to row `i`, and 0 where `j` is later than `i`. -/
def mask (l : EReal) (i j : Fin 64) : EReal :=
  if 0 ≤ num i.val - num j.val then Ideal.exp (l * max (num i.val - num j.val) 0) else 0

/-- Row `i` of a chunk: its values under the decayed scores, and the decayed query's product with the state. -/
def mix (l : EReal) (q k : Fin 64 → Fin 128 → EReal) (v : Fin 64 → Fin 256 → EReal) (s : Fin 128 → Fin 256 → EReal) (i : Fin 64) (e : Fin 256) : EReal :=
  (∑ j : Fin 64, (∑ d : Fin 128, q i d * k j d) * mask l i j * v j e) + ∑ d : Fin 128, q i d * Ideal.exp (l * (num i.val + 1)) * s d e

/-- The state after a chunk. -/
def next (l : EReal) (k : Fin 64 → Fin 128 → EReal) (v : Fin 64 → Fin 256 → EReal) (s : Fin 128 → Fin 256 → EReal) (d : Fin 128) (e : Fin 256) : EReal :=
  Ideal.exp (l * Ideal.ofBits .f32 0x42800000#32) * s d e
    + ∑ j : Fin 64, k j d * Ideal.exp (l * (Ideal.ofBits .f32 0x427C0000#32 - num j.val)) * v j e

/-- A row divided by its root mean square, at one entry, times the gate's product with its logistic. -/
def gated (o : Fin 256 → EReal) (g : EReal) (e : Fin 256) : EReal :=
  o e * Ideal.rsqrt (Ideal.div (∑ x : Fin 256, o x * o x) (Ideal.ofBits .f32 0x43800000#32) + Ideal.ofBits .f32 0x358637BD#32)
    * (g * Ideal.div 1 (1 + Ideal.exp (-g)))

/-- A turn as the kernel has it: the row's product with the cosines, and the row rolled by 64 entries times the signed sines. -/
theorem turn_roll (x : Fin 128 → EReal) (r : Fin 64) (d : Fin 128) :
    x d * (if d.val < 64 then Ideal.cos (angle r.val d.val) else Ideal.cos (angle r.val (d.val - 64)))
      + x ⟨(d.val + 128 - 64) % 128, Nat.mod_lt _ (by decide)⟩ * (if d.val < 64 then -Ideal.sin (angle r.val d.val) else Ideal.sin (angle r.val (d.val - 64)))
    = turn x r d := by
  unfold turn
  have hd := d.isLt
  by_cases h : d.val < 64
  · rw [if_pos h, if_pos h, dif_pos h, sub_eq_add_neg, mul_neg]
    rw [show (⟨(d.val + 128 - 64) % 128, Nat.mod_lt _ (by decide)⟩ : Fin 128) = ⟨64 + d.val, by omega⟩ from Fin.ext (by show (d.val + 128 - 64) % 128 = 64 + d.val; omega)]
  · rw [if_neg h, if_neg h, dif_neg h, add_comm]
    rw [show (⟨(d.val + 128 - 64) % 128, Nat.mod_lt _ (by decide)⟩ : Fin 128) = ⟨d.val - 64, by omega⟩ from Fin.ext (by show (d.val + 128 - 64) % 128 = d.val - 64; omega),
      show (⟨64 + (d.val - 64), by omega⟩ : Fin 128) = d from Fin.ext (by show 64 + (d.val - 64) = d.val; omega)]

/-- Row `i` of sample `b`. -/
def row (b : Fin 16) (i : Fin 64) : Fin 9216 := ⟨8192 + (b.val * 64 + i.val), by omega⟩

/-- The turned queries of head `h` of sample `b`. -/
def query (x : FVec Ideal S9216x19456 .f32) (b : Fin 16) (h : Fin 8) (i : Fin 64) : Fin 128 → EReal :=
  turn (fun d => x (ix2 (row b i) ⟨1024 + (h.val * 128 + d.val), by omega⟩)) i

/-- The turned and scaled keys of head `h` of sample `b`. -/
def key (x : FVec Ideal S9216x19456 .f32) (b : Fin 16) (h : Fin 8) (i : Fin 64) (d : Fin 128) : EReal :=
  turn (fun d => x (ix2 (row b i) ⟨2048 + (h.val * 128 + d.val), by omega⟩)) i d * Ideal.ofBits .f32 0x3DB504F3#32

/-- The values of head `h` of sample `b`. -/
def value (x : FVec Ideal S9216x19456 .f32) (b : Fin 16) (h : Fin 8) (i : Fin 64) (e : Fin 256) : EReal :=
  x (ix2 (row b i) ⟨3072 + (h.val * 256 + e.val), by omega⟩)

/-- The retained rows of head `h` of sample `b`, normalised and gated. -/
def retained (x : FVec Ideal S9216x19456 .f32) (s : FVec Ideal S2x16x8x128x256 .f32) (b : Fin 16) (h : Fin 8) (i : Fin 64) (e : Fin 256) : EReal :=
  gated (mix (rate h.val) (query x b h) (key x b h) (value x b h) (fun d e => s (ix5 1 b h d e)) i) (x (ix2 (row b i) ⟨5120 + (h.val * 256 + e.val), by omega⟩)) e

/-- The first result: 64 rows for a sample, 256 columns for a head. -/
def out (x : FVec Ideal S9216x19456 .f32) (s : FVec Ideal S2x16x8x128x256 .f32) : FVec Ideal S1024x2048 .bf16 := fun i =>
  retained x s ⟨(i 0).val / 64, Nat.div_lt_of_lt_mul (i 0).isLt⟩ ⟨(i 1).val / 256, Nat.div_lt_of_lt_mul (i 1).isLt⟩
    ⟨(i 0).val % 64, Nat.mod_lt _ (by decide)⟩ ⟨(i 1).val % 256, Nat.mod_lt _ (by decide)⟩

/-- The second result: the states after the samples' rows. -/
def after (x : FVec Ideal S9216x19456 .f32) (s : FVec Ideal S2x16x8x128x256 .f32) : FVec Ideal S16x8x128x256 .f32 := fun i =>
  next (rate (i 1).val) (key x (i 0) (i 1)) (value x (i 0) (i 1)) (fun d e => s (ix5 1 (i 0) (i 1) d e)) (i 2) (i 3)

/-- The first result at row `i` of sample `b` and column `e` of head `h`. -/
theorem out_at (x s) (b : Fin 16) (h : Fin 8) (i : Fin 64) (e : Fin 256) :
    out x s (ix2 (⟨b.val * 64 + i.val, by omega⟩ : Fin 1024) (⟨h.val * 256 + e.val, by omega⟩ : Fin 2048)) = retained x s b h i e := by
  show retained x s ⟨(b.val * 64 + i.val) / 64, _⟩ ⟨(h.val * 256 + e.val) / 256, _⟩ ⟨(b.val * 64 + i.val) % 64, _⟩ ⟨(h.val * 256 + e.val) % 256, _⟩ = _
  congr 1 <;> apply Fin.ext
  · show (b.val * 64 + i.val) / 64 = b.val; omega
  · show (h.val * 256 + e.val) / 256 = h.val; omega
  · show (b.val * 64 + i.val) % 64 = i.val; omega
  · show (h.val * 256 + e.val) % 256 = e.val; omega

end Cert.Retain

end
-- ==== Proof.RetainRef.lean ====
module

public import proofs.«01_k».proof.Proof.Gen.Reference15Ideal.Run
public import proofs.«01_k».proof.Proof.RetainMath

/-! The reference's retention of the sample rows, part by part, and its two results entry by entry. -/

@[expose] public section

set_option maxRecDepth 16384

noncomputable section

namespace Cert.Retain

open Idealize.ShloMosaic Idealize.ShloMosaic.TcCoe Idealize.SL.Sem
open Cert.Reference15Ideal Cert.Reference15Ideal.Facts₀

variable (m : (ℓ : Loc nD τ sig) → Buf (Elt Ideal) ℓ)

/-- The rates of the heads, as the reference computes them. -/
def refRates : FVec Ideal S8 .f32 :=
  Host.log1p (Host.negf (Host.exp (mulf (broadcastInDim S8 ![] bcast_S_S8 (constant S_ .f32 0x3F317218#32)) (subf (broadcastInDim S8 ![] bcast_S_S8 (constant S_ .f32 0xC0A00000#32)) (sitofp .f32 (iotaInDim S8 32 0))))))

/-- The angles, as the reference computes them. -/
def refAngles : FVec Ideal S64x64 .f32 :=
  mulf (broadcastInDim S64x64 ![0, 1] bcast_S64x1_S64x64_0_1 (broadcastInDim S64x1 ![0] bcast_S64_S64x1_0 (sitofp .f32 (addi (broadcastInDim S64 ![] bcast_S_S64 (constantI S_ 32 4096#32)) (iotaInDim S64 32 0)))))
    (broadcastInDim S64x64 ![0, 1] bcast_S1x64_S64x64_0_1 (broadcastInDim S1x64 ![1] bcast_S64_S1x64_1 (Host.powf (broadcastInDim S64 ![] bcast_S_S64 (constant S_ .f32 0x461C4000#32))
      (Host.divf (Host.negf (sitofp .f32 (iotaInDim S64 32 0))) (broadcastInDim S64 ![] bcast_S_S64 (constant S_ .f32 0x42800000#32))))))

/-- An angle's table over samples and heads. -/
def refTable (t : FVec Ideal S64x64 .f32) : FVec Ideal S16x64x8x64 .f32 :=
  broadcastInDim S16x64x8x64 ![0, 1, 2, 3] bcast_S1x64x1x64_S16x64x8x64_0_1_2_3 (broadcastInDim S1x64x1x64 ![1, 3] bcast_S64x64_S1x64x1x64_1_3 t)

/-- The reference's turn. -/
def refTurn (x : FVec Ideal S16x64x8x128 .f32) : FVec Ideal S16x64x8x128 .f32 :=
  concatenate S16x64x8x128 3
    [⟨S16x64x8x64, subf (mulf (extractStridedSlice S16x64x8x64 ![0, 0, 0, 0] x slices_S16x64x8x128_S16x64x8x64_0_0_0_0) (refTable (Host.cos refAngles)))
      (mulf (extractStridedSlice S16x64x8x64 ![0, 0, 0, 64] x slices_S16x64x8x128_S16x64x8x64_0_0_0_64) (refTable (Host.sin refAngles)))⟩,
     ⟨S16x64x8x64, addf (mulf (extractStridedSlice S16x64x8x64 ![0, 0, 0, 0] x slices_S16x64x8x128_S16x64x8x64_0_0_0_0) (refTable (Host.sin refAngles)))
      (mulf (extractStridedSlice S16x64x8x64 ![0, 0, 0, 64] x slices_S16x64x8x128_S16x64x8x64_0_0_0_64) (refTable (Host.cos refAngles)))⟩]
    concatenates_S16x64x8x64_S16x64x8x64_S16x64x8x128_d3

/-- The reference's difference of two rows' numbers. -/
def refDiff : FVec Ideal S64x64 .f32 :=
  subf (broadcastInDim S64x64 ![0, 1] bcast_S64x1_S64x64_0_1 (broadcastInDim S64x1 ![0] bcast_S64_S64x1_0 (sitofp .f32 (iotaInDim S64 32 0))))
    (broadcastInDim S64x64 ![0, 1] bcast_S1x64_S64x64_0_1 (broadcastInDim S1x64 ![1] bcast_S64_S1x64_1 (sitofp .f32 (iotaInDim S64 32 0))))

/-- The reference's decay mask, for every head. -/
def refMask : FVec Ideal S8x64x64 .f32 :=
  select (broadcastInDim S8x64x64 ![1, 2] bcast_S64x64_S8x64x64_1_2 (cmpf .oge refDiff (broadcastInDim S64x64 ![] bcast_S_S64x64 (constant S_ .f32 0x00000000#32))))
    (Host.exp (mulf (broadcastInDim S8x64x64 ![0, 1, 2] bcast_S8x1x1_S8x64x64_0_1_2 (broadcastInDim S8x1x1 ![0] bcast_S8_S8x1x1_0 refRates))
      (broadcastInDim S8x64x64 ![0, 1, 2] bcast_S1x64x64_S8x64x64_0_1_2 (broadcastInDim S1x64x64 ![1, 2] bcast_S64x64_S1x64x64_1_2
        (maximumf refDiff (broadcastInDim S64x64 ![] bcast_S_S64x64 (constant S_ .f32 0x00000000#32)))))))
    (broadcastInDim S8x64x64 ![] bcast_S_S8x64x64 (constant S_ .f32 0x00000000#32))

/-- The reference's rows before they are normalised, from its queries, keys, values and states. -/
def refMix (q k : FVec Ideal S16x64x8x128 .f32) (v : FVec Ideal S16x64x8x256 .f32) (s : FVec Ideal S16x8x128x256 .f32) :
    FVec Ideal S16x64x8x256 .f32 :=
  addf (transpose S16x64x8x256 [0, 3, 1, 2] (Host.dotGeneral dot_S16x64x8x256_S16x8x64x64_S16x8x256x64_1_3_3_2_02_01 none v
      (mulf (Host.dotGeneral dot_S16x64x8x128_S16x64x8x128_S16x8x64x64_3_3_1_1_02_02 none q k)
        (broadcastInDim S16x8x64x64 ![0, 1, 2, 3] bcast_S1x8x64x64_S16x8x64x64_0_1_2_3 (broadcastInDim S1x8x64x64 ![1, 2, 3] bcast_S8x64x64_S1x8x64x64_1_2_3 refMask))))
      transposes_S16x8x256x64_S16x64x8x256_0_3_1_2)
    (transpose S16x64x8x256 [0, 3, 1, 2] (Host.dotGeneral dot_S16x8x128x256_S16x64x8x128_S16x8x256x64_2_3_3_1_01_02 none s
      (mulf q (broadcastInDim S16x64x8x128 ![0, 1, 2, 3] bcast_S1x64x8x1_S16x64x8x128_0_1_2_3 (broadcastInDim S1x64x8x1 ![1, 2, 3] bcast_S64x8x1_S1x64x8x1_1_2_3 (broadcastInDim S64x8x1 ![0, 1] bcast_S64x8_S64x8x1_0_1
        (Host.exp (mulf (broadcastInDim S64x8 ![0, 1] bcast_S1x8_S64x8_0_1 (broadcastInDim S1x8 ![1] bcast_S8_S1x8_1 refRates))
          (broadcastInDim S64x8 ![0, 1] bcast_S64x1_S64x8_0_1 (broadcastInDim S64x1 ![0] bcast_S64_S64x1_0 (addf (sitofp .f32 (iotaInDim S64 32 0)) (broadcastInDim S64 ![] bcast_S_S64 (constant S_ .f32 0x3F800000#32))))))))))))
      transposes_S16x8x256x64_S16x64x8x256_0_3_1_2)

/-- The reference's normalised and gated rows, from the rows and the gates. -/
def refRows (o : FVec Ideal S16x64x8x256 .f32) (g : FVec Ideal S1024x2048 .f32) : FVec Ideal S1024x2048 .bf16 :=
  truncf .bf16 (mulf (shapeCast S1024x2048 (mulf o (broadcastInDim S16x64x8x256 ![0, 1, 2, 3] bcast_S16x64x8x1_S16x64x8x256_0_1_2_3
      (Host.rsqrt (addf (Host.divf (broadcastInDim S16x64x8x1 ![0, 1, 2] bcast_S16x64x8_S16x64x8x1_0_1_2 (Host.reduceAdd (mulf o o) (constant S_ .f32 0x00000000#32) reducesTo_S16x64x8x256_S16x64x8_d3 h_S_))
        (broadcastInDim S16x64x8x1 ![] bcast_S_S16x64x8x1 (constant S_ .f32 0x43800000#32))) (broadcastInDim S16x64x8x1 ![] bcast_S_S16x64x8x1 (constant S_ .f32 0x358637BD#32)))))) shapeCasts_S16x64x8x256_S1024x2048)
    (mulf g (Host.divf (broadcastInDim S1024x2048 ![] bcast_S_S1024x2048 (constant S_ .f32 0x3F800000#32))
      (addf (broadcastInDim S1024x2048 ![] bcast_S_S1024x2048 (constant S_ .f32 0x3F800000#32)) (Host.exp (Host.negf g)))))) bitsLt_bf16_f32

/-- The rows of the samples. -/
def refSamples (x : FVec Ideal S9216x19456 .f32) : FVec Ideal S1024x19456 .f32 :=
  extractStridedSlice S1024x19456 ![8192, 0] x slices_S9216x19456_S1024x19456_8192_0

/-- The reference's queries. -/
def refQuery (x : FVec Ideal S9216x19456 .f32) : FVec Ideal S16x64x8x128 .f32 :=
  refTurn (shapeCast S16x64x8x128 (extractStridedSlice S1024x1024 ![0, 1024] (refSamples x) slices_S1024x19456_S1024x1024_0_1024) shapeCasts_S1024x1024_S16x64x8x128)

/-- The reference's keys. -/
def refKey (x : FVec Ideal S9216x19456 .f32) : FVec Ideal S16x64x8x128 .f32 :=
  mulf (refTurn (shapeCast S16x64x8x128 (extractStridedSlice S1024x1024 ![0, 2048] (refSamples x) slices_S1024x19456_S1024x1024_0_2048) shapeCasts_S1024x1024_S16x64x8x128))
    (broadcastInDim S16x64x8x128 ![] bcast_S_S16x64x8x128 (constant S_ .f32 0x3DB504F3#32))

/-- The reference's values. -/
def refValue (x : FVec Ideal S9216x19456 .f32) : FVec Ideal S16x64x8x256 .f32 :=
  shapeCast S16x64x8x256 (extractStridedSlice S1024x2048 ![0, 3072] (refSamples x) slices_S1024x19456_S1024x2048_0_3072) shapeCasts_S1024x2048_S16x64x8x256

/-- The reference's states. -/
def refState (s : FVec Ideal S2x16x8x128x256 .f32) : FVec Ideal S16x8x128x256 .f32 :=
  shapeCast S16x8x128x256 (extractStridedSlice S1x16x8x128x256 ![1, 0, 0, 0, 0] s slices_S2x16x8x128x256_S1x16x8x128x256_1_0_0_0_0) shapeCasts_S1x16x8x128x256_S16x8x128x256

/-- The reference's first result in these parts. -/
theorem parts (c : Dev nD) : Value.res_main_v136 m c
    = refRows (refMix (refQuery (m ((c : Thread nD τ).loc main_arg0))) (refKey (m ((c : Thread nD τ).loc main_arg0))) (refValue (m ((c : Thread nD τ).loc main_arg0))) (refState (m ((c : Thread nD τ).loc main_arg1))))
        (extractStridedSlice S1024x2048 ![0, 5120] (refSamples (m ((c : Thread nD τ).loc main_arg0))) slices_S1024x19456_S1024x2048_0_5120) := by
  unfold Value.res_main_v136
  rfl

/-- The reference's queries, entry by entry. -/
theorem refQuery_at (x : FVec Ideal S9216x19456 .f32) (b : Fin 16) (i : Fin 64) (h : Fin 8) (d : Fin 128) : refQuery x (ix4 b i h d) = query x b h i d := by
  pointwise [refQuery, refTurn, refTable, refAngles, refSamples, query, turn, row, angle, num]

/-- The reference's keys, entry by entry. -/
theorem refKey_at (x : FVec Ideal S9216x19456 .f32) (b : Fin 16) (i : Fin 64) (h : Fin 8) (d : Fin 128) : refKey x (ix4 b i h d) = key x b h i d := by
  pointwise [refKey, refTurn, refTable, refAngles, refSamples, key, turn, row, angle, num]

/-- The reference's values, entry by entry. -/
theorem refValue_at (x : FVec Ideal S9216x19456 .f32) (b : Fin 16) (i : Fin 64) (h : Fin 8) (e : Fin 256) : refValue x (ix4 b i h e) = value x b h i e := by
  pointwise [refValue, refSamples, value, row]

/-- The reference's states, entry by entry. -/
theorem refState_at (s : FVec Ideal S2x16x8x128x256 .f32) (b : Fin 16) (h : Fin 8) (d : Fin 128) (e : Fin 256) : refState s (ix4 b h d e) = s (ix5 1 b h d e) := by
  pointwise [refState]

/-- The reference's rows before they are normalised, entry by entry. -/
theorem refMix_at (q k : FVec Ideal S16x64x8x128 .f32) (v : FVec Ideal S16x64x8x256 .f32) (s : FVec Ideal S16x8x128x256 .f32)
    (b : Fin 16) (i : Fin 64) (h : Fin 8) (e : Fin 256) :
    refMix q k v s (ix4 b i h e) = mix (rate h.val) (fun a d => q (ix4 b a h d)) (fun a d => k (ix4 b a h d)) (fun a d => v (ix4 b a h d)) (fun d e => s (ix4 b h d e)) i e := by
  pointwise [refMix, refMask, refDiff, refRates, mix, mask, rate, num]
  exact congrArg₂ (· + ·) (Finset.sum_congr rfl fun j _ => mul_comm _ _) (Finset.sum_congr rfl fun d _ => mul_comm _ _)

/-- The reference's normalised and gated rows, entry by entry. -/
theorem refRows_at (o : FVec Ideal S16x64x8x256 .f32) (g : FVec Ideal S1024x2048 .f32) (r : Fin 1024) (n : Fin 2048) :
    refRows o g (ix2 r n) = gated (fun e => o (ix4 ⟨r.val / 64, by omega⟩ ⟨r.val % 64, by omega⟩ ⟨n.val / 256, by omega⟩ e)) (g (ix2 r n)) ⟨n.val % 256, by omega⟩ := by
  pointwise [refRows, gated]
/-- The reference's first result. -/
theorem ref_out (c : Dev nD) : Value.res_main_v136 m c = out (m ((c : Thread nD τ).loc main_arg0)) (m ((c : Thread nD τ).loc main_arg1)) := by
  rw [parts]
  generalize m ((c : Thread nD τ).loc main_arg0) = x, m ((c : Thread nD τ).loc main_arg1) = s
  funext j
  idx_vars j
  rw [refRows_at]
  show gated _ _ _ = gated _ _ _
  congr 1
  · funext e
    rw [refMix_at]
    congr 1
    · funext a d; exact refQuery_at x _ a _ d
    · funext a d; exact refKey_at x _ a _ d
    · funext a d; exact refValue_at x _ a _ d
    · funext d e; exact refState_at s _ _ d e
  · pointwise [refSamples, row]
    refine congrArg x (congrArg₂ ix2 (Fin.ext ?_) (Fin.ext ?_))
    · show 8192 + j0.val = 8192 + (j0.val / 64 * 64 + j0.val % 64); omega
    · show 5120 + j1.val = 5120 + (j1.val / 256 * 256 + j1.val % 256); omega

set_option maxHeartbeats 1000000 in
/-- The reference's second result, entry by entry. -/
theorem ref_after (c : Dev nD) :
    Value.res_main_v107 m c = after (m ((c : Thread nD τ).loc main_arg0)) (m ((c : Thread nD τ).loc main_arg1)) := by
  funext j
  idx_vars j
  pointwise [Value.res_main_v107, after, next, key, value, turn, angle, rate, num, row]

end Cert.Retain

end
-- ==== Proof.Retain.lean ====
module

public import proofs.«01_k».proof.Proof.Gen.Kernel15Ideal.Value
public import proofs.«01_k».proof.Proof.RetainRef
public import Idealize.ShloMosaic.Lib.Pipeline.ValueKit
public import Idealize.ShloMosaic.Lib.Claim
public import Idealize.ShloMosaic.Lib.KernelVsHost
public import proofs.«01_k».proof.Defs

/-! The retention of the sample rows (`retention`): point `(b, h)` handles head `h` of sample `b`, whose 64 rows are one chunk. It turns
    queries and keys, sums the values under the decay mask, adds the queries' products with the state, normalises the row, applies the
    gate, and stores the decayed state to which the chunk's keys and values are added. -/

@[expose] public section

set_option maxRecDepth 16384

noncomputable section

namespace Cert.Retain

open Idealize.ShloMosaic Idealize.ShloMosaic.TcCoe Idealize.SL.Sem
open Idealize.ShloMosaic.Pipeline (Dat)
open Cert.Kernel15Ideal Cert.Kernel15Ideal.Gen

variable (m : (ℓ : Loc nD τ sig) → Buf (Elt Ideal) ℓ)

/-- The turned queries of a block. -/
theorem queries (x co si : Vec Ideal S64x128 .f32) (i : Fin 64) (d : Fin 128)
    (hc : co (ix2 i d) = if d.val < 64 then Ideal.cos (angle i.val d.val) else Ideal.cos (angle i.val (d.val - 64)))
    (hs : si (ix2 i d) = if d.val < 64 then -Ideal.sin (angle i.val d.val) else Ideal.sin (angle i.val (d.val - 64))) :
    k0_pay7 co si x (ix2 i d) = turn (fun a => x (ix2 i a)) i d := by
  pointwise [k0_pay7, k0_pay5, k0_pay6]
  rw [hc, hs]
  exact turn_roll (fun a => x (ix2 i a)) i d

/-- The turned and scaled keys of a block. -/
theorem keys (x co si : Vec Ideal S64x128 .f32) (i : Fin 64) (d : Fin 128)
    (hc : co (ix2 i d) = if d.val < 64 then Ideal.cos (angle i.val d.val) else Ideal.cos (angle i.val (d.val - 64)))
    (hs : si (ix2 i d) = if d.val < 64 then -Ideal.sin (angle i.val d.val) else Ideal.sin (angle i.val (d.val - 64))) :
    k0_pay8 co si x (ix2 i d) = turn (fun a => x (ix2 i a)) i d * Ideal.ofBits .f32 0x3DB504F3#32 := by
  pointwise [k0_pay8, k0_pay5, k0_pay6]
  rw [hc, hs]
  exact congrArg (· * _) (turn_roll (fun a => x (ix2 i a)) i d)

/-- The sum of values and state's products, entry by entry. -/
theorem mixed (l : Vec Ideal S1x1x1 .f32) (q k : FVec Ideal S64x128 .f32) (v : Vec Ideal S64x256 .f32) (s : Vec Ideal S1x1x128x256 .f32) (i : Fin 64) (e : Fin 256) :
    k0_pay13 (k0_pay4 l) q k v k0_pay9 (k0_pay11 (F := Ideal)) (k0_pay12 l) (k0_pay3 s) (ix2 i e)
      = mix (l (ix3 0 0 0)) (fun a b => q (ix2 a b)) (fun a b => k (ix2 a b)) (fun a b => v (ix2 a b)) (fun a b => s (ix4 0 0 a b)) i e := by
  pointwise [k0_pay13, k0_pay9, k0_pay11, k0_pay12, k0_pay10, k0_pay4, k0_pay3, mix, mask, num]

/-- The rows' sums of squares, entry by entry. -/
theorem squares (l : Vec Ideal S1x1x1 .f32) (q k : FVec Ideal S64x128 .f32) (v : Vec Ideal S64x256 .f32) (s : FVec Ideal S128x256 .f32) (i : Fin 64) :
    k0_pay15 (k0_pay4 l) q k v k0_pay9 (k0_pay11 (F := Ideal)) (k0_pay12 l) s (ix2 i 0)
      = Ideal.div (∑ x : Fin 256, k0_pay13 (k0_pay4 l) q k v k0_pay9 (k0_pay11 (F := Ideal)) (k0_pay12 l) s (ix2 i x)
          * k0_pay13 (k0_pay4 l) q k v k0_pay9 (k0_pay11 (F := Ideal)) (k0_pay12 l) s (ix2 i x)) (Ideal.ofBits .f32 0x43800000#32) := by
  pointwise [k0_pay15]

/-- What a point stores of its rows, from the sums and their squares. -/
theorem rows (o : FVec Ideal S64x256 .f32) (n : FVec Ideal S64x1 .f32) (g : Vec Ideal S64x256 .f32) (i : Fin 64) (e : Fin 256) :
    k0_pay1 o n g (ix2 i e) = o (ix2 i e) * Ideal.rsqrt (n (ix2 i 0) + Ideal.ofBits .f32 0x358637BD#32) * (g (ix2 i e) * Ideal.div 1 (1 + Ideal.exp (-g (ix2 i e)))) := by
  pointwise [k0_pay1]
  rw [zero_sub]

/-- What a point stores of the state, entry by entry. -/
theorem states (l : Vec Ideal S1x1x1 .f32) (k : FVec Ideal S64x128 .f32) (v : Vec Ideal S64x256 .f32) (s : Vec Ideal S1x1x128x256 .f32) (d : Fin 128) (e : Fin 256) :
    k0_pay2 (k0_pay14 (k0_pay4 l) k v k0_pay9 (k0_pay3 s)) (ix4 0 0 d e)
      = next (l (ix3 0 0 0)) (fun a b => k (ix2 a b)) (fun a b => v (ix2 a b)) (fun a b => s (ix4 0 0 a b)) d e := by
  pointwise [k0_pay2, k0_pay14, k0_pay9, k0_pay4, k0_pay3, next, num]

/-- The cosines' table. -/
theorem cosines (c : Dev nD) (i : Fin 64) (d : Fin 128) :
    V m c main_v19 (ix2 i d) = (if d.val < 64 then Ideal.cos (angle i.val d.val) else Ideal.cos (angle i.val (d.val - 64)) : EReal) := by
  unfold V
  entry_read
  pointwise [angle, num]
  exact dite_eq_ite

/-- The signed sines' table. -/
theorem sines (c : Dev nD) (i : Fin 64) (d : Fin 128) :
    V m c main_v23 (ix2 i d) = (if d.val < 64 then -Ideal.sin (angle i.val d.val) else Ideal.sin (angle i.val (d.val - 64)) : EReal) := by
  unfold V
  entry_read
  pointwise [angle, num]
  exact dite_eq_ite

/-- The decays' table. -/
theorem rates (c : Dev nD) (h : Fin 8) (d : Fin 128) : V m c main_v33 (ix3 h 0 d) = rate h.val := by
  unfold V
  entry_read
  pointwise [rate, num]

/-- The states the call reads: those of layer 1. -/
theorem layer (c : Dev nD) (b : Fin 16) (h : Fin 8) (d : Fin 128) (e : Fin 256) :
    V m c main_v1 (ix4 b h d e) = m ((c : Thread nD τ).loc main_arg1) (ix5 1 b h d e) := by
  unfold V
  entry_read
  pointwise

/-- Each window's block index at a point. -/
theorem idx : ∀ t : Fin cfg0.N, win0_0.index t = ![128 + t.val / 8, 8 + t.val % 8] ∧ win0_1.index t = ![128 + t.val / 8, 16 + t.val % 8]
    ∧ win0_2.index t = ![128 + t.val / 8, 12 + t.val % 8] ∧ win0_3.index t = ![128 + t.val / 8, 20 + t.val % 8]
    ∧ win0_4.index t = ![0, 0] ∧ win0_5.index t = ![0, 0] ∧ win0_6.index t = ![t.val % 8, 0, 0] ∧ win0_7.index t = ![t.val / 8, t.val % 8, 0, 0]
    ∧ win0_8.index t = ![t.val / 8, t.val % 8] ∧ win0_9.index t = ![t.val / 8, t.val % 8, 0, 0] :=
  (by decide +kernel : ∀ t : Fin grid0.N, _)

/-- The sample of a point. -/
def sample (t : Fin cfg0.N) : Fin 16 := ⟨t.val / 8, by have := lt_of_lt_of_eq t.isLt N_0; omega⟩

/-- The head of a point. -/
def head (t : Fin cfg0.N) : Fin 8 := ⟨t.val % 8, Nat.mod_lt _ (by decide)⟩

/-- The queries' block of a point. -/
theorem query_block (c : Dev nD) (t : Fin cfg0.N) (i : Fin 64) (d : Fin 128) :
    iblk m c 0 t (ix2 i d) = m ((c : Thread nD τ).loc main_arg0) (ix2 (row (sample t) i) (⟨1024 + ((head t).val * 128 + d.val), by have := (head t).isLt; omega⟩ : Fin 19456)) := by
  rw [← V_main_arg0 m c]
  show V m c main_arg0 (((cfg0.win 0).blk t).view.emb (ix2 i d)) = _
  refine congrArg (V m c main_arg0) ?_
  funext a
  apply Fin.ext
  match a with
  | ⟨0, _⟩ =>
    show win0_0.index t 0 * 64 + 1 * i.val = 8192 + (t.val / 8 * 64 + i.val)
    rw [(idx t).1]; show (128 + t.val / 8) * 64 + 1 * i.val = _; omega
  | ⟨1, _⟩ =>
    show win0_0.index t 1 * 128 + 1 * d.val = 1024 + (t.val % 8 * 128 + d.val)
    rw [(idx t).1]; show (8 + t.val % 8) * 128 + 1 * d.val = _; omega

/-- The keys' block of a point. -/
theorem key_block (c : Dev nD) (t : Fin cfg0.N) (i : Fin 64) (d : Fin 128) :
    iblk m c 1 t (ix2 i d) = m ((c : Thread nD τ).loc main_arg0) (ix2 (row (sample t) i) (⟨2048 + ((head t).val * 128 + d.val), by have := (head t).isLt; omega⟩ : Fin 19456)) := by
  rw [← V_main_arg0 m c]
  show V m c main_arg0 (((cfg0.win 1).blk t).view.emb (ix2 i d)) = _
  refine congrArg (V m c main_arg0) ?_
  funext a
  apply Fin.ext
  match a with
  | ⟨0, _⟩ =>
    show win0_1.index t 0 * 64 + 1 * i.val = 8192 + (t.val / 8 * 64 + i.val)
    rw [(idx t).2.1]; show (128 + t.val / 8) * 64 + 1 * i.val = _; omega
  | ⟨1, _⟩ =>
    show win0_1.index t 1 * 128 + 1 * d.val = 2048 + (t.val % 8 * 128 + d.val)
    rw [(idx t).2.1]; show (16 + t.val % 8) * 128 + 1 * d.val = _; omega

/-- The values' block of a point. -/
theorem value_block (c : Dev nD) (t : Fin cfg0.N) (i : Fin 64) (d : Fin 256) :
    iblk m c 2 t (ix2 i d) = m ((c : Thread nD τ).loc main_arg0) (ix2 (row (sample t) i) (⟨3072 + ((head t).val * 256 + d.val), by have := (head t).isLt; omega⟩ : Fin 19456)) := by
  rw [← V_main_arg0 m c]
  show V m c main_arg0 (((cfg0.win 2).blk t).view.emb (ix2 i d)) = _
  refine congrArg (V m c main_arg0) ?_
  funext a
  apply Fin.ext
  match a with
  | ⟨0, _⟩ =>
    show win0_2.index t 0 * 64 + 1 * i.val = 8192 + (t.val / 8 * 64 + i.val)
    rw [(idx t).2.2.1]; show (128 + t.val / 8) * 64 + 1 * i.val = _; omega
  | ⟨1, _⟩ =>
    show win0_2.index t 1 * 256 + 1 * d.val = 3072 + (t.val % 8 * 256 + d.val)
    rw [(idx t).2.2.1]; show (12 + t.val % 8) * 256 + 1 * d.val = _; omega

/-- The gates' block of a point. -/
theorem gate_block (c : Dev nD) (t : Fin cfg0.N) (i : Fin 64) (d : Fin 256) :
    iblk m c 3 t (ix2 i d) = m ((c : Thread nD τ).loc main_arg0) (ix2 (row (sample t) i) (⟨5120 + ((head t).val * 256 + d.val), by have := (head t).isLt; omega⟩ : Fin 19456)) := by
  rw [← V_main_arg0 m c]
  show V m c main_arg0 (((cfg0.win 3).blk t).view.emb (ix2 i d)) = _
  refine congrArg (V m c main_arg0) ?_
  funext a
  apply Fin.ext
  match a with
  | ⟨0, _⟩ =>
    show win0_3.index t 0 * 64 + 1 * i.val = 8192 + (t.val / 8 * 64 + i.val)
    rw [(idx t).2.2.2.1]; show (128 + t.val / 8) * 64 + 1 * i.val = _; omega
  | ⟨1, _⟩ =>
    show win0_3.index t 1 * 256 + 1 * d.val = 5120 + (t.val % 8 * 256 + d.val)
    rw [(idx t).2.2.2.1]; show (20 + t.val % 8) * 256 + 1 * d.val = _; omega

/-- The cosines' block of a point: the whole table. -/
theorem cosine_block (c : Dev nD) (t : Fin cfg0.N) (i : Fin 64) (d : Fin 128) : iblk m c 4 t (ix2 i d) = V m c main_v19 (ix2 i d) := by
  show V m c main_v19 (((cfg0.win 4).blk t).view.emb (ix2 i d)) = _
  refine congrArg (V m c main_v19) ?_
  funext a
  apply Fin.ext
  match a with
  | ⟨0, _⟩ =>
    show win0_4.index t 0 * 64 + 1 * i.val = i.val
    rw [(idx t).2.2.2.2.1]; show 0 * 64 + 1 * i.val = _; omega
  | ⟨1, _⟩ =>
    show win0_4.index t 1 * 128 + 1 * d.val = d.val
    rw [(idx t).2.2.2.2.1]; show 0 * 128 + 1 * d.val = _; omega

/-- The sines' block of a point: the whole table. -/
theorem sine_block (c : Dev nD) (t : Fin cfg0.N) (i : Fin 64) (d : Fin 128) : iblk m c 5 t (ix2 i d) = V m c main_v23 (ix2 i d) := by
  show V m c main_v23 (((cfg0.win 5).blk t).view.emb (ix2 i d)) = _
  refine congrArg (V m c main_v23) ?_
  funext a
  apply Fin.ext
  match a with
  | ⟨0, _⟩ =>
    show win0_5.index t 0 * 64 + 1 * i.val = i.val
    rw [(idx t).2.2.2.2.2.1]; show 0 * 64 + 1 * i.val = _; omega
  | ⟨1, _⟩ =>
    show win0_5.index t 1 * 128 + 1 * d.val = d.val
    rw [(idx t).2.2.2.2.2.1]; show 0 * 128 + 1 * d.val = _; omega

/-- The rate a point reads: its head's. -/
theorem rate_block (c : Dev nD) (t : Fin cfg0.N) : View.ld (iblk m c 6 t) (Rect.unit (s := S1x1x128) ![0, 0, 0] S1x1x1.size inb_S1x1x128_S1x1x1_0_0_0) (ix3 0 0 0) = rate (head t).val := by
  rw [← rates m c (head t) 0]
  show V m c main_v33 (((cfg0.win 6).blk t).view.emb (ix3 0 0 0)) = _
  refine congrArg (V m c main_v33) ?_
  funext a
  apply Fin.ext
  match a with
  | ⟨0, _⟩ =>
    show win0_6.index t 0 * 1 + 1 * 0 = t.val % 8
    rw [(idx t).2.2.2.2.2.2.1]; show t.val % 8 * 1 + 1 * 0 = _; omega
  | ⟨1, _⟩ =>
    show win0_6.index t 1 * 1 + 1 * 0 = 0
    rw [(idx t).2.2.2.2.2.2.1]; rfl
  | ⟨2, _⟩ =>
    show win0_6.index t 2 * 128 + 1 * 0 = 0
    rw [(idx t).2.2.2.2.2.2.1]; rfl

/-- The state's block of a point: its sample's and head's. -/
theorem state_block (c : Dev nD) (t : Fin cfg0.N) (d : Fin 128) (e : Fin 256) :
    iblk m c 7 t (ix4 0 0 d e) = m ((c : Thread nD τ).loc main_arg1) (ix5 1 (sample t) (head t) d e) := by
  rw [← layer m c]
  show V m c main_v1 (((cfg0.win 7).blk t).view.emb (ix4 0 0 d e)) = _
  refine congrArg (V m c main_v1) ?_
  funext a
  apply Fin.ext
  match a with
  | ⟨0, _⟩ =>
    show win0_7.index t 0 * 1 + 1 * 0 = t.val / 8
    rw [(idx t).2.2.2.2.2.2.2.1]; show t.val / 8 * 1 + 1 * 0 = _; omega
  | ⟨1, _⟩ =>
    show win0_7.index t 1 * 1 + 1 * 0 = t.val % 8
    rw [(idx t).2.2.2.2.2.2.2.1]; show t.val % 8 * 1 + 1 * 0 = _; omega
  | ⟨2, _⟩ =>
    show win0_7.index t 2 * 128 + 1 * d.val = d.val
    rw [(idx t).2.2.2.2.2.2.2.1]; show 0 * 128 + 1 * d.val = _; omega
  | ⟨3, _⟩ =>
    show win0_7.index t 3 * 256 + 1 * e.val = e.val
    rw [(idx t).2.2.2.2.2.2.2.1]; show 0 * 256 + 1 * e.val = _; omega

/-- Where a point's block of the first result lies. -/
theorem out_emb (t : Fin cfg0.N) (i : Fin 64) (e : Fin 256) :
    ((cfg0.win 8).blk t).view.emb (ix2 i e) = (ix2 (⟨(sample t).val * 64 + i.val, by have := (sample t).isLt; omega⟩ : Fin 1024)
      (⟨(head t).val * 256 + e.val, by have := (head t).isLt; omega⟩ : Fin 2048) : S1024x2048.Idx) := by
  funext a
  apply Fin.ext
  match a with
  | ⟨0, _⟩ =>
    show win0_8.index t 0 * 64 + 1 * i.val = t.val / 8 * 64 + i.val
    rw [(idx t).2.2.2.2.2.2.2.2.1]; show t.val / 8 * 64 + 1 * i.val = _; omega
  | ⟨1, _⟩ =>
    show win0_8.index t 1 * 256 + 1 * e.val = t.val % 8 * 256 + e.val
    rw [(idx t).2.2.2.2.2.2.2.2.1]; show t.val % 8 * 256 + 1 * e.val = _; omega

/-- Where a point's block of the second result lies. -/
theorem after_emb (t : Fin cfg0.N) (d : Fin 128) (e : Fin 256) :
    ((cfg0.win 9).blk t).view.emb (ix4 0 0 d e) = (ix4 (sample t) (head t) d e : S16x8x128x256.Idx) := by
  funext a
  apply Fin.ext
  match a with
  | ⟨0, _⟩ =>
    show win0_9.index t 0 * 1 + 1 * 0 = t.val / 8
    rw [(idx t).2.2.2.2.2.2.2.2.2]; show t.val / 8 * 1 + 1 * 0 = _; omega
  | ⟨1, _⟩ =>
    show win0_9.index t 1 * 1 + 1 * 0 = t.val % 8
    rw [(idx t).2.2.2.2.2.2.2.2.2]; show t.val % 8 * 1 + 1 * 0 = _; omega
  | ⟨2, _⟩ =>
    show win0_9.index t 2 * 128 + 1 * d.val = d.val
    rw [(idx t).2.2.2.2.2.2.2.2.2]; show 0 * 128 + 1 * d.val = _; omega
  | ⟨3, _⟩ =>
    show win0_9.index t 3 * 256 + 1 * e.val = e.val
    rw [(idx t).2.2.2.2.2.2.2.2.2]; show 0 * 256 + 1 * e.val = _; omega

/-- The turned queries of a point. -/
theorem point_query (c : Dev nD) (t : Fin cfg0.N) :
    (fun a d => k0_pay7 (iblk m c 4 t) (iblk m c 5 t) (iblk m c 0 t) (ix2 a d)) = query (m ((c : Thread nD τ).loc main_arg0)) (sample t) (head t) := by
  funext a d
  refine (queries _ _ _ a d ((cosine_block m c t a d).trans (cosines m c a d)) ((sine_block m c t a d).trans (sines m c a d))).trans ?_
  exact congrArg (fun x => turn x a d) (funext fun e => query_block m c t a e)

/-- The turned and scaled keys of a point. -/
theorem point_key (c : Dev nD) (t : Fin cfg0.N) :
    (fun a d => k0_pay8 (iblk m c 4 t) (iblk m c 5 t) (iblk m c 1 t) (ix2 a d)) = key (m ((c : Thread nD τ).loc main_arg0)) (sample t) (head t) := by
  funext a d
  refine (keys _ _ _ a d ((cosine_block m c t a d).trans (cosines m c a d)) ((sine_block m c t a d).trans (sines m c a d))).trans ?_
  exact congrArg (fun x => turn x a d * Ideal.ofBits .f32 0x3DB504F3#32) (funext fun e => key_block m c t a e)

/-- The values of a point. -/
theorem point_value (c : Dev nD) (t : Fin cfg0.N) :
    (fun a e => iblk m c 2 t (ix2 a e)) = value (m ((c : Thread nD τ).loc main_arg0)) (sample t) (head t) :=
  funext fun a => funext fun e => value_block m c t a e

/-- The state a point finds. -/
theorem point_state (c : Dev nD) (t : Fin cfg0.N) :
    (fun d e => iblk m c 7 t (ix4 0 0 d e)) = fun d e => m ((c : Thread nD τ).loc main_arg1) (ix5 1 (sample t) (head t) d e) :=
  funext fun d => funext fun e => state_block m c t d e

/-- The second result's array after the run. -/
theorem final_after (c : Dev nD) : (dats m 0 c).arrAt 9 (cfgs 0).N = after (m ((c : Thread nD τ).loc main_arg0)) (m ((c : Thread nD τ).loc main_arg1)) := by
  refine (dats m 0 c).arrAt_eq_of_covers 9 _ (by decide +kernel) fun t _ y => ?_
  blk_simp
  rw [after0_9]; unfold outsAt0; dsimp only; frame_out
  idx_vars y
  obtain rfl : y0 = 0 := Subsingleton.elim _ _
  obtain rfl : y1 = 0 := Subsingleton.elim _ _
  refine (states _ _ _ _ y2 y3).trans ?_
  rw [rate_block, point_key, point_value, point_state]
  exact (congrArg (after (m ((c : Thread nD τ).loc main_arg0)) (m ((c : Thread nD τ).loc main_arg1))) (after_emb t y2 y3)).symm

/-- The first result's array after the run. -/
theorem final_out (c : Dev nD) : (dats m 0 c).arrAt 8 (cfgs 0).N = out (m ((c : Thread nD τ).loc main_arg0)) (m ((c : Thread nD τ).loc main_arg1)) := by
  refine (dats m 0 c).arrAt_eq_of_covers 8 _ (by decide +kernel) fun t _ y => ?_
  blk_simp
  rw [after0_8]; unfold outsAt0; dsimp only; frame_out
  idx_vars y
  refine Eq.trans ?_ ((congrArg (out (m ((c : Thread nD τ).loc main_arg0)) (m ((c : Thread nD τ).loc main_arg1))) (out_emb t y0 y1)).trans (out_at _ _ _ _ y0 y1)).symm
  refine (rows _ _ _ y0 y1).trans ?_
  rw [squares]
  simp only [mixed]
  rw [rate_block, point_query, point_key, point_value, point_state, gate_block]
  rfl

/-- Every run of the kernel ends with the retained rows and the states in its results and with its arguments unchanged. -/
theorem run (ρ : Dev nD → PrngReg) : θ_run defs (onTc (τ := τ) (main (F := Ideal))) ⟨m, fun _ => 0, ρ⟩ fun r => ∀ c : Dev nD,
      r.2.mem ((c : Thread nD τ).loc main_v34_0) = out (m ((c : Thread nD τ).loc main_arg0)) (m ((c : Thread nD τ).loc main_arg1))
      ∧ r.2.mem ((c : Thread nD τ).loc main_v34_1) = after (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final_out m c), (h c).2.1.trans (final_after m c), (h c).2.2⟩) (Cert.Kernel15Ideal.Value.run_blocks m ρ)

/-- At exact arithmetic the kernel and the reference end with the same arrays. -/
theorem algebraic : Cert.algebraic_Kernel15Ideal_Reference15Ideal := by
  intro m ρ m' ρ' _ hagree
  refine ⟨_, _, run m ρ, ?_⟩
  refine (θ_run Cert.Reference15Ideal.defs _ _).mono (fun _ h c => ⟨?_, ?_, (h c).2.2⟩) (Cert.Reference15Ideal.Value.run (F := Ideal) m' ρ')
  · rw [(h c).1, ref_out, (hagree c).1, (hagree c).2]
  · rw [(h c).2.1, ref_after, (hagree c).1, (hagree c).2]

end Cert.Retain

end
-- ==== Proof.ExpertsRun.lean ====
module

public import proofs.«01_k».proof.Proof.Gen.Kernel3Ideal.Skeleton
public import proofs.«01_k».proof.Proof.Gen.Kernel3Ideal.Launch
public import Idealize.ShloMosaic.Lib.Pipeline.Quiescent
public import Idealize.ShloMosaic.Lib.Claim
public import Idealize.ShloMosaic.Lib.Pipeline.Kit
public import Idealize.ShloMosaic.Lib.Pipeline.FrameBody
public import Idealize.ShloMosaic.Lib.Pipeline.ValueKit
public import Idealize.ShloMosaic.Lib.Writes
public import Idealize.ShloMosaic.Lib.Ring
public import Idealize.ShloMosaic.Lib.Exec
public import Idealize.ShloMosaic.Lib.Tactic
public import Idealize.ShloMosaic.Adequacy
public import Idealize.ShloMosaic.Init

/-! The run of the experts' gated product (`expert_glu`) for any tables in range: table 0 names each row block's expert,
    table 1 how many of its four quarters hold tokens. -/

@[expose] public section

set_option maxRecDepth 16384

noncomputable section

namespace Cert.Experts

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel3Ideal Cert.Kernel3Ideal.Gen

variable {F : FTy → Type} [FloatOps F]

local notation "𝕄" => MT nD τ sig Unit (Elt F) ℕ (UR sig nD τ) ℕ

/-! ## The body -/

/-- The tables as the body is handed them. -/
abbrev experts : Memref sig .tc .smem S26 .i32 := Memref.whole main_arg3
abbrev quarters : Memref sig .tc .smem S26 .i32 := Memref.whole main_arg4

/-- The word the body reads off table 1 at a point. -/
abbrev word (i : grid0.Coords) (T : S26.Idx → BitVec 32) : BitVec 32 :=
  View.readAt (Elt F) quarters.view (Rect.unit (s := S26) (k0_off1 i) S1.size (k0_off1_inb i)).toLoadRect T (Shape.Idx.first (numel1_S1.symm ▸ Nat.one_pos))

abbrev rAll : Rect S1024x512 := Rect.unit (s := S1024x512) ![0, 0] S1024x512.size inb_S1024x512_S1024x512_0_0
abbrev rO0 : Rect S1024x512 := Rect.unit (s := S1024x512) ![0, 0] S256x512.size inb_S1024x512_S256x512_0_0
abbrev rO1 : Rect S1024x512 := Rect.unit (s := S1024x512) ![256, 0] S256x512.size inb_S1024x512_S256x512_256_0
abbrev rO2 : Rect S1024x512 := Rect.unit (s := S1024x512) ![512, 0] S256x512.size inb_S1024x512_S256x512_512_0
abbrev rO3 : Rect S1024x512 := Rect.unit (s := S1024x512) ![768, 0] S256x512.size inb_S1024x512_S256x512_768_0
abbrev rX : Rect S1024x4096 := Rect.unit (s := S1024x4096) ![0, 0] S1024x4096.size inb_S1024x4096_S1024x4096_0_0
abbrev rX0 : Rect S1024x4096 := Rect.unit (s := S1024x4096) ![0, 0] S256x4096.size inb_S1024x4096_S256x4096_0_0
abbrev rX1 : Rect S1024x4096 := Rect.unit (s := S1024x4096) ![256, 0] S256x4096.size inb_S1024x4096_S256x4096_256_0
abbrev rX2 : Rect S1024x4096 := Rect.unit (s := S1024x4096) ![512, 0] S256x4096.size inb_S1024x4096_S256x4096_512_0
abbrev rX3 : Rect S1024x4096 := Rect.unit (s := S1024x4096) ![768, 0] S256x4096.size inb_S1024x4096_S256x4096_768_0
abbrev rW : Rect S1x1x4096x512 := Rect.unit (s := S1x1x4096x512) ![0, 0, 0, 0] S1x1x4096x512.size inb_S1x1x4096x512_S1x1x4096x512_0_0_0_0

/-- What the body stores, last first: with four quarters the whole block at once, else quarter by quarter, a quarter with no
    tokens as zeros. -/
def pieces (w : BitVec 32) (x0 : Vec F S1024x4096 .bf16) (x1 x2 : Vec F S1x1x4096x512 .f32) : List (View.Piece (Elt F) S1024x512 .bf16) :=
  if k0_cond1 w = 1#1 then [⟨rAll, k0_pay1 (View.ld x0 rX) (View.ld x1 rW) (View.ld x2 rW)⟩]
  else [⟨rO3, if k0_cond9 w = 1#1 then k0_pay8 (View.ld x0 rX3) (View.ld x1 rW) (View.ld x2 rW) else k0_pay9⟩,
    ⟨rO2, if k0_cond7 w = 1#1 then k0_pay6 (View.ld x0 rX2) (View.ld x1 rW) (View.ld x2 rW) else k0_pay7⟩,
    ⟨rO1, if k0_cond5 w = 1#1 then k0_pay4 (View.ld x0 rX1) (View.ld x1 rW) (View.ld x2 rW) else k0_pay5⟩,
    ⟨rO0, if k0_cond3 w = 1#1 then k0_pay2 (View.ld x0 rX0) (View.ld x1 rW) (View.ld x2 rW) else k0_pay3⟩]

/-- The block the body leaves. -/
def block (w : BitVec 32) (x0 : Vec F S1024x4096 .bf16) (x1 x2 : Vec F S1x1x4096x512 .f32) : Vec F S1024x512 .bf16 := View.canon (pieces w x0 x1 x2)

/-- One store of the whole block covers it. -/
theorem cover_all (p : Vec F S1024x512 .bf16) (y : S1024x512.Idx) : ∃ pc ∈ ([⟨rAll, p⟩] : List (View.Piece (Elt F) S1024x512 .bf16)), y ∈ pc.1.set :=
  View.cover_of_tiled [⟨rAll, p⟩] S1024x512.size (by rfl) y

/-- The four quarters cover the block. -/
theorem cover_quarters (p0 p1 p2 p3 : Vec F S256x512 .bf16) (y : S1024x512.Idx) :
    ∃ pc ∈ ([⟨rO3, p3⟩, ⟨rO2, p2⟩, ⟨rO1, p1⟩, ⟨rO0, p0⟩] : List (View.Piece (Elt F) S1024x512 .bf16)), y ∈ pc.1.set :=
  View.cover_of_tiled [⟨rO3, p3⟩, ⟨rO2, p2⟩, ⟨rO1, p1⟩, ⟨rO0, p0⟩] S256x512.size (by rfl) y

/-- The body's conditions when `n` quarters hold tokens. -/
def Path (w : BitVec 32) (n : Fin 5) : Prop :=
  (k0_cond1 w = 1#1 ↔ n.val = 4) ∧ (k0_cond2 w = 1#1 ↔ n.val < 4) ∧ (k0_cond3 w = 1#1 ↔ 0 < n.val) ∧ (k0_cond4 w = 1#1 ↔ n.val ≤ 0)
    ∧ (k0_cond5 w = 1#1 ↔ 1 < n.val) ∧ (k0_cond6 w = 1#1 ↔ n.val ≤ 1) ∧ (k0_cond7 w = 1#1 ↔ 2 < n.val) ∧ (k0_cond8 w = 1#1 ↔ n.val ≤ 2)
    ∧ (k0_cond9 w = 1#1 ↔ 3 < n.val) ∧ (k0_cond10 w = 1#1 ↔ n.val ≤ 3)

/-- A comparison's word, widened and tested against zero, is one exactly when the comparison holds. -/
theorem tested (b : Bool) : (Scalar.cmpi .ne (Scalar.extui (BitVec.ofBool b) : BitVec 32) 0#32 = 1#1) ↔ b = true := by
  cases b <;> decide

/-- Every word up to four is on one of the paths, the one of its positive part. -/
theorem path_of_le (w : BitVec 32) (h : w.toInt ≤ 4) : Path w ⟨w.toInt.toNat, by omega⟩ := by
  have hs (k : BitVec 32) : (BitVec.slt w k = true) ↔ w.toInt < k.toInt := by simp [BitVec.slt]
  have hs' (k : BitVec 32) : (BitVec.slt k w = true) ↔ k.toInt < w.toInt := by simp [BitVec.slt]
  have hl (k : BitVec 32) : (BitVec.sle w k = true) ↔ w.toInt ≤ k.toInt := by simp [BitVec.sle]
  have he : ((w == 4#32) = true) ↔ w.toInt = 4 := by
    rw [beq_iff_eq, ← BitVec.toInt_inj]; rfl
  refine ⟨(tested _).trans (he.trans ?_), (tested _).trans ((hs _).trans ?_), (tested _).trans ((hs' _).trans ?_), (tested _).trans ((hl _).trans ?_),
    (tested _).trans ((hs' _).trans ?_), (tested _).trans ((hl _).trans ?_), (tested _).trans ((hs' _).trans ?_), (tested _).trans ((hl _).trans ?_),
    (tested _).trans ((hs' _).trans ?_), (tested _).trans ((hl _).trans ?_)⟩
  all_goals
    simp only [show (0#32 : BitVec 32).toInt = 0 from rfl, show (1#32 : BitVec 32).toInt = 1 from rfl, show (2#32 : BitVec 32).toInt = 2 from rfl,
      show (3#32 : BitVec 32).toInt = 3 from rfl, show (4#32 : BitVec 32).toInt = 4 from rfl]
    omega

set_option maxHeartbeats 4000000 in
/-- The body, from its inputs' blocks and the tables, leaves the block in the output's buffer and everything else as it was. -/
theorem body_runs (c : Dev nD) (E : Set ℕ) (i : grid0.Coords) (arg4 : Memref sig .tc .vmem S1024x4096 .bf16) (harg4 : arg4.IsWhole)
    (arg5 : Memref sig .tc .vmem S1x1x4096x512 .f32) (harg5 : arg5.IsWhole) (arg6 : Memref sig .tc .vmem S1x1x4096x512 .f32) (harg6 : arg6.IsWhole)
    (arg7 : Memref sig .tc .vmem S1024x512 .bf16) (harg7 : arg7.IsWhole) (T0 T1 : S26.Idx → BitVec 32) (n : Fin 5) (hn : Path (word (F := F) i T1) n)
    (x0 : Vec F S1024x4096 .bf16) (x1 x2 : Vec F S1x1x4096x512 .f32) (K : PUnit → sProp 𝕄) :
    iprop(owns (c : Thread nD τ) arg4 fullShare x0 ∗ owns (c : Thread nD τ) arg5 fullShare x1 ∗ owns (c : Thread nD τ) arg6 fullShare x2
        ∗ (experts.view.loc (c : Thread nD τ) ↦{fullShare.right} T0) ∗ (quarters.view.loc (c : Thread nD τ) ↦{fullShare.right} T1)
        ∗ (∃ d, owns (c : Thread nD τ) arg7 fullShare d)
        ∗ (iprop(owns (c : Thread nD τ) arg4 fullShare x0 ∗ owns (c : Thread nD τ) arg5 fullShare x1 ∗ owns (c : Thread nD τ) arg6 fullShare x2
            ∗ (experts.view.loc (c : Thread nD τ) ↦{fullShare.right} T0) ∗ (quarters.view.loc (c : Thread nD τ) ↦{fullShare.right} T1)
            ∗ owns (c : Thread nD τ) arg7 fullShare (block (word (F := F) i T1) x0 x1 x2)) -∗ K ⟨⟩))
      ⊢ wp frame (wpE (defs₀ (F := F)) Variants.none c none) E (cc0_expert_glu i experts (Memref.isWhole_whole _) quarters (Memref.isWhole_whole _) arg4 harg4 arg5 harg5 arg6 harg6 arg7 harg7) K := by
  obtain ⟨k1, k2, k3, k4, k5, k6, k7, k8, k9, k10⟩ := hn
  have ho1 (v : Buf (Elt F) (arg7.view.loc (c : Thread nD τ))) (p : List (View.Piece (Elt F) S1024x512 .bf16)) (hp : p = pieces (word (F := F) i T1) x0 x1 x2) :
      arg7.view.read (Elt F) (arg7.view.writes (Elt F) v p) = block (word (F := F) i T1) x0 x1 x2 := by
    subst hp
    refine View.read_writes_eq_canon _ _ _ fun y => ?_
    unfold pieces; split
    · exact cover_all _ y
    · exact cover_quarters _ _ _ _ y
  unfold pieces at ho1
  rw [cc0_expert_glu_eq_skeleton]; unfold cc0_expert_glu_skel
  unfold owns
  have hT0 : experts.IsWhole := Memref.isWhole_whole _
  have hT1 : quarters.IsWhole := Memref.isWhole_whole _
  iintro ⟨⟨%f0, %hf0, H0⟩, ⟨%f1, %hf1, H1⟩, ⟨%f2, %hf2, H2⟩, HT0, HT1, ⟨%d3, %f3, -, H3⟩, Hk⟩
  subst hf0 hf1 hf2
  fin_cases n
  all_goals
    simp only [Fin.isValue, Fin.mk_zero, Fin.mk_one, Fin.reduceFinMk, Fin.val_zero, Fin.val_one, Fin.coe_ofNat_eq_mod, Nat.reduceMod, Nat.reduceEqDiff, Nat.reduceLT, Nat.reduceLeDiff,
      zero_lt_one, Nat.lt_irrefl, Nat.le_refl, iff_true, iff_false, OfNat.ofNat_ne_zero, OfNat.zero_ne_ofNat, OfNat.one_ne_ofNat] at k1 k2 k3 k4 k5 k6 k7 k8 k9 k10
    simp only [k1, k3, k5, k7, k9, if_true, if_false] at ho1
    sl_exec! (disch := first | with_reducible assumption | assumption)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [HT0]; · iexact HT0
    isplitl [HT1]; · iexact HT1
    iexists _; isplitr
    swap; · iexact H3
    ipureintro
    exact ho1 _ _ rfl

/-! ## The tables -/

/-- The tables are in range: every entry of table 0 names one of the eight experts, every entry of table 1 is at most four. -/
def InRange (pf : pre0.Contents (Elt F)) : Prop :=
  (∀ x : S26.Idx, 0 ≤ BitVec.toInt (pf 0 x) ∧ BitVec.toInt (pf 0 x) < 8) ∧ ∀ x : S26.Idx, BitVec.toInt (pf 1 x) ≤ 4

/-- A word that is not negative reads the same without its sign. -/
theorem toNat_of_nonneg (w : BitVec 32) (h : 0 ≤ w.toInt) : (w.toNat : ℤ) = w.toInt := by
  rw [BitVec.toInt_eq_toNat_cond] at h ⊢; split at h <;> split <;> omega

/-- The weights' blocks lie inside their arrays. -/
theorem weights_inside (pf : pre0.Contents (Elt F)) (hr : InRange pf) (i : grid0.Coords) (a : Fin 4) :
    (cc0_transform_1 k0_off1_inb numel1_S1 pf i a + 1) * S1x1x4096x512.size a ≤ S1x8x4096x14336.size a := by
  have h0 := hr.1 ((Rect.unit (s := S26) (k0_off1 i) S1.size (k0_off1_inb i)).emb (Shape.Idx.first (numel1_S1.symm ▸ Nat.one_pos)))
  have hw := toNat_of_nonneg _ h0.1
  have hi : (i 1).val < 28 := (i 1).isLt
  fin_cases a
  · show (0 + 1) * 1 ≤ 1; omega
  · show (BitVec.toNat (pf 0 ((Rect.unit (s := S26) (k0_off1 i) S1.size (k0_off1_inb i)).emb (Shape.Idx.first (numel1_S1.symm ▸ Nat.one_pos)))) + 1) * 1 ≤ 8
    omega
  · show (0 + 1) * 4096 ≤ 4096; omega
  · show (BitVec.toNat (Scalar.select _ (BitVec.ofNat 32 (i 1).val) 27#32) + 1) * 512 ≤ 14336
    unfold Scalar.select
    split
    · rw [BitVec.toNat_ofNat]; omega
    · show (27 + 1) * 512 ≤ 14336; omega

/-- Tables in range are admitted by the pipeline. -/
theorem admitted (pf : pre0.Contents (Elt F)) (hr : InRange pf) : ok0 pf :=
  ⟨fun i => ⟨weights_inside pf hr i, .inl rfl⟩, fun i => ⟨weights_inside pf hr i, .inl rfl⟩⟩

section Run

variable (pf : pre0.Contents (Elt F)) (hr : InRange pf)
variable (m : (ℓ : Loc nD τ sig) → Buf (Elt F) ℓ) (ρ : Dev nD → PrngReg)

abbrev EP : Emb (UR sig nD τ) 𝕄 := emb₁
def adm : (pcfg0 (F := F)).Adm := ⟨pf, admitted pf hr⟩
abbrev cfgA : Pipeline.Cfg sig Λ₀ := cfg0 (F := F) (adm pf hr)
abbrev pcs : Fin 1 → Pipeline.Cfg sig Λ₀ := Pipeline.pin (pcfgs (F := F)) fun _ => adm pf hr
abbrev crd (t : Fin (cfgA pf hr).N) : (cfgA pf hr).grid.Coords := (cfgA pf hr).grid.coords t

/-- The launch memory's tables are these. -/
def Holds : Prop := ∀ (c : Dev nD) (j : Fin 2), m ((c : Thread nD τ).loc (pre0.ref j)) = pf j

/-- The word of table 1 at a grid point. -/
abbrev wordAt (i : grid0.Coords) : BitVec 32 := word (F := F) i (pf 1)

include hr in
/-- A point is on one of the body's paths. -/
theorem path (i : grid0.Coords) : ∃ n, Path (wordAt pf i) n := ⟨_, path_of_le _ (hr.2 _)⟩

/-- No point leaves the output alone. -/
theorem busy (i : grid0.Coords) : (cfgA pf hr).idle (3 : Fin 4) i = false := by
  obtain ⟨n, h1, h2, h3, h4, -⟩ := path pf hr i
  have hw : Pipeline.Prefetch.Contents.atD pf 1 (k0_off1 i) = wordAt pf i := by
    have hin : ∀ a, k0_off1 i a + 1 ≤ S26.size a := fun a => by rw [Fin.fin_one_eq_zero a]; exact k0_off1_inb i 0
    show (if h : ∀ a, k0_off1 i a + 1 ≤ S26.size a then pf 1 (fun a => ⟨k0_off1 i a, h a⟩ : S26.Idx) else default) = _
    rw [dif_pos hin]
    refine congrArg (pf 1) (funext fun a => Fin.ext ?_)
    show k0_off1 i a = k0_off1 i a + 0 * 1
    omega
  show (idle0 pf 3 i) = false
  simp only [idle0, hw]
  rcases Nat.lt_or_ge n.val 4 with h | h
  · rcases Nat.eq_zero_or_pos n.val with h' | h'
    · simp [h2.mpr h, h4.mpr (Nat.le_of_eq h')]
    · simp [h2.mpr h, h3.mpr h']
  · simp [h1.mpr (by omega)]

/-- Each window's buffer at a point. -/
abbrev buf0 (t : Fin (cfgA pf hr).N) : Memref sig .tc .vmem S1024x4096 .bf16 := spec0_0.stage ((cfgA pf hr).slots t (0 : Fin 4))
abbrev whole0 (t : Fin (cfgA pf hr).N) : (buf0 pf hr t).IsWhole := hstage0_0 (((cfgA pf hr).slots t (0 : Fin 4)).cast nbuf0_0)
abbrev buf1 (t : Fin (cfgA pf hr).N) : Memref sig .tc .vmem S1x1x4096x512 .f32 := spec0_1.stage ((cfgA pf hr).slots t (1 : Fin 4))
abbrev whole1 (t : Fin (cfgA pf hr).N) : (buf1 pf hr t).IsWhole := hstage0_1 (((cfgA pf hr).slots t (1 : Fin 4)).cast nbuf0_1)
abbrev buf2 (t : Fin (cfgA pf hr).N) : Memref sig .tc .vmem S1x1x4096x512 .f32 := spec0_2.stage ((cfgA pf hr).slots t (2 : Fin 4))
abbrev whole2 (t : Fin (cfgA pf hr).N) : (buf2 pf hr t).IsWhole := hstage0_2 (((cfgA pf hr).slots t (2 : Fin 4)).cast nbuf0_2)
abbrev buf3 (t : Fin (cfgA pf hr).N) : Memref sig .tc .vmem S1024x512 .bf16 := spec0_3.stage ((cfgA pf hr).slots t (3 : Fin 4))
abbrev whole3 (t : Fin (cfgA pf hr).N) : (buf3 pf hr t).IsWhole := hstage0_3 (((cfgA pf hr).slots t (3 : Fin 4)).cast nbuf0_3)

/-- Window `w`'s block at a point, read off its array at launch. -/
def iblk (c : Dev nD) (w : Fin (cfgA pf hr).W) (t : Fin (cfgA pf hr).N) :
    (((cfgA pf hr).win w).xblock (crd pf hr t)).Idx → Elt F ((cfgA pf hr).win w).elt :=
  (((cfgA pf hr).win w).blk t).view.read (Elt F) (m (((cfgA pf hr).win w).arr.view.loc (c : Thread nD τ)))

/-- What stays with the body from point to point: its halves of the tables. -/
def Tables (c : Dev nD) : sProp 𝕄 :=
  iprop((experts.view.loc (c : Thread nD τ) ↦{fullShare.right} pf 0) ∗ (quarters.view.loc (c : Thread nD τ) ↦{fullShare.right} pf 1))

/-- The pipeline's data: each input's buffer keeps its block, the output's holds the body's. -/
def dats (_ : Fin 1) (c : Dev nD) : Dat τ (Elt F) Unit ℕ (UR sig nD τ) ℕ (cfgA pf hr) c where
  A w := m (((cfgA pf hr).win w).arr.view.loc (c : Thread nD τ))
  after w t := match w with
    | ⟨0, _⟩ => iblk pf hr m c (0 : Fin 4) t
    | ⟨1, _⟩ => iblk pf hr m c (1 : Fin 4) t
    | ⟨2, _⟩ => iblk pf hr m c (2 : Fin 4) t
    | ⟨3, _⟩ => block (wordAt pf (crd pf hr t)) (iblk pf hr m c (0 : Fin 4) t) (iblk pf hr m c (1 : Fin 4) t) (iblk pf hr m c (2 : Fin 4) t)
  Φ _ := Tables pf c
  q _ := fullShare
  owed _ := 0

theorem after_0 (c : Dev nD) (t : Fin (cfgA pf hr).N) : (dats pf hr m 0 c).after (0 : Fin 4) t = iblk pf hr m c (0 : Fin 4) t := rfl
theorem after_1 (c : Dev nD) (t : Fin (cfgA pf hr).N) : (dats pf hr m 0 c).after (1 : Fin 4) t = iblk pf hr m c (1 : Fin 4) t := rfl
theorem after_2 (c : Dev nD) (t : Fin (cfgA pf hr).N) : (dats pf hr m 0 c).after (2 : Fin 4) t = iblk pf hr m c (2 : Fin 4) t := rfl
theorem after_3 (c : Dev nD) (t : Fin (cfgA pf hr).N) : (dats pf hr m 0 c).after (3 : Fin 4) t
    = block (wordAt pf (crd pf hr t)) (iblk pf hr m c (0 : Fin 4) t) (iblk pf hr m c (1 : Fin 4) t) (iblk pf hr m c (2 : Fin 4) t) := rfl

/-- Each input's buffer holds its block when the body runs. -/
theorem before_0 (c : Dev nD) (t : Fin (cfgA pf hr).N) (d) : (dats pf hr m 0 c).before (0 : Fin 4) t d = iblk pf hr m c (0 : Fin 4) t :=
  ((dats pf hr m 0 c).before_in_eq_fetched (0 : Fin 4) rfl (fun _ => rfl) (fun _ _ _ => rfl) (fun t => by rw [after_0]; unfold Dat.blockOf iblk; rfl) t d).trans
    (by unfold Dat.fetched Dat.blockOf iblk; rfl)
theorem before_1 (c : Dev nD) (t : Fin (cfgA pf hr).N) (d) : (dats pf hr m 0 c).before (1 : Fin 4) t d = iblk pf hr m c (1 : Fin 4) t :=
  ((dats pf hr m 0 c).before_in_eq_fetched (1 : Fin 4) rfl (fun _ => rfl) (fun _ _ _ => rfl) (fun t => by rw [after_1]; unfold Dat.blockOf iblk; rfl) t d).trans
    (by unfold Dat.fetched Dat.blockOf iblk; rfl)
theorem before_2 (c : Dev nD) (t : Fin (cfgA pf hr).N) (d) : (dats pf hr m 0 c).before (2 : Fin 4) t d = iblk pf hr m c (2 : Fin 4) t :=
  ((dats pf hr m 0 c).before_in_eq_fetched (2 : Fin 4) rfl (fun _ => rfl) (fun _ _ _ => rfl) (fun t => by rw [after_2]; unfold Dat.blockOf iblk; rfl) t d).trans
    (by unfold Dat.fetched Dat.blockOf iblk; rfl)

set_option maxHeartbeats 4000000 in
/-- The body at every point, as the pipeline asks it. -/
theorem body (c : Dev nD) : BodyObligation (dats pf hr m 0 c) (defs₀ (F := F)) Variants.none () Set.univ := fun t => by
  obtain ⟨n, hn⟩ := path pf hr (crd pf hr t)
  rw [bigSep_W0, bigSep_W0]
  have hb : (cfgA pf hr).idle (3 : Fin 4) ((cfgA pf hr).grid.coords t) = false := busy pf hr _
  rewrite [hb]
  simp only [before_0, before_1, before_2, after_0, after_1, after_2, after_3]
  rewrite [show (dats pf hr m 0 c).Φ t.succ = Tables pf c from rfl, show (dats pf hr m 0 c).Φ t.castSucc = Tables pf c from rfl,
    show (dats pf hr m 0 c).owesAt () t.succ = (dats pf hr m 0 c).owesAt () t.castSucc from rfl]
  unfold Tables
  iintro ⟨⟨HT0, HT1⟩, Ho, ⟨%d0, H0⟩, ⟨%d1, H1⟩, ⟨%d2, H2⟩, ⟨%d3, H3⟩⟩
  iapply (body_runs c Set.univ (crd pf hr t) (buf0 pf hr t) (whole0 pf hr t) (buf1 pf hr t) (whole1 pf hr t) (buf2 pf hr t) (whole2 pf hr t) (buf3 pf hr t) (whole3 pf hr t)
    (pf 0) (pf 1) n hn (iblk pf hr m c (0 : Fin 4) t) (iblk pf hr m c (1 : Fin 4) t) (iblk pf hr m c (2 : Fin 4) t) _)
  isplitl [H0]; · iexact H0
  isplitl [H1]; · iexact H1
  isplitl [H2]; · iexact H2
  isplitl [HT0]; · iexact HT0
  isplitl [HT1]; · iexact HT1
  isplitl [H3]; · iexists _; iexact H3
  iintro ⟨H0, H1, H2, HT0, HT1, H3⟩
  isplitl [HT0 HT1]
  · isplitl [HT0]
    · iexact HT0
    iexact HT1
  isplitl [Ho]; · iexact Ho
  isplitl [H0]; · iexact H0
  isplitl [H1]; · iexact H1
  isplitl [H2]; · iexact H2
  iexact H3

/-! ## The launch -/

theorem share_eq (c : Dev nD) (w : Fin (cfgA pf hr).W) : (dats pf hr m 0 c).share w = fullShare := by unfold Dat.share; split <;> rfl

/-- The tables, as the launch hands them over, one by one. -/
theorem held_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg3) ↦{q 0} v 0) ∗ (((c : Thread nD τ).loc main_arg4) ↦{q 1} v 1)) := by
  unfold Pipeline.prefHeld
  rw [show (Finset.univ : Finset (Fin 2)) = insert (0 : Fin 2) {(1 : Fin 2)} from by decide, bigSep_insert (by decide), bigSep_singleton]
  rfl

set_option backward.isDefEq.respectTransparency.types false in
set_option maxHeartbeats 4000000 in
/-- From a memory holding these tables every run ends, with each array at what the pipeline computes, the tables as they were and
    every semaphore at zero. -/
theorem run (hm : Holds pf m) : θ_run (defs (F := F)) (onTc (τ := τ) (main (F := F))) ⟨m, fun _ => 0, ρ⟩ fun r =>
    (∀ c : Dev nD, (∀ w : Fin (cfgA pf hr).W, r.2.mem (((cfgA pf hr).win w).arr.view.loc (c : Thread nD τ)) = (dats pf hr m 0 c).arrAt w (cfgA pf hr).N)
      ∧ ∀ j, r.2.mem ((c : Thread nD τ).loc (pre0.ref j)) = pf j) ∧ r.2.sem = fun _ => 0 :=
  Pipeline.θ_run_region_noSem_pf_quiescent pcfgs (fun _ => adm pf hr) (dats pf hr m) () ((launch0 (F := F)).cellOf_inj fun _ => adm pf hr) (0 : Fin 1)
    (launch0 (F := F)).win.to₀ (launch0 (F := F)).pre EP defs₀ Variants.none m ρ main
    (hbody := fun c => (body pf hr m c).loose) (hne := (launch0 (F := F)).block_pos)
    (harr := (launch0 (F := F)).arr_whole) (hstage := (launch0 (F := F)).stage_whole) (howed := fun _ _ => rfl)
    (u₀ := initOf (Pipeline.cells (pcs pf hr) ((launch0 (F := F)).cellOf_inj fun _ => adm pf hr)) (Pipeline.launchToks (pcs pf hr) ((launch0 (F := F)).cellOf_inj fun _ => adm pf hr)))
    (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs pf hr) (dats pf hr m) 0 (launch0 (F := F)).win.arr_inj c (launch0 (F := F)).arr_whole
      (share_eq pf hr m c) _ _ fun _ => rfl)
    (hpf := hm)
    (X := fun _ => iprop(emp)) (Y := fun _ => iprop(emp)) (Z := fun _ => iprop(emp))
    (hX := fun c => by rw [unscopedRestP0_eq]; iintro -; isplitr <;> iempintro)
    (hin := fun c => by
      show iprop(BI.emp ∗ Pipeline.prefHeld pre0 c (fun _ => fullShare.right) (adm pf hr).1 ∗ Pipeline.scopedRest spec0 c) ⊢ Tables pf c
      rw [held_eq, scopedRest0_eq]; unfold Tables
      iintro ⟨-, ⟨HT0, HT1⟩, -⟩
      isplitl [HT0]
      · iexact HT0
      iexact HT1)
    (hout := fun c => by
      show Tables pf c ⊢ iprop(BI.emp ∗ Pipeline.scopedRest spec0 c)
      rw [scopedRest0_eq]; unfold Tables
      iintro ⟨-, -⟩
      isplitr; · iempintro
      iempintro)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

include hr in
/-- Every run ends with the arguments unchanged and every semaphore at zero. -/
theorem frame (hm : Holds pf m) : θ_run (defs (F := F)) (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0 :=
  (θ_run defs _ _).mono (fun _ h => ⟨fun c => ⟨((h.1 c).1 (0 : Fin 4)).trans ((dats pf hr m 0 c).arrAt_in (0 : Fin 4) rfl _),
    ((h.1 c).1 (1 : Fin 4)).trans ((dats pf hr m 0 c).arrAt_in (1 : Fin 4) rfl _), ((h.1 c).1 (2 : Fin 4)).trans ((dats pf hr m 0 c).arrAt_in (2 : Fin 4) rfl _),
    ((h.1 c).2 0).trans (hm c 0).symm, ((h.1 c).2 1).trans (hm c 1).symm⟩, h.2⟩) (run pf hr m ρ hm)

end Run

end Cert.Experts

end
-- ==== Proof.Slabs.lean ====
module

public import Idealize.ShloMosaic.Lib.ValueIdx
public import Idealize.ShloMosaic.Lib.StableHlo
public import Idealize.ShloMosaic.Lib.KernelVsHost
public import Idealize.ShloMosaic.Lib.Pipeline.ValueKit

/-! A stack of matrices gathered by a table of words, read at an index. -/

@[expose] public section

noncomputable section

namespace Cert.Slabs

open Idealize.ShloMosaic

/-- The dimension numbers of `w[t]` for a stack `w` of `N` matrices and a table `t` of `n` words. -/
abbrev dims (N R C n : Nat) (wf : GatherDims.WF ⟨3, ![N, R, C]⟩ ⟨2, ![n, 1]⟩ ⟨3, ![n, R, C]⟩ [1, 2] [0] [] [0] [] 1 ![1, R, C]) :
    GatherDims ⟨3, ![N, R, C]⟩ ⟨2, ![n, 1]⟩ ⟨3, ![n, R, C]⟩ where
  offsetDims := [1, 2]
  collapsedSliceDims := [0]
  operandBatchingDims := []
  startIndicesBatchingDims := []
  startIndexMap := [0]
  indexVectorDim := 1
  sliceSizes := ![1, R, C]
  wf := wf

/-- The gathered stack at an index, where the table's word is the number of a matrix. -/
theorem gather_at {α : Type} {N R C n : Nat}
    (wf : GatherDims.WF ⟨3, ![N, R, C]⟩ ⟨2, ![n, 1]⟩ ⟨3, ![n, R, C]⟩ [1, 2] [0] [] [0] [] 1 ![1, R, C])
    (x : (⟨3, ![N, R, C]⟩ : Shape).Idx → α) (t : IVec ⟨2, ![n, 1]⟩ 32) (b : Fin n) (k : Fin R) (e : Fin C) (g : Fin N)
    (hg : (t (ix2 b (0 : Fin 1))).toInt = g.val) :
    Host.gather (dims N R C n wf) x t (ix3 b k e) = x (ix3 g k e) := by
  unfold Host.gather
  refine congrArg x (funext fun a => Fin.ext ?_)
  show (dims N R C n wf).start (ix3 b k e) t a + (dims N R C n wf).batchCoord (ix3 b k e) a + (dims N R C n wf).offCoord (ix3 b k e) a = _
  rw [GatherDims.batchCoord_eq_zero _ _ _ List.not_mem_nil]
  have hN := g.isLt
  match a with
  | ⟨0, h0⟩ =>
    rw [GatherDims.offCoord_eq_zero _ _ _ (fun h => ((GatherDims.mem_sKept _ _).mp h).1 (List.mem_singleton.mpr rfl))]
    unfold GatherDims.start
    rw [dif_pos (show (⟨0, h0⟩ : Fin 3) ∈ (dims N R C n wf).startIndexMap from List.mem_singleton.mpr rfl)]
    have hs : (dims N R C n wf).siIdx (ix3 b k e) ⟨List.idxOf (⟨0, h0⟩ : Fin 3) (dims N R C n wf).startIndexMap,
        List.idxOf_lt_length_iff.2 (List.mem_singleton.mpr rfl)⟩ = ix2 b (0 : Fin 1) := by
      funext d; refine Fin.ext ?_
      match d with
      | ⟨0, _⟩ => rfl
      | ⟨1, _⟩ => rfl
    rw [hs, hg]
    show min (g.val : Int).toNat (N - 1) + 0 + 0 = g.val
    omega
  | ⟨1, h1⟩ =>
    have hm : (⟨1, h1⟩ : Fin 3) ∉ (dims N R C n wf).startIndexMap := fun h => absurd (congrArg Fin.val (List.mem_singleton.mp h)) Nat.one_ne_zero
    unfold GatherDims.start
    rw [dif_neg hm]
    show 0 + 0 + k.val = k.val
    omega
  | ⟨2, h2⟩ =>
    have hm : (⟨2, h2⟩ : Fin 3) ∉ (dims N R C n wf).startIndexMap := fun h => absurd (congrArg Fin.val (List.mem_singleton.mp h)) (Nat.succ_ne_zero 1)
    unfold GatherDims.start
    rw [dif_neg hm]
    show 0 + 0 + e.val = e.val
    omega

end Cert.Slabs

end
-- ==== Proof.Experts.lean ====
module

public import proofs.«01_k».proof.Proof.ExpertsRun
public import proofs.«01_k».proof.Proof.Slabs
public import proofs.«01_k».proof.Proof.Gen.Kernel3
public import proofs.«01_k».proof.Proof.Gen.Reference3Ideal.Run
public import proofs.«01_k».proof.Proof.Gen.Pre_tables_in_range
public import Idealize.ShloMosaic.Lib.KernelVsHost
public import proofs.«01_k».proof.Defs

/-! The experts' gated product (`expert_glu`): a row block's live rows hold the gated product with its expert's weights, its
    other rows zeros. -/

@[expose] public section

set_option maxRecDepth 16384

noncomputable section

namespace Cert.Experts

open Idealize.ShloMosaic Idealize.ShloMosaic.TcCoe Idealize.SL.Sem
open Idealize.ShloMosaic.Pipeline (Dat)
open Cert.Kernel3Ideal Cert.Kernel3Ideal.Gen

/-! ## The precondition -/

/-- The precondition's four comparisons, as bounds of the two words. -/
theorem words (e q : BitVec 32) (hb : ((BitVec.ofBool (BitVec.sle 0#32 e) &&& BitVec.ofBool (BitVec.slt e 8#32)) &&& BitVec.ofBool (BitVec.sle 0#32 q))
      &&& BitVec.ofBool (BitVec.sle q 4#32) = 1#1) : (0 ≤ e.toInt ∧ e.toInt < 8) ∧ 0 ≤ q.toInt ∧ q.toInt ≤ 4 := by
  have h1 : BitVec.sle 0#32 e = true ∧ BitVec.slt e 8#32 = true ∧ BitVec.sle 0#32 q = true ∧ BitVec.sle q 4#32 = true := by
    revert hb
    cases BitVec.sle 0#32 e <;> cases BitVec.slt e 8#32 <;> cases BitVec.sle 0#32 q <;> cases BitVec.sle q 4#32 <;> decide
  obtain ⟨h1, h2, h3, h4⟩ := h1
  have z : (0#32 : BitVec 32).toInt = 0 := rfl
  have z8 : (8#32 : BitVec 32).toInt = 8 := rfl
  have z4 : (4#32 : BitVec 32).toInt = 4 := rfl
  simp only [BitVec.sle, BitVec.slt, decide_eq_true_eq, z, z8, z4] at h1 h2 h3 h4
  exact ⟨⟨h1, h2⟩, h3, h4⟩

/-- The precondition, entry by entry. -/
theorem decode {F : FTy → Type} [FloatOps F] (x : FVec F S26624x4096 .bf16) (w1 w3 : FVec F S1x8x4096x14336 .f32) (be ns : IVec S26 32)
    (h : Cert.Pre_tables_in_range.fn x w1 w3 be ns = fun _ => 1#1) (b : S26.Idx) :
    (0 ≤ (be b).toInt ∧ (be b).toInt < 8) ∧ 0 ≤ (ns b).toInt ∧ (ns b).toInt ≤ 4 := by
  have hb : ((BitVec.ofBool (BitVec.sle 0#32 (be b)) &&& BitVec.ofBool (BitVec.slt (be b) 8#32)) &&& BitVec.ofBool (BitVec.sle 0#32 (ns b)))
      &&& BitVec.ofBool (BitVec.sle (ns b) 4#32) = 1#1 := congrFun h b
  exact words _ _ hb

section Tables

variable {F : FTy → Type} [FloatOps F] (m : (ℓ : Loc nD τ sig) → Buf (Elt F) ℓ)

/-- The tables of a memory. -/
def tables : pre0.Contents (Elt F) := fun j => m (((0 : Dev nD) : Thread nD τ).loc (pre0.ref j))

/-- There is one device. -/
theorem holds : Holds (tables m) m := fun c j => by obtain rfl : c = 0 := Subsingleton.elim _ _; rfl

end Tables

/-- Every run of the kernel ends with its arguments unchanged and its counters at zero. -/
theorem frame_Kernel3Ideal : Cert.quiescent_Kernel3Ideal := fun m ρ hp => by
  have hd := decode _ _ _ _ _ (hp 0)
  exact frame (tables m) ⟨fun x => (hd x).1, fun x => (hd x).2.2⟩ m ρ (holds m)

/-- The body's table as printed for the device is the one the run is stated for. -/
theorem defs₀_eq {F : FTy → Type} [FloatOps F] : Cert.Kernel3.defs₀ (F := F) = Cert.Kernel3Ideal.defs₀ (F := F) := by
  unfold Cert.Kernel3.defs₀ Cert.Kernel3Ideal.defs₀
  refine congrArg Defs.onTc (funext fun a => funext fun b => ?_)
  obtain rfl : a = (0 : Fin 1) := Subsingleton.elim (α := Fin 1) _ _
  rfl

/-- And so are the program's functions. -/
theorem defs_eq {F : FTy → Type} [FloatOps F] : Cert.Kernel3.defs (F := F) = Cert.Kernel3Ideal.defs (F := F) :=
  congrArg (Pipeline.defs (Cert.Kernel3Ideal.pcfgs (F := F))) defs₀_eq

/-- Every run of the kernel on the device's numbers ends with its arguments unchanged and its counters at zero. -/
theorem frame_Kernel3 : Cert.quiescent_Kernel3 := fun m ρ hp => by
  have hd := decode _ _ _ _ _ (hp 0)
  rw [defs_eq]
  exact frame (F := Bits) (tables (F := Bits) m) ⟨fun x => (hd x).1, fun x => (hd x).2.2⟩ m ρ (holds (F := Bits) m)

/-! ## The value -/

/-- A row of a block with a column of a weight's block. -/
abbrev part (x : Vec Ideal S1024x4096 .bf16) (w : Vec Ideal S1x1x4096x512 .f32) (a : Fin 1024) (b : Fin 512) : EReal :=
  ∑ k : Fin 4096, x (ix2 a k) * w (ix4 0 0 k b)

/-- The gated product of two numbers. -/
abbrev gate (u v : EReal) : EReal := u * Ideal.div 1 (1 + Ideal.exp (0 - u)) * v

/-- The block the body leaves, when `n` quarters hold tokens. -/
def blockOf (n : Nat) (x0 : Vec Ideal S1024x4096 .bf16) (x1 x2 : Vec Ideal S1x1x4096x512 .f32) : Vec Ideal S1024x512 .bf16 := fun y =>
  if (y 0).val < 256 * n then gate (part x0 x1 (y 0) (y 1)) (part x0 x2 (y 0) (y 1)) else 0

theorem pay_all (x0 : Vec Ideal S1024x4096 .bf16) (x1 x2 : Vec Ideal S1x1x4096x512 .f32) (a : Fin 1024) (b : Fin 512) :
    k0_pay1 (F := Ideal) x0 x1 x2 (ix2 a b) = gate (part x0 x1 a b) (part x0 x2 a b) := by
  pointwise [k0_pay1]

theorem pay_quarter (x0 : Vec Ideal S256x4096 .bf16) (x1 x2 : Vec Ideal S1x1x4096x512 .f32) (a : Fin 256) (b : Fin 512) :
    k0_pay2 (F := Ideal) x0 x1 x2 (ix2 a b) = gate (∑ k : Fin 4096, x0 (ix2 a k) * x1 (ix4 0 0 k b)) (∑ k : Fin 4096, x0 (ix2 a k) * x2 (ix4 0 0 k b)) := by
  pointwise [k0_pay2]

theorem pay_dead (y : S256x512.Idx) : k0_pay3 (F := Ideal) y = 0 := by
  pointwise [k0_pay3]

/-- A quarter's load off the block of rows, at an index. -/
theorem ld_quarter (o : Nat) (inb : ∀ a, (![o, 0] : Fin 2 → Nat) a + S256x4096.size a ≤ S1024x4096.size a) (x0 : Vec Ideal S1024x4096 .bf16) (a : Fin 256) (k : Fin 4096)
    (ho : o + a.val < 1024) :
    View.ld x0 (Rect.unit (s := S1024x4096) ![o, 0] S256x4096.size inb) (ix2 a k) = x0 (ix2 ⟨o + a.val, ho⟩ k) := by
  show x0 _ = x0 _
  refine congrArg x0 (funext fun d => Fin.ext ?_)
  match d with
  | ⟨0, _⟩ => show o + 1 * a.val = o + a.val; omega
  | ⟨1, _⟩ => show 0 + 1 * k.val = k.val; omega

/-- The load of a whole weight's block is the block. -/
theorem ld_weight (x : Vec Ideal S1x1x4096x512 .f32) : View.ld x rW = x :=
  View.ld_unit_lit' inb_S1x1x4096x512_S1x1x4096x512_0_0_0_0 x (by decide)

/-- A quarter's stored rows are the block's, `o` the quarter's first row. -/
theorem quarter (n o : Nat) (live : Prop) [Decidable live] (inb : ∀ a, (![o, 0] : Fin 2 → Nat) a + S256x4096.size a ≤ S1024x4096.size a)
    (inb' : ∀ a, (![o, 0] : Fin 2 → Nat) a + S256x512.size a ≤ S1024x512.size a) (x0 : Vec Ideal S1024x4096 .bf16) (x1 x2 : Vec Ideal S1x1x4096x512 .f32)
    (hl : live ↔ o < 256 * n) (h256 : 256 ∣ o) (x : S256x512.Idx) :
    (if live then k0_pay2 (F := Ideal) (View.ld x0 (Rect.unit (s := S1024x4096) ![o, 0] S256x4096.size inb)) (View.ld x1 rW) (View.ld x2 rW) else k0_pay3 (F := Ideal)) x
      = blockOf n x0 x1 x2 ((Rect.unit (s := S1024x512) ![o, 0] S256x512.size inb').emb x) := by
  obtain ⟨a, b, rfl⟩ : ∃ (a : Fin 256) (b : Fin 512), x = ix2 a b := ⟨x 0, x 1, by funext d; match d with | ⟨0, _⟩ => rfl | ⟨1, _⟩ => rfl⟩
  have ho : o + 256 ≤ 1024 := inb 0
  have ha : o + a.val < 1024 := by omega
  have he : (Rect.unit (s := S1024x512) ![o, 0] S256x512.size inb').emb (ix2 a b) = ix2 ⟨o + a.val, ha⟩ b := by
    funext d
    refine Fin.ext ?_
    match d with
    | ⟨0, _⟩ => show o + 1 * a.val = o + a.val; omega
    | ⟨1, _⟩ => show 0 + 1 * b.val = b.val; omega
  rw [he]
  have hd : live ↔ o + a.val < 256 * n := hl.trans (by omega)
  show _ = if o + a.val < 256 * n then gate (part x0 x1 ⟨o + a.val, ha⟩ b) (part x0 x2 ⟨o + a.val, ha⟩ b) else 0
  by_cases h : live
  · rw [if_pos h, if_pos (hd.mp h), pay_quarter]
    exact congrArg₂ gate
      (Finset.sum_congr rfl fun k _ => congrArg₂ (fun p q : EReal => p * q) (ld_quarter o inb x0 a k ha) (congrFun (ld_weight x1) _))
      (Finset.sum_congr rfl fun k _ => congrArg₂ (fun p q : EReal => p * q) (ld_quarter o inb x0 a k ha) (congrFun (ld_weight x2) _))
  · rw [if_neg h, if_neg fun g => h (hd.mpr g)]
    exact pay_dead _

/-- The block the body leaves, on any of its paths. -/
theorem block_eq (w : BitVec 32) (n : Fin 5) (hn : Path w n) (x0 : Vec Ideal S1024x4096 .bf16) (x1 x2 : Vec Ideal S1x1x4096x512 .f32) :
    block (F := Ideal) w x0 x1 x2 = blockOf n.val x0 x1 x2 := by
  obtain ⟨k1, k2, k3, k4, k5, k6, k7, k8, k9, k10⟩ := hn
  funext y
  unfold block pieces
  split
  · rename_i h
    have h4 := k1.mp h
    rw [View.canon_cons_unit_lit' inb_S1024x512_S1024x512_0_0 _ _ (by decide), ld_weight, ld_weight, View.ld_unit_lit' inb_S1024x4096_S1024x4096_0_0 x0 (by decide)]
    obtain ⟨a, b, rfl⟩ : ∃ (a : Fin 1024) (b : Fin 512), y = ix2 a b := ⟨y 0, y 1, by funext d; match d with | ⟨0, _⟩ => rfl | ⟨1, _⟩ => rfl⟩
    rw [pay_all]
    exact (if_pos (show a.val < 256 * n.val by omega)).symm
  · refine View.canon_apply_of_pieces (blockOf n.val x0 x1 x2) _ ?_ y (cover_quarters _ _ _ _ y)
    intro p hp
    simp only [List.mem_cons, List.not_mem_nil, or_false] at hp
    rcases hp with rfl | rfl | rfl | rfl
    · exact quarter n.val 768 _ inb_S1024x4096_S256x4096_768_0 inb_S1024x512_S256x512_768_0 x0 x1 x2 (k9.trans (by omega)) (by decide)
    · exact quarter n.val 512 _ inb_S1024x4096_S256x4096_512_0 inb_S1024x512_S256x512_512_0 x0 x1 x2 (k7.trans (by omega)) (by decide)
    · exact quarter n.val 256 _ inb_S1024x4096_S256x4096_256_0 inb_S1024x512_S256x512_256_0 x0 x1 x2 (k5.trans (by omega)) (by decide)
    · exact quarter n.val 0 _ inb_S1024x4096_S256x4096_0_0 inb_S1024x512_S256x512_0_0 x0 x1 x2 (k3.trans (by omega)) (by decide)

/-- A row's block. -/
def blk (r : Fin 26624) : Fin 26 := ⟨r.val / 1024, by omega⟩

/-- A block's expert. -/
def expert (be : IVec S26 32) (b : Fin 26) : Fin 8 := ⟨min (be (ix1 b)).toInt.toNat 7, by omega⟩

/-- How many rows of a block are live. -/
def live (ns : IVec S26 32) (b : Fin 26) : Nat := 256 * (ns (ix1 b)).toInt.toNat

/-- Row `r` of the tokens with column `e` of its expert's weight. -/
def up (x : FVec Ideal S26624x4096 .bf16) (w : FVec Ideal S1x8x4096x14336 .f32) (be : IVec S26 32) (r : Fin 26624) (e : Fin 14336) : EReal :=
  ∑ k : Fin 4096, x (ix2 r k) * w (ix4 0 (expert be (blk r)) k e)

/-- The gated product by expert, zero outside the live rows. -/
def gated (x : FVec Ideal S26624x4096 .bf16) (w1 w3 : FVec Ideal S1x8x4096x14336 .f32) (be ns : IVec S26 32) : FVec Ideal S26624x14336 .bf16 := fun i =>
  if (i 0).val % 1024 < live ns (blk (i 0)) then gate (up x w1 be (i 0) (i 1)) (up x w3 be (i 0) (i 1)) else 0

section Final

variable (pf : pre0.Contents (Elt Ideal)) (hr : InRange pf) (m : (ℓ : Loc nD τ sig) → Buf (Elt Ideal) ℓ)

/-- The word the body reads is its row block's entry of table 1. -/
theorem word_eq (i : grid0.Coords) (b : Fin 26) (hb : b.val = (i 0).val) : wordAt pf i = pf 1 (ix1 b) := by
  refine congrArg (pf 1) (funext fun d => Fin.ext ?_)
  obtain rfl : d = (0 : Fin 1) := Subsingleton.elim (α := Fin 1) _ _
  show (BitVec.ofNat 32 (i 0).val).toNat + 1 * 0 = b.val
  rw [BitVec.toNat_ofNat, hb]
  have : (i 0).val < 26 := (i 0).isLt
  omega

/-- The rows' block, entry by entry. -/
theorem rows_at (c : Dev nD) (t : Fin (cfgA pf hr).N) (a : Fin 1024) (k : Fin 4096) (r : Fin 26624) (h : r.val = (crd pf hr t 0).val * 1024 + a.val) :
    iblk pf hr m c (0 : Fin 4) t (ix2 a k) = m ((c : Thread nD τ).loc main_arg0) (ix2 r k) := by
  have h26 : (crd pf hr t 0).val < 26 := (crd pf hr t 0).isLt
  refine congrArg (m ((c : Thread nD τ).loc main_arg0)) (funext fun d => Fin.ext ?_)
  match d with
  | ⟨0, _⟩ =>
    show (BitVec.ofNat 32 (crd pf hr t 0).val).toNat * 1024 + 1 * a.val = r.val
    rw [BitVec.toNat_ofNat]; omega
  | ⟨1, _⟩ =>
    show 0 * 4096 + 1 * k.val = k.val
    omega

/-- The output's block in the result. -/
theorem out_emb (t : Fin (cfgA pf hr).N) (a : Fin 1024) (b : Fin 512) (r : Fin 26624) (e : Fin 14336) (h : r.val = (crd pf hr t 0).val * 1024 + a.val)
    (h' : e.val = (crd pf hr t 1).val * 512 + b.val) :
    (((cfgA pf hr).win (3 : Fin 4)).blk t).view.emb (ix2 a b) = ix2 r e := by
  have h26 : (crd pf hr t 0).val < 26 := (crd pf hr t 0).isLt
  have h28 : (crd pf hr t 1).val < 28 := (crd pf hr t 1).isLt
  refine funext fun d => Fin.ext ?_
  match d with
  | ⟨0, _⟩ =>
    show (BitVec.ofNat 32 (crd pf hr t 0).val).toNat * 1024 + 1 * a.val = r.val
    rw [BitVec.toNat_ofNat]; omega
  | ⟨1, _⟩ =>
    show (BitVec.ofNat 32 (crd pf hr t 1).val).toNat * 512 + 1 * b.val = e.val
    rw [BitVec.toNat_ofNat]; omega

/-- Tables of zeros. -/
def zeros : pre0.Contents (Elt Ideal) := fun
  | 0 => fun _ => 0#32
  | 1 => fun _ => 0#32

/-- They are in range. -/
theorem zero_range : InRange zeros :=
  ⟨fun _ => ⟨(by decide : 0 ≤ (0#32 : BitVec 32).toInt), (by decide : (0#32 : BitVec 32).toInt < 8)⟩, fun _ => (by decide : (0#32 : BitVec 32).toInt ≤ 4)⟩

/-- The output's blocks cover the result, whatever the tables. -/
theorem covers : ((cfgA pf hr).win (3 : Fin 4)).Covers :=
  (by decide +kernel : ((cfgA zeros zero_range).win (3 : Fin 4)).Covers)

/-- A weight's block, entry by entry, at a point whose row block has live rows. -/
theorem weight_at (c : Dev nD) (t : Fin (cfgA pf hr).N) (b : Fin 26) (hb : b.val = (crd pf hr t 0).val) (hl : 0 < (pf 1 (ix1 b)).toInt)
    (k : Fin 4096) (y : Fin 512) (e : Fin 14336) (he : e.val = (crd pf hr t 1).val * 512 + y.val) :
    iblk pf hr m c (1 : Fin 4) t (ix4 0 0 k y) = m ((c : Thread nD τ).loc main_arg1) (ix4 0 (expert (pf 0) b) k e)
    ∧ iblk pf hr m c (2 : Fin 4) t (ix4 0 0 k y) = m ((c : Thread nD τ).loc main_arg2) (ix4 0 (expert (pf 0) b) k e) := by
  have h26 : (crd pf hr t 0).val < 26 := (crd pf hr t 0).isLt
  have h28 : (crd pf hr t 1).val < 28 := (crd pf hr t 1).isLt
  have hx : (Rect.unit (s := S26) (k0_off1 (crd pf hr t)) S1.size (k0_off1_inb (crd pf hr t))).emb (Shape.Idx.first (numel1_S1.symm ▸ Nat.one_pos)) = ix1 b := by
    refine funext fun d => Fin.ext ?_
    obtain rfl : d = (0 : Fin 1) := Subsingleton.elim (α := Fin 1) _ _
    show (BitVec.ofNat 32 (crd pf hr t 0).val).toNat + 1 * 0 = b.val
    rw [BitVec.toNat_ofNat, hb]; omega
  have h0 := hr.1 (ix1 b)
  have hn := toNat_of_nonneg _ h0.1
  have hs : Scalar.cmpi .sgt (pf 1 (ix1 b) : BitVec 32) 0#32 = 1#1 := by
    show BitVec.ofBool (BitVec.slt 0#32 (pf 1 (ix1 b))) = 1#1
    have : BitVec.slt 0#32 (pf 1 (ix1 b)) = true := by simpa [BitVec.slt] using hl
    rw [this]; rfl
  have q : cc0_transform_1 k0_off1_inb numel1_S1 pf (crd pf hr t) = ![0, (expert (pf 0) b).val, 0, (crd pf hr t 1).val] := by
    show ![0, BitVec.toNat (pf 0 ((Rect.unit (s := S26) (k0_off1 (crd pf hr t)) S1.size (k0_off1_inb (crd pf hr t))).emb (Shape.Idx.first (numel1_S1.symm ▸ Nat.one_pos)))), 0,
      BitVec.toNat (Scalar.select (Scalar.cmpi .sgt (pf 1 ((Rect.unit (s := S26) (k0_off1 (crd pf hr t)) S1.size (k0_off1_inb (crd pf hr t))).emb
        (Shape.Idx.first (numel1_S1.symm ▸ Nat.one_pos))) : BitVec 32) 0#32) (BitVec.ofNat 32 (crd pf hr t 1).val) 27#32)] = _
    rw [hx, hs]
    have e1 : BitVec.toNat (pf 0 (ix1 b)) = (expert (pf 0) b).val := by
      show _ = min (BitVec.toInt (pf 0 (ix1 b))).toNat 7
      omega
    have e2 : BitVec.toNat (Scalar.select 1#1 (BitVec.ofNat 32 (crd pf hr t 1).val) 27#32) = (crd pf hr t 1).val := by
      show (BitVec.ofNat 32 (crd pf hr t 1).val).toNat = _
      rw [BitVec.toNat_ofNat]; omega
    rw [e1, e2]
  have f (d : Fin 4) : cc0_transform_1 k0_off1_inb numel1_S1 pf (crd pf hr t) d * S1x1x4096x512.size d + 1 * ((ix4 0 0 k y : S1x1x4096x512.Idx) d).val
      = ((ix4 0 (expert (pf 0) b) k e : S1x8x4096x14336.Idx) d).val := by
    rw [q]
    match d with
    | ⟨0, _⟩ => rfl
    | ⟨1, _⟩ => show (expert (pf 0) b).val * 1 + 1 * 0 = (expert (pf 0) b).val; omega
    | ⟨2, _⟩ => show 0 * 4096 + 1 * k.val = k.val; omega
    | ⟨3, _⟩ => show (crd pf hr t 1).val * 512 + 1 * y.val = e.val; omega
  exact ⟨congrArg (m ((c : Thread nD τ).loc main_arg1)) (funext fun d => Fin.ext (f d)), congrArg (m ((c : Thread nD τ).loc main_arg2)) (funext fun d => Fin.ext (f d))⟩

/-- The array after the run is the gated product by expert. -/
theorem final (c : Dev nD) : (dats pf hr m 0 c).arrAt (3 : Fin 4) (cfgA pf hr).N
    = gated (m ((c : Thread nD τ).loc main_arg0)) (m ((c : Thread nD τ).loc main_arg1)) (m ((c : Thread nD τ).loc main_arg2)) (pf 0) (pf 1) := by
  refine (dats pf hr m 0 c).arrAt_eq_of_covers (3 : Fin 4) _ (covers pf hr) fun t _ y => ?_
  show (dats pf hr m 0 c).after (3 : Fin 4) t y = _
  obtain ⟨a, b, rfl⟩ : ∃ (a : Fin 1024) (b : Fin 512), y = ix2 a b := ⟨y 0, y 1, by funext d; match d with | ⟨0, _⟩ => rfl | ⟨1, _⟩ => rfl⟩
  have h26 : (crd pf hr t 0).val < 26 := (crd pf hr t 0).isLt
  have h28 : (crd pf hr t 1).val < 28 := (crd pf hr t 1).isLt
  have hr1 : (crd pf hr t 0).val * 1024 + a.val < 26624 := by omega
  have he1 : (crd pf hr t 1).val * 512 + b.val < 14336 := by omega
  obtain ⟨r, hrr⟩ : ∃ r : Fin 26624, r.val = (crd pf hr t 0).val * 1024 + a.val := ⟨⟨_, hr1⟩, rfl⟩
  obtain ⟨e, hee⟩ : ∃ e : Fin 14336, e.val = (crd pf hr t 1).val * 512 + b.val := ⟨⟨_, he1⟩, rfl⟩
  have hb : (blk r).val = (crd pf hr t 0).val := by show r.val / 1024 = _; omega
  have hw : wordAt pf (crd pf hr t) = pf 1 (ix1 (blk r)) := word_eq pf (crd pf hr t) (blk r) hb
  refine (congrFun (block_eq (wordAt pf (crd pf hr t)) _ (path_of_le _ (hr.2 _)) _ _ _) (ix2 a b)).trans ?_
  refine Eq.trans ?_ (congrArg (gated _ _ _ (pf 0) (pf 1)) (out_emb pf hr t a b r e hrr hee)).symm
  show (if a.val < 256 * (BitVec.toInt (wordAt pf (crd pf hr t))).toNat then gate (part (iblk pf hr m c (0 : Fin 4) t) (iblk pf hr m c (1 : Fin 4) t) a b)
      (part (iblk pf hr m c (0 : Fin 4) t) (iblk pf hr m c (2 : Fin 4) t) a b) else 0)
    = if r.val % 1024 < live (pf 1) (blk r) then gate (up (m ((c : Thread nD τ).loc main_arg0)) (m ((c : Thread nD τ).loc main_arg1)) (pf 0) r e)
      (up (m ((c : Thread nD τ).loc main_arg0)) (m ((c : Thread nD τ).loc main_arg2)) (pf 0) r e) else 0
  have hm : r.val % 1024 = a.val := by omega
  rw [hm, hw]
  show (if a.val < live (pf 1) (blk r) then _ else _) = _
  by_cases h : a.val < live (pf 1) (blk r)
  · have hl : 0 < BitVec.toInt (pf 1 (ix1 (blk r))) := by
      have h' : a.val < 256 * (BitVec.toInt (pf 1 (ix1 (blk r)))).toNat := h
      omega
    rw [if_pos h, if_pos h]
    exact congrArg₂ gate
      (Finset.sum_congr rfl fun k _ => congrArg₂ (fun p q : EReal => p * q) (rows_at pf hr m c t a k r hrr) (weight_at pf hr m c t (blk r) hb hl k b e hee).1)
      (Finset.sum_congr rfl fun k _ => congrArg₂ (fun p q : EReal => p * q) (rows_at pf hr m c t a k r hrr) (weight_at pf hr m c t (blk r) hb hl k b e hee).2)
  · rw [if_neg h, if_neg h]

end Final

/-! ## The reference -/

/-- The reference's table of experts: a word below zero counts from the end. -/
def wrapped (be : IVec S26 32) : IVec Reference3Ideal.S26x1 32 :=
  broadcastInDim Reference3Ideal.S26x1 ![0] Reference3Ideal.Gen.bcast_S26_S26x1_0
    (select (cmpi .slt be (broadcastInDim Reference3Ideal.S26 ![] Reference3Ideal.Gen.bcast_S_S26 (constantI Reference3Ideal.S_ 32 0#32)))
      (addi be (broadcastInDim Reference3Ideal.S26 ![] Reference3Ideal.Gen.bcast_S_S26 (constantI Reference3Ideal.S_ 32 8#32))) be)

/-- A word that is not negative is not wrapped. -/
theorem wrapped_at (be : IVec S26 32) (b : Fin 26) (h : 0 ≤ (be (ix1 b)).toInt) : wrapped be (ix2 b 0) = be (ix1 b) := by
  have hb : wrapped be (ix2 b 0) = Scalar.select (IntOp.cmpi .slt (be (ix1 b)) 0#32) (IntOp.addi (be (ix1 b)) 8#32) (be (ix1 b)) := by
    unfold wrapped
    pointwise
  have hs : BitVec.slt (be (ix1 b)) 0#32 = false := by
    simp only [BitVec.slt, show (0#32 : BitVec 32).toInt = 0 from rfl, decide_eq_false_iff_not]; omega
  rw [hb, show IntOp.cmpi .slt (be (ix1 b)) 0#32 = BitVec.ofBool (BitVec.slt (be (ix1 b)) 0#32) from rfl, hs]; rfl

/-- The reference's weights, one matrix for each row block. -/
def gathered (w : FVec Ideal S1x8x4096x14336 .f32) (be : IVec S26 32) : FVec Ideal Reference3Ideal.S26x4096x14336 .f32 :=
  Host.gather Reference3Ideal.gather_S8x4096x14336_S26x1_S26x4096x14336_12_0_n_n_0_1_1409614336
    (shapeCast Reference3Ideal.S8x4096x14336 w Reference3Ideal.Gen.shapeCasts_S1x8x4096x14336_S8x4096x14336) (wrapped be)

/-- The gathered weight of a row block is its expert's. -/
theorem weight_host (w : FVec Ideal S1x8x4096x14336 .f32) (be : IVec S26 32) (b : Fin 26) (h : 0 ≤ (be (ix1 b)).toInt ∧ (be (ix1 b)).toInt < 8) (k : Fin 4096) (e : Fin 14336) :
    gathered w be (ix3 b k e) = w (ix4 0 (expert be b) k e) := by
  refine (Slabs.gather_at Reference3Ideal.Gen.gather_S8x4096x14336_S26x1_S26x4096x14336_12_0_n_n_0_1_1409614336_wf _ (wrapped be) b k e (expert be b) ?_).trans ?_
  · rw [wrapped_at be b h.1]
    show _ = ((min (be (ix1 b)).toInt.toNat 7 : Nat) : Int)
    omega
  · generalize expert be b = g
    pointwise

/-- The reference's mask of live rows. -/
def mask (ns : IVec S26 32) : IVec Reference3Ideal.S26x1024x1 1 :=
  broadcastInDim Reference3Ideal.S26x1024x1 ![0, 1] Reference3Ideal.Gen.bcast_S26x1024_S26x1024x1_0_1
    (cmpi .slt (broadcastInDim Reference3Ideal.S26x1024 ![0, 1] Reference3Ideal.Gen.bcast_S1x1024_S26x1024_0_1
        (broadcastInDim Reference3Ideal.S1x1024 ![1] Reference3Ideal.Gen.bcast_S1024_S1x1024_1 (iotaInDim Reference3Ideal.S1024 32 0)))
      (broadcastInDim Reference3Ideal.S26x1024 ![0, 1] Reference3Ideal.Gen.bcast_S26x1_S26x1024_0_1
        (muli (broadcastInDim Reference3Ideal.S26x1 ![] Reference3Ideal.Gen.bcast_S_S26x1 (constantI Reference3Ideal.S_ 32 256#32))
          (broadcastInDim Reference3Ideal.S26x1 ![0] Reference3Ideal.Gen.bcast_S26_S26x1_0 ns))))

/-- The mask is one on the live rows. -/
theorem mask_at (ns : IVec S26 32) (b : Fin 26) (h : 0 ≤ (ns (ix1 b)).toInt ∧ (ns (ix1 b)).toInt ≤ 4) (a : Fin 1024) :
    mask ns (ix3 b a 0) = BitVec.ofBool (decide (a.val < live ns b)) := by
  have hb : mask ns (ix3 b a 0) = IntOp.cmpi .slt (BitVec.ofNat 32 a.val) (IntOp.muli 256#32 (ns (ix1 b))) := by
    unfold mask
    pointwise
  rw [hb]
  show BitVec.ofBool (BitVec.slt (BitVec.ofNat 32 a.val) (256#32 * ns (ix1 b))) = _
  refine congrArg BitVec.ofBool ?_
  unfold live
  have hn := toNat_of_nonneg _ h.1
  have h5 : (ns (ix1 b)).toNat ≤ 4 := by omega
  have ht : (ns (ix1 b)).toInt.toNat = (ns (ix1 b)).toNat := by omega
  rw [ht]
  generalize ns (ix1 b) = w at h5
  have ha : (BitVec.ofNat 32 a.val).toInt = a.val := by
    have : (BitVec.ofNat 32 a.val).toNat = a.val := by rw [BitVec.toNat_ofNat]; omega
    rw [BitVec.toInt_eq_toNat_of_lt (by omega), this]
  have hp : (256#32 * w).toNat = 256 * w.toNat := by
    rw [BitVec.toNat_mul]
    show 256 * w.toNat % 2 ^ 32 = _
    omega
  have hq : (256#32 * w).toInt = 256 * w.toNat := by rw [BitVec.toInt_eq_toNat_of_lt (by omega), hp]; norm_num
  simp only [BitVec.slt, ha, hq]
  exact decide_eq_decide.mpr (by omega)

/-- The reference's product at a row and a column, over the gathered weights and the mask. -/
theorem host_at (x : FVec Ideal S26624x4096 .bf16) (g1 g3 : FVec Ideal Reference3Ideal.S26x4096x14336 .f32) (M : IVec Reference3Ideal.S26x1024x1 1)
    (r : Fin 26624) (e : Fin 14336) :
    truncf (F := Ideal) .bf16 (shapeCast Reference3Ideal.S26624x14336 (select (broadcastInDim Reference3Ideal.S26x1024x14336 ![0, 1, 2] Reference3Ideal.Gen.bcast_S26x1024x1_S26x1024x14336_0_1_2 M)
      (mulf (mulf (Host.dotGeneral Reference3Ideal.dot_S26x1024x4096_S26x4096x14336_S26x1024x14336_2_1_1_2_0_0 none
          (shapeCast Reference3Ideal.S26x1024x4096 (extf .f32 x Reference3Ideal.Gen.bitsLt_bf16_f32) Reference3Ideal.Gen.shapeCasts_S26624x4096_S26x1024x4096) g1)
        (Host.divf (broadcastInDim Reference3Ideal.S26x1024x14336 ![] Reference3Ideal.Gen.bcast_S_S26x1024x14336 (constant Reference3Ideal.S_ .f32 0x3F800000#32))
          (addf (broadcastInDim Reference3Ideal.S26x1024x14336 ![] Reference3Ideal.Gen.bcast_S_S26x1024x14336 (constant Reference3Ideal.S_ .f32 0x3F800000#32))
            (Host.exp (Host.negf (Host.dotGeneral Reference3Ideal.dot_S26x1024x4096_S26x4096x14336_S26x1024x14336_2_1_1_2_0_0 none
              (shapeCast Reference3Ideal.S26x1024x4096 (extf .f32 x Reference3Ideal.Gen.bitsLt_bf16_f32) Reference3Ideal.Gen.shapeCasts_S26624x4096_S26x1024x4096) g1))))))
        (Host.dotGeneral Reference3Ideal.dot_S26x1024x4096_S26x4096x14336_S26x1024x14336_2_1_1_2_0_0 none
          (shapeCast Reference3Ideal.S26x1024x4096 (extf .f32 x Reference3Ideal.Gen.bitsLt_bf16_f32) Reference3Ideal.Gen.shapeCasts_S26624x4096_S26x1024x4096) g3))
      (broadcastInDim Reference3Ideal.S26x1024x14336 ![] Reference3Ideal.Gen.bcast_S_S26x1024x14336 (id (constant Reference3Ideal.S_ .f32 0x00000000#32))))
        Reference3Ideal.Gen.shapeCasts_S26x1024x14336_S26624x14336) Reference3Ideal.Gen.bitsLt_bf16_f32 (ix2 r e)
    = Scalar.select (M (ix3 ⟨r.val / 1024, by omega⟩ ⟨r.val % 1024, by omega⟩ 0))
      ((∑ k : Fin 4096, x (ix2 r k) * g1 (ix3 ⟨r.val / 1024, by omega⟩ k e)) * Ideal.div 1 (1 + Ideal.exp (-∑ k : Fin 4096, x (ix2 r k) * g1 (ix3 ⟨r.val / 1024, by omega⟩ k e)))
        * ∑ k : Fin 4096, x (ix2 r k) * g3 (ix3 ⟨r.val / 1024, by omega⟩ k e)) 0 := by
  rw [id_eq]
  pointwise

/-- That is the gated product by expert, where the block's words are in range. -/
theorem host_eq (x : FVec Ideal S26624x4096 .bf16) (w1 w3 : FVec Ideal S1x8x4096x14336 .f32) (be ns : IVec S26 32) (r : Fin 26624) (e : Fin 14336)
    (hb : (0 ≤ (be (ix1 (blk r))).toInt ∧ (be (ix1 (blk r))).toInt < 8) ∧ 0 ≤ (ns (ix1 (blk r))).toInt ∧ (ns (ix1 (blk r))).toInt ≤ 4) :
    Scalar.select (mask ns (ix3 (blk r) ⟨r.val % 1024, by omega⟩ 0))
      ((∑ k : Fin 4096, x (ix2 r k) * gathered w1 be (ix3 (blk r) k e)) * Ideal.div 1 (1 + Ideal.exp (-∑ k : Fin 4096, x (ix2 r k) * gathered w1 be (ix3 (blk r) k e)))
        * ∑ k : Fin 4096, x (ix2 r k) * gathered w3 be (ix3 (blk r) k e)) 0 = gated x w1 w3 be ns (ix2 r e) := by
  simp only [mask_at ns (blk r) hb.2, weight_host _ be (blk r) hb.1]
  show Scalar.select (BitVec.ofBool (decide (r.val % 1024 < live ns (blk r)))) (up x w1 be r e * Ideal.div 1 (1 + Ideal.exp (-up x w1 be r e)) * up x w3 be r e) 0
    = if r.val % 1024 < live ns (blk r) then up x w1 be r e * Ideal.div 1 (1 + Ideal.exp (0 - up x w1 be r e)) * up x w3 be r e else 0
  by_cases h : r.val % 1024 < live ns (blk r)
  · rw [if_pos h, decide_eq_true h, zero_sub]; rfl
  · rw [if_neg h, decide_eq_false h]; rfl

/-- Every run of the kernel ends with the gated product by expert in its result and with its arguments unchanged. -/
theorem value (pf : pre0.Contents (Elt Ideal)) (hr : InRange pf) (m : (ℓ : Loc nD τ sig) → Buf (Elt Ideal) ℓ) (hm : Holds pf m) (ρ : Dev nD → PrngReg) :
    θ_run defs (onTc (τ := τ) (main (F := Ideal))) ⟨m, fun _ => 0, ρ⟩ fun r => ∀ c : Dev nD,
      r.2.mem ((c : Thread nD τ).loc main_v0) = gated (m ((c : Thread nD τ).loc main_arg0)) (m ((c : Thread nD τ).loc main_arg1)) (m ((c : Thread nD τ).loc main_arg2))
        (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(((h.1 c).1 (3 : Fin 4)).trans (final pf hr m c)).trans
      (congrArg₂ (gated (m ((c : Thread nD τ).loc main_arg0)) (m ((c : Thread nD τ).loc main_arg1)) (m ((c : Thread nD τ).loc main_arg2))) (hm c 0).symm (hm c 1).symm),
    ((h.1 c).1 (0 : Fin 4)).trans ((dats pf hr m 0 c).arrAt_in (0 : Fin 4) rfl _),
    ((h.1 c).1 (1 : Fin 4)).trans ((dats pf hr m 0 c).arrAt_in (1 : Fin 4) rfl _), ((h.1 c).1 (2 : Fin 4)).trans ((dats pf hr m 0 c).arrAt_in (2 : Fin 4) rfl _),
    ((h.1 c).2 0).trans (hm c 0).symm, ((h.1 c).2 1).trans (hm c 1).symm⟩) (run pf hr m ρ hm)

/-- At exact arithmetic the kernel and the reference end with the same array. -/
theorem algebraic : Cert.algebraic_Kernel3Ideal_Reference3Ideal := by
  intro m ρ m' ρ' hp hagree
  have hd := fun c => decode _ _ _ _ _ (hp c)
  refine ⟨_, value (tables m) ⟨fun x => (hd 0 x).1, fun x => (hd 0 x).2.2⟩ m (holds m) ρ, ?_⟩
  refine (θ_run Cert.Reference3Ideal.defs _ _).mono (fun _ h c => ⟨?_, (h c).2⟩) (Cert.Reference3Ideal.Value.run (F := Ideal) m' ρ')
  rw [(h c).1, (hagree c).1, (hagree c).2.1, (hagree c).2.2.1, (hagree c).2.2.2.1, (hagree c).2.2.2.2]
  have hc := hd c
  generalize m ((c : Thread nD τ).loc main_arg0) = x, m ((c : Thread nD τ).loc main_arg1) = w1, m ((c : Thread nD τ).loc main_arg2) = w3,
    m ((c : Thread nD τ).loc main_arg3) = be, m ((c : Thread nD τ).loc main_arg4) = ns at hc ⊢
  funext j
  idx_vars j
  refine (host_at x (gathered w1 be) (gathered w3 be) (mask ns) j0 j1).trans ?_
  exact host_eq x w1 w3 be ns j0 j1 (hc (ix1 (blk j0)))

end Cert.Experts

end
-- ==== Proof.BackBody.lean ====
module

public import proofs.«01_k».proof.Proof.Gen.Kernel4Ideal.Skeleton
public import proofs.«01_k».proof.Proof.Gen.Kernel4Ideal.Launch
public import Idealize.ShloMosaic.Lib.Pipeline.Quiescent
public import Idealize.ShloMosaic.Lib.Claim
public import Idealize.ShloMosaic.Lib.Pipeline.Kit
public import Idealize.ShloMosaic.Lib.Pipeline.FrameBody
public import Idealize.ShloMosaic.Lib.Pipeline.ValueKit
public import Idealize.ShloMosaic.Lib.Writes
public import Idealize.ShloMosaic.Lib.Ring
public import Idealize.ShloMosaic.Lib.Exec
public import Idealize.ShloMosaic.Lib.Tactic
public import Idealize.ShloMosaic.Adequacy
public import Idealize.ShloMosaic.Init

/-! The run of the experts' second product (`expert_down`) for any tables in range: table 0 names each row block's expert,
    table 1 how many of its four quarters hold tokens. Seven points add their products up in a scratch buffer; the seventh
    writes the block out. -/

@[expose] public section

set_option maxRecDepth 16384

noncomputable section

namespace Cert.Back

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel4Ideal Cert.Kernel4Ideal.Gen

variable {F : FTy → Type} [FloatOps F]

local notation "𝕄" => MT nD τ sig Unit (Elt F) ℕ (UR sig nD τ) ℕ

/-! ## The body -/

/-- The tables as the body is handed them, and the scratch buffer. -/
abbrev experts : Memref sig .tc .smem S26 .i32 := Memref.whole main_arg2
abbrev quarters : Memref sig .tc .smem S26 .i32 := Memref.whole main_arg3
abbrev scratch : Memref sig .tc .vmem S1024x1024 .f32 := Memref.whole cc0_scratch0

/-- The word the body reads off table 1 at a point. -/
abbrev word (i : grid0.Coords) (T : S26.Idx → BitVec 32) : BitVec 32 :=
  View.readAt (Elt F) quarters.view (Rect.unit (s := S26) (k0_off1 i) S1.size (k0_off1_inb i)).toLoadRect T (Shape.Idx.first (numel1_S1.symm ▸ Nat.one_pos))

abbrev rX : Rect S1024x2048 := Rect.unit (s := S1024x2048) ![0, 0] S1024x2048.size inb_S1024x2048_S1024x2048_0_0
abbrev rX0 : Rect S1024x2048 := Rect.unit (s := S1024x2048) ![0, 0] S256x2048.size inb_S1024x2048_S256x2048_0_0
abbrev rX1 : Rect S1024x2048 := Rect.unit (s := S1024x2048) ![256, 0] S256x2048.size inb_S1024x2048_S256x2048_256_0
abbrev rX2 : Rect S1024x2048 := Rect.unit (s := S1024x2048) ![512, 0] S256x2048.size inb_S1024x2048_S256x2048_512_0
abbrev rX3 : Rect S1024x2048 := Rect.unit (s := S1024x2048) ![768, 0] S256x2048.size inb_S1024x2048_S256x2048_768_0
abbrev rW : Rect S1x1x2048x1024 := Rect.unit (s := S1x1x2048x1024) ![0, 0, 0, 0] S1x1x2048x1024.size inb_S1x1x2048x1024_S1x1x2048x1024_0_0_0_0
abbrev rA : Rect S1024x1024 := Rect.unit (s := S1024x1024) ![0, 0] S1024x1024.size inb_S1024x1024_S1024x1024_0_0
abbrev rA0 : Rect S1024x1024 := Rect.unit (s := S1024x1024) ![0, 0] S256x1024.size inb_S1024x1024_S256x1024_0_0
abbrev rA1 : Rect S1024x1024 := Rect.unit (s := S1024x1024) ![256, 0] S256x1024.size inb_S1024x1024_S256x1024_256_0
abbrev rA2 : Rect S1024x1024 := Rect.unit (s := S1024x1024) ![512, 0] S256x1024.size inb_S1024x1024_S256x1024_512_0
abbrev rA3 : Rect S1024x1024 := Rect.unit (s := S1024x1024) ![768, 0] S256x1024.size inb_S1024x1024_S256x1024_768_0
abbrev rO : Rect S1024x8x128 := Rect.unit (s := S1024x8x128) ![0, 0, 0] S1024x8x128.size inb_S1024x8x128_S1024x8x128_0_0_0
abbrev rO0 : Rect S1024x8x128 := Rect.unit (s := S1024x8x128) ![0, 0, 0] S256x8x128.size inb_S1024x8x128_S256x8x128_0_0_0
abbrev rO1 : Rect S1024x8x128 := Rect.unit (s := S1024x8x128) ![256, 0, 0] S256x8x128.size inb_S1024x8x128_S256x8x128_256_0_0
abbrev rO2 : Rect S1024x8x128 := Rect.unit (s := S1024x8x128) ![512, 0, 0] S256x8x128.size inb_S1024x8x128_S256x8x128_512_0_0
abbrev rO3 : Rect S1024x8x128 := Rect.unit (s := S1024x8x128) ![768, 0, 0] S256x8x128.size inb_S1024x8x128_S256x8x128_768_0_0

/-- The scratch buffer's contents as the body reads them: the whole block, or its four quarters. -/
structure Sums (F : FTy → Type) where
  (all : Vec F S1024x1024 .f32) (q0 q1 q2 q3 : Vec F S256x1024 .f32)

/-- What the body reads off a scratch buffer. -/
def Sums.of (A : Vec F S1024x1024 .f32) : Sums F := ⟨View.ld A rA, View.ld A rA0, View.ld A rA1, View.ld A rA2, View.ld A rA3⟩

/-- One step's sum over the whole block: the first starts it, the others add to it. -/
def allStep (z : Bool) (x : Vec F S1024x2048 .bf16) (x1 : Vec F S1x1x2048x1024 .f32) (a : Vec F S1024x1024 .f32) : Vec F S1024x1024 .f32 :=
  if z = true then k0_pay2 x x1 else k0_pay3 x x1 a

/-- One step's sum over a quarter. -/
def quarterStep (z : Bool) (x : Vec F S256x2048 .bf16) (x1 : Vec F S1x1x2048x1024 .f32) (a : Vec F S256x1024 .f32) : Vec F S256x1024 .f32 :=
  if z = true then k0_pay6 x x1 else k0_pay7 x x1 a

/-- One step's sums. -/
def Sums.step (z : Bool) (x0 : Vec F S1024x2048 .bf16) (x1 : Vec F S1x1x2048x1024 .f32) (s : Sums F) : Sums F :=
  ⟨allStep z (View.ld x0 rX) (View.ld x1 rW) s.all, quarterStep z (View.ld x0 rX0) (View.ld x1 rW) s.q0, quarterStep z (View.ld x0 rX1) (View.ld x1 rW) s.q1,
    quarterStep z (View.ld x0 rX2) (View.ld x1 rW) s.q2, quarterStep z (View.ld x0 rX3) (View.ld x1 rW) s.q3⟩

/-- Two sums agree where there are tokens, by the word of table 1. -/
def Same (w : BitVec 32) (s r : Sums F) : Prop :=
  (k0_cond1 w = 1#1 → s.all = r.all) ∧ (¬k0_cond1 w = 1#1 → (k0_cond6 w = 1#1 → s.q0 = r.q0) ∧ (k0_cond12 w = 1#1 → s.q1 = r.q1)
    ∧ (k0_cond18 w = 1#1 → s.q2 = r.q2) ∧ (k0_cond24 w = 1#1 → s.q3 = r.q3))

/-- What the last step stores of the sums, last first: the whole block at once with four quarters, else quarter by quarter, a
    quarter with no tokens as zeros. -/
def pieces (w : BitVec 32) (s : Sums F) : List (View.Piece (Elt F) S1024x8x128 .f32) :=
  if k0_cond1 w = 1#1 then [⟨rO, k0_pay4 s.all⟩]
  else [⟨rO3, if k0_cond24 w = 1#1 then k0_pay8 s.q3 else k0_pay9⟩, ⟨rO2, if k0_cond18 w = 1#1 then k0_pay8 s.q2 else k0_pay9⟩,
    ⟨rO1, if k0_cond12 w = 1#1 then k0_pay8 s.q1 else k0_pay9⟩, ⟨rO0, if k0_cond6 w = 1#1 then k0_pay8 s.q0 else k0_pay9⟩]

/-- The block the last step leaves. -/
def block (w : BitVec 32) (s : Sums F) : Vec F S1024x8x128 .f32 := View.canon (pieces w s)

theorem Same.trans {w : BitVec 32} {s r u : Sums F} (h : Same w s r) (k : Same w r u) : Same w s u :=
  ⟨fun c => (h.1 c).trans (k.1 c), fun c => ⟨fun d => ((h.2 c).1 d).trans ((k.2 c).1 d), fun d => ((h.2 c).2.1 d).trans ((k.2 c).2.1 d),
    fun d => ((h.2 c).2.2.1 d).trans ((k.2 c).2.2.1 d), fun d => ((h.2 c).2.2.2 d).trans ((k.2 c).2.2.2 d)⟩⟩

/-- A step keeps the agreement, and the first step makes it. -/
theorem Same.step {w : BitVec 32} (z : Bool) (x0 : Vec F S1024x2048 .bf16) (x1 : Vec F S1x1x2048x1024 .f32) {s r : Sums F} (h : z = false → Same w s r) :
    Same w (s.step z x0 x1) (r.step z x0 x1) := by
  cases z
  · have h := h rfl
    exact ⟨fun c => congrArg (allStep false (View.ld x0 rX) (View.ld x1 rW)) (h.1 c), fun c => ⟨fun d => congrArg (quarterStep false (View.ld x0 rX0) (View.ld x1 rW)) ((h.2 c).1 d),
      fun d => congrArg (quarterStep false (View.ld x0 rX1) (View.ld x1 rW)) ((h.2 c).2.1 d), fun d => congrArg (quarterStep false (View.ld x0 rX2) (View.ld x1 rW)) ((h.2 c).2.2.1 d),
      fun d => congrArg (quarterStep false (View.ld x0 rX3) (View.ld x1 rW)) ((h.2 c).2.2.2 d)⟩⟩
  · exact ⟨fun _ => rfl, fun _ => ⟨fun _ => rfl, fun _ => rfl, fun _ => rfl, fun _ => rfl⟩⟩

/-- Sums that agree leave one block. -/
theorem Same.block {w : BitVec 32} {s r : Sums F} (h : Same w s r) : block w s = block w r := by
  have hp : pieces w s = pieces w r := by
    unfold pieces
    split
    · rename_i c; rw [h.1 c]
    · rename_i c
      obtain ⟨h0, h1, h2, h3⟩ := h.2 c
      have e (p : Prop) [Decidable p] (u v : Vec F S256x1024 .f32) (huv : p → u = v) :
          (if p then k0_pay8 u else k0_pay9 : Vec F S256x8x128 .f32) = if p then k0_pay8 v else k0_pay9 := by
        split
        · rename_i hp; rw [huv hp]
        · rfl
      rw [e _ _ _ h0, e _ _ _ h1, e _ _ _ h2, e _ _ _ h3]
  unfold Cert.Back.block; rw [hp]

/-- One store of the whole block covers it. -/
theorem cover_all (p : Vec F S1024x8x128 .f32) (y : S1024x8x128.Idx) : ∃ pc ∈ ([⟨rO, p⟩] : List (View.Piece (Elt F) S1024x8x128 .f32)), y ∈ pc.1.set :=
  View.cover_of_tiled [⟨rO, p⟩] S1024x8x128.size (by rfl) y

/-- The four quarters cover the block. -/
theorem cover_quarters (p0 p1 p2 p3 : Vec F S256x8x128 .f32) (y : S1024x8x128.Idx) :
    ∃ pc ∈ ([⟨rO3, p3⟩, ⟨rO2, p2⟩, ⟨rO1, p1⟩, ⟨rO0, p0⟩] : List (View.Piece (Elt F) S1024x8x128 .f32)), y ∈ pc.1.set :=
  View.cover_of_tiled [⟨rO3, p3⟩, ⟨rO2, p2⟩, ⟨rO1, p1⟩, ⟨rO0, p0⟩] S256x8x128.size (by rfl) y

/-- Stored through any buffer's view, the last step's pieces are its block. -/
theorem stored {κ : Kind} {sp : Space} (v : View sig κ sp S1024x8x128 .f32) (f : v.ty.Contents (Elt F)) (w : BitVec 32) (s : Sums F) :
    v.read (Elt F) (v.writes (Elt F) f (pieces w s)) = block w s := by
  refine View.read_writes_eq_canon _ _ _ fun y => ?_
  unfold pieces; split
  · exact cover_all _ y
  · exact cover_quarters _ _ _ _ y

/-- A rectangle read after the newest store, the store being of that rectangle. -/
theorem ld_hit (f : scratch.view.ty.Contents (Elt F)) (r : Rect S1024x1024) (w : r.shape.Idx → Elt F .f32) (L : List (View.Piece (Elt F) S1024x1024 .f32)) :
    View.ld (scratch.view.read (Elt F) (scratch.view.writes (Elt F) f (⟨r, w⟩ :: L))) r = w :=
  funext fun x => View.read_writes_cons_emb _ _ _ _ _ x

/-- A quarter read after the newest store, the store being of other rows. -/
theorem ld_miss (f : scratch.view.ty.Contents (Elt F)) (o o' : ℕ) (hi : ∀ a, (![o, 0] : Fin 2 → ℕ) a + S256x1024.size a ≤ S1024x1024.size a)
    (hi' : ∀ a, (![o', 0] : Fin 2 → ℕ) a + S256x1024.size a ≤ S1024x1024.size a) (h : o + 256 ≤ o' ∨ o' + 256 ≤ o)
    (w : (Rect.unit (s := S1024x1024) ![o', 0] S256x1024.size hi').shape.Idx → Elt F .f32) (L : List (View.Piece (Elt F) S1024x1024 .f32)) :
    View.ld (scratch.view.read (Elt F) (scratch.view.writes (Elt F) f (⟨Rect.unit (s := S1024x1024) ![o', 0] S256x1024.size hi', w⟩ :: L))) (Rect.unit (s := S1024x1024) ![o, 0] S256x1024.size hi)
      = View.ld (scratch.view.read (Elt F) (scratch.view.writes (Elt F) f L)) (Rect.unit (s := S1024x1024) ![o, 0] S256x1024.size hi) :=
  funext fun x => View.read_writes_cons_miss_of_axis _ _ _ _ _ 0 o' 256 rfl rfl rfl (by
    have hx : (x 0).val < 256 := (x 0).isLt
    show o + 1 * (x 0).val < o' ∨ o' + 256 ≤ o + 1 * (x 0).val
    omega)

/-- A rectangle read back from the stores that hold it, the newest being of that rectangle. -/
theorem cov_hit (r : Rect S1024x1024) (w : r.shape.Idx → Elt F .f32) (L : List (View.Piece (Elt F) S1024x1024 .f32)) :
    scratch.view.readCov (⟨r, w⟩ :: L) r.toLoadRect = w :=
  (View.readAt_writes_of_cover scratch.view scratch.view.junk (⟨r, w⟩ :: L) r.toLoadRect fun j => ⟨_, List.mem_cons_self, r.idx_mem j⟩).symm.trans (ld_hit _ r w L)

/-- The body's conditions on the word when `n` quarters hold tokens. -/
def Path (w : BitVec 32) (n : Fin 5) : Prop :=
  (k0_cond1 w = 1#1 ↔ n.val = 4) ∧ (k0_cond5 w = 1#1 ↔ n.val < 4) ∧ (k0_cond6 w = 1#1 ↔ 0 < n.val) ∧ (k0_cond10 w = 1#1 ↔ n.val ≤ 0)
    ∧ (k0_cond12 w = 1#1 ↔ 1 < n.val) ∧ (k0_cond16 w = 1#1 ↔ n.val ≤ 1) ∧ (k0_cond18 w = 1#1 ↔ 2 < n.val) ∧ (k0_cond22 w = 1#1 ↔ n.val ≤ 2)
    ∧ (k0_cond24 w = 1#1 ↔ 3 < n.val) ∧ (k0_cond28 w = 1#1 ↔ n.val ≤ 3)

/-- The body's conditions on the step: whether it is the first of the seven, whether the last. -/
def AtStep (i : grid0.Coords) (z l : Bool) : Prop :=
  ((Scalar.cmpi .ne (Scalar.extui (Scalar.cmpi .eq (BitVec.ofNat 32 (i 2).val) 0#32) : BitVec 32) 0#32 = 1#1) ↔ z = true)
    ∧ ((Scalar.cmpi .ne (Scalar.extui (Scalar.cmpi .sgt (BitVec.ofNat 32 (i 2).val) 0#32) : BitVec 32) 0#32 = 1#1) ↔ z = false)
    ∧ (k0_cond4 i = 1#1 ↔ l = true) ∧ (k0_cond9 i = 1#1 ↔ l = true) ∧ (k0_cond11 i = 1#1 ↔ l = true) ∧ (k0_cond15 i = 1#1 ↔ l = true)
    ∧ (k0_cond17 i = 1#1 ↔ l = true) ∧ (k0_cond21 i = 1#1 ↔ l = true) ∧ (k0_cond23 i = 1#1 ↔ l = true) ∧ (k0_cond27 i = 1#1 ↔ l = true)
    ∧ (k0_cond29 i = 1#1 ↔ l = true)

/-- Whether a point is the first of its seven, and whether the last. -/
def first (i : grid0.Coords) : Bool := decide ((i 2).val = 0)
def last (i : grid0.Coords) : Bool := decide ((i 2).val = 6)

theorem at_step (i : grid0.Coords) : AtStep i (first i) (last i) := by
  have hf (k : Fin 7) : ((Scalar.cmpi .ne (Scalar.extui (Scalar.cmpi .eq (BitVec.ofNat 32 k.val) 0#32) : BitVec 32) 0#32 = 1#1) ↔ decide (k.val = 0) = true) := by
    revert k; decide
  have hg (k : Fin 7) : ((Scalar.cmpi .ne (Scalar.extui (Scalar.cmpi .sgt (BitVec.ofNat 32 k.val) 0#32) : BitVec 32) 0#32 = 1#1) ↔ decide (k.val = 0) = false) := by
    revert k; decide
  have hl (k : Fin 7) : ((Scalar.cmpi .ne (Scalar.extui (Scalar.cmpi .eq (BitVec.ofNat 32 k.val) 6#32) : BitVec 32) 0#32 = 1#1) ↔ decide (k.val = 6) = true) := by
    revert k; decide
  exact ⟨hf (i 2), hg (i 2), hl (i 2), hl (i 2), hl (i 2), hl (i 2), hl (i 2), hl (i 2), hl (i 2), hl (i 2), hl (i 2)⟩

/-- A comparison's word, widened and tested against zero, is one exactly when the comparison holds. -/
theorem tested (b : Bool) : (Scalar.cmpi .ne (Scalar.extui (BitVec.ofBool b) : BitVec 32) 0#32 = 1#1) ↔ b = true := by
  cases b <;> decide

/-- Every word up to four is on one of the paths, the one of its positive part. -/
theorem path_of_le (w : BitVec 32) (h : w.toInt ≤ 4) : Path w ⟨w.toInt.toNat, by omega⟩ := by
  have hs (k : BitVec 32) : (BitVec.slt w k = true) ↔ w.toInt < k.toInt := by simp [BitVec.slt]
  have hs' (k : BitVec 32) : (BitVec.slt k w = true) ↔ k.toInt < w.toInt := by simp [BitVec.slt]
  have hl (k : BitVec 32) : (BitVec.sle w k = true) ↔ w.toInt ≤ k.toInt := by simp [BitVec.sle]
  have he : ((w == 4#32) = true) ↔ w.toInt = 4 := by
    rw [beq_iff_eq, ← BitVec.toInt_inj]; rfl
  refine ⟨(tested _).trans (he.trans ?_), (tested _).trans ((hs _).trans ?_), (tested _).trans ((hs' _).trans ?_), (tested _).trans ((hl _).trans ?_),
    (tested _).trans ((hs' _).trans ?_), (tested _).trans ((hl _).trans ?_), (tested _).trans ((hs' _).trans ?_), (tested _).trans ((hl _).trans ?_),
    (tested _).trans ((hs' _).trans ?_), (tested _).trans ((hl _).trans ?_)⟩
  all_goals
    simp only [show (0#32 : BitVec 32).toInt = 0 from rfl, show (1#32 : BitVec 32).toInt = 1 from rfl, show (2#32 : BitVec 32).toInt = 2 from rfl,
      show (3#32 : BitVec 32).toInt = 3 from rfl, show (4#32 : BitVec 32).toInt = 4 from rfl]
    omega

/-- What the body stores into the scratch buffer when `n` quarters hold tokens, last first. -/
def sumPieces (n : Fin 5) (s : Sums F) : List (View.Piece (Elt F) S1024x1024 .f32) :=
  match n with
  | 0 => []
  | 1 => [⟨rA0, s.q0⟩]
  | 2 => [⟨rA1, s.q1⟩, ⟨rA0, s.q0⟩]
  | 3 => [⟨rA2, s.q2⟩, ⟨rA1, s.q1⟩, ⟨rA0, s.q0⟩]
  | 4 => [⟨rA, s.all⟩]

/-- Stored over any contents, they agree with the sums where there are tokens. -/
theorem summed {w : BitVec 32} {n : Fin 5} (hn : Path w n) (f : scratch.view.ty.Contents (Elt F)) (s : Sums F) :
    Same w (Sums.of (scratch.view.read (Elt F) (scratch.view.writes (Elt F) f (sumPieces n s)))) s := by
  obtain ⟨k1, -, k3, -, k5, -, k7, -, k9, -⟩ := hn
  have m01 (f) (v L) := ld_miss (F := F) f 0 256 inb_S1024x1024_S256x1024_0_0 inb_S1024x1024_S256x1024_256_0 (by decide) v L
  have m02 (f) (v L) := ld_miss (F := F) f 0 512 inb_S1024x1024_S256x1024_0_0 inb_S1024x1024_S256x1024_512_0 (by decide) v L
  have m12 (f) (v L) := ld_miss (F := F) f 256 512 inb_S1024x1024_S256x1024_256_0 inb_S1024x1024_S256x1024_512_0 (by decide) v L
  refine ⟨fun hc => ?_, fun hc => ⟨fun hd => ?_, fun hd => ?_, fun hd => ?_, fun hd => ?_⟩⟩
  · obtain rfl : n = 4 := Fin.ext (k1.mp hc)
    dsimp only [Sums.of, sumPieces]
    exact ld_hit f rA s.all []
  · have hd := k3.mp hd
    have hc := fun e => hc (k1.mpr e)
    match n, hd, hc with
    | 1, _, _ => dsimp only [Sums.of, sumPieces]; exact ld_hit f rA0 s.q0 []
    | 2, _, _ => dsimp only [Sums.of, sumPieces]; exact (m01 f s.q1 _).trans (ld_hit f rA0 s.q0 [])
    | 3, _, _ => dsimp only [Sums.of, sumPieces]; exact (m02 f s.q2 _).trans ((m01 f s.q1 _).trans (ld_hit f rA0 s.q0 []))
    | 4, _, hc => exact absurd rfl hc
  · have hd := k5.mp hd
    have hc := fun e => hc (k1.mpr e)
    match n, hd, hc with
    | 2, _, _ => dsimp only [Sums.of, sumPieces]; exact ld_hit f rA1 s.q1 _
    | 3, _, _ => dsimp only [Sums.of, sumPieces]; exact (m12 f s.q2 _).trans (ld_hit f rA1 s.q1 _)
    | 4, _, hc => exact absurd rfl hc
  · have hd := k7.mp hd
    have hc := fun e => hc (k1.mpr e)
    match n, hd, hc with
    | 3, _, _ => dsimp only [Sums.of, sumPieces]; exact ld_hit f rA2 s.q2 _
    | 4, _, hc => exact absurd rfl hc
  · exact absurd (k1.mpr (by have := k9.mp hd; omega)) hc

/-- Two lists of the four quarters' pieces are equal when their payloads are. -/
theorem quarters_eq {p0 p1 p2 p3 r0 r1 r2 r3 : Vec F S256x8x128 .f32} (h0 : p0 = r0) (h1 : p1 = r1) (h2 : p2 = r2) (h3 : p3 = r3) :
    ([⟨rO3, p3⟩, ⟨rO2, p2⟩, ⟨rO1, p1⟩, ⟨rO0, p0⟩] : List (View.Piece (Elt F) S1024x8x128 .f32)) = [⟨rO3, r3⟩, ⟨rO2, r2⟩, ⟨rO1, r1⟩, ⟨rO0, r0⟩] := by
  rw [h0, h1, h2, h3]

set_option maxHeartbeats 4000000 in
/-- The body, from its inputs' blocks, the tables and a scratch buffer, leaves in the scratch buffer what agrees with the step's sums,
    and at the last step the block in the output's buffer; everything else stays as it was. -/
theorem body_runs (c : Dev nD) (E : Set ℕ) (i : grid0.Coords) (arg5 : Memref sig .tc .vmem S1024x2048 .bf16) (harg5 : arg5.IsWhole)
    (arg6 : Memref sig .tc .vmem S1x1x2048x1024 .f32) (harg6 : arg6.IsWhole)
    (arg7 : Memref sig .tc .vmem S1024x8x128 .f32) (harg7 : arg7.IsWhole) (T0 T1 : S26.Idx → BitVec 32) (n : Fin 5) (hn : Path (word (F := F) i T1) n)
    (z l : Bool) (hs : AtStep i z l)
    (x0 : Vec F S1024x2048 .bf16) (x1 : Vec F S1x1x2048x1024 .f32) (x2 : Vec F S1024x8x128 .f32) (A : Vec F S1024x1024 .f32) (K : PUnit → sProp 𝕄) :
    iprop(owns (c : Thread nD τ) arg5 fullShare x0 ∗ owns (c : Thread nD τ) arg6 fullShare x1
        ∗ (experts.view.loc (c : Thread nD τ) ↦{fullShare.right} T0) ∗ (quarters.view.loc (c : Thread nD τ) ↦{fullShare.right} T1)
        ∗ owns (c : Thread nD τ) arg7 fullShare x2 ∗ owns (c : Thread nD τ) scratch fullShare A
        ∗ (iprop(owns (c : Thread nD τ) arg5 fullShare x0 ∗ owns (c : Thread nD τ) arg6 fullShare x1
            ∗ (experts.view.loc (c : Thread nD τ) ↦{fullShare.right} T0) ∗ (quarters.view.loc (c : Thread nD τ) ↦{fullShare.right} T1)
            ∗ owns (c : Thread nD τ) arg7 fullShare (if l = true then block (word (F := F) i T1) ((Sums.of A).step z x0 x1) else x2)
            ∗ (∃ B, owns (c : Thread nD τ) scratch fullShare B ∗ ⌜Same (word (F := F) i T1) (Sums.of B) ((Sums.of A).step z x0 x1)⌝)) -∗ K ⟨⟩))
      ⊢ wp frame (wpE (defs₀ (F := F)) Variants.none c none) E (cc0_expert_down i experts (Memref.isWhole_whole _) quarters (Memref.isWhole_whole _) arg5 harg5 arg6 harg6 arg7 harg7 scratch (Memref.isWhole_whole _)) K := by
  have hsum (f : scratch.view.ty.Contents (Elt F)) (s : Sums F) (p : List (View.Piece (Elt F) S1024x1024 .f32)) (hp : p = sumPieces n s) :
      Same (word (F := F) i T1) (Sums.of (scratch.view.read (Elt F) (scratch.view.writes (Elt F) f p))) s := by
    subst hp
    exact summed hn f s
  obtain ⟨k1, k2, k3, k4, k5, k6, k7, k8, k9, k10⟩ := hn
  obtain ⟨s1, s2, s3, s4, s5, s6, s7, s8, s9, s10, s11⟩ := hs
  have ho (v : Buf (Elt F) (arg7.view.loc (c : Thread nD τ))) (s : Sums F) (p : List (View.Piece (Elt F) S1024x8x128 .f32)) (hp : p = pieces (word (F := F) i T1) s) :
      arg7.view.read (Elt F) (arg7.view.writes (Elt F) v p) = block (word (F := F) i T1) s := by
    subst hp
    exact stored _ _ _ _
  unfold pieces at ho
  rw [cc0_expert_down_eq_skeleton]; unfold cc0_expert_down_skel
  unfold owns
  have hT0 : experts.IsWhole := Memref.isWhole_whole _
  have hT1 : quarters.IsWhole := Memref.isWhole_whole _
  have hS : scratch.IsWhole := Memref.isWhole_whole _
  iintro ⟨⟨%f0, %hf0, H0⟩, ⟨%f1, %hf1, H1⟩, HT0, HT1, ⟨%f3, %hf3, H3⟩, ⟨%f4, %hf4, H4⟩, Hk⟩
  subst hf0 hf1 hf3 hf4
  fin_cases n <;> cases z <;> cases l
  all_goals
    simp only [Fin.isValue, Fin.mk_zero, Fin.mk_one, Fin.reduceFinMk, Fin.val_zero, Fin.val_one, Fin.coe_ofNat_eq_mod, Nat.reduceMod, Nat.reduceEqDiff, Nat.reduceLT, Nat.reduceLeDiff,
      zero_lt_one, Nat.lt_irrefl, Nat.le_refl, iff_true, iff_false, OfNat.ofNat_ne_zero, OfNat.zero_ne_ofNat, OfNat.one_ne_ofNat, reduceCtorEq] at k1 k2 k3 k4 k5 k6 k7 k8 k9 k10 s1 s2 s3 s4 s5 s6 s7 s8 s9 s10 s11
    simp only [k1, k3, k5, k7, k9, if_true, if_false] at ho
    sl_exec! (disch := first | with_reducible assumption | assumption)
    sl_step
    iapply Hk
    isplitl [H0]
    · iexists f0; isplitr; · ipureintro; rfl
      iexact H0
    isplitl [H1]
    · iexists f1; isplitr; · ipureintro; rfl
      iexact H1
    isplitl [HT0]; · iexact HT0
    isplitl [HT1]; · iexact HT1
    isplitl [H3]
    · iexists _; isplitr
      swap; · iexact H3
      ipureintro
      first
        | exact (if_neg Bool.false_ne_true).symm
        | (refine Eq.trans ?_ (if_pos rfl).symm
           refine ho _ _ _ ?_
           first
             | exact quarters_eq (by first | exact congrArg k0_pay8 (cov_hit _ _ _) | rfl) (by first | exact congrArg k0_pay8 (cov_hit _ _ _) | rfl)
                 (by first | exact congrArg k0_pay8 (cov_hit _ _ _) | rfl) (by first | exact congrArg k0_pay8 (cov_hit _ _ _) | rfl)
             | exact congrArg (fun p => [(⟨rO, k0_pay4 p⟩ : View.Piece (Elt F) S1024x8x128 .f32)]) (cov_hit _ _ _))
    iexists _
    isplitl [H4]
    · iexists _; isplitr
      swap; · iexact H4
      ipureintro; rfl
    ipureintro
    first
      | (with_reducible refine hsum _ _ _ ?_)
        dsimp only [sumPieces, Sums.step, Sums.of, allStep, quarterStep, Bool.false_eq_true, ↓reduceIte]
        rfl
      | exact hsum f4 _ [] rfl

end Cert.Back

end
-- ==== Proof.BackRun.lean ====
module

public import proofs.«01_k».proof.Proof.BackBody
public import Idealize.ShloMosaic.Lib.Pipeline.Quiescent
public import Idealize.ShloMosaic.Lib.Claim
public import Idealize.ShloMosaic.Lib.Pipeline.Kit
public import Idealize.ShloMosaic.Lib.Pipeline.FrameBody
public import Idealize.ShloMosaic.Lib.Pipeline.ValueKit
public import Idealize.ShloMosaic.Lib.Writes
public import Idealize.ShloMosaic.Lib.Ring
public import Idealize.ShloMosaic.Lib.Exec
public import Idealize.ShloMosaic.Lib.Tactic
public import Idealize.ShloMosaic.Adequacy
public import Idealize.ShloMosaic.Init

/-! The run of the experts' second product (`expert_down`) for any tables in range. Between points the scratch buffer agrees
    with the sums so far where there are tokens; elsewhere it holds anything. -/

@[expose] public section

set_option maxRecDepth 16384

noncomputable section

namespace Cert.Back

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel4Ideal Cert.Kernel4Ideal.Gen

variable {F : FTy → Type} [FloatOps F]

local notation "𝕄" => MT nD τ sig Unit (Elt F) ℕ (UR sig nD τ) ℕ

/-! ## The tables -/

/-- The tables are in range: every entry of table 0 names one of the eight experts, every entry of table 1 is at most four. -/
def InRange (pf : pre0.Contents (Elt F)) : Prop :=
  (∀ x : S26.Idx, 0 ≤ BitVec.toInt (pf 0 x) ∧ BitVec.toInt (pf 0 x) < 8) ∧ ∀ x : S26.Idx, BitVec.toInt (pf 1 x) ≤ 4

/-- A word that is not negative reads the same without its sign. -/
theorem toNat_of_nonneg (w : BitVec 32) (h : 0 ≤ w.toInt) : (w.toNat : ℤ) = w.toInt := by
  rw [BitVec.toInt_eq_toNat_cond] at h ⊢; split at h <;> split <;> omega

/-- A choice between a small number's word and a constant's is one of the two. -/
theorem pick_le (b : BitVec 1) (k q n : ℕ) (hk : k ≤ n) (hq : q ≤ n) (hn : n < 2 ^ 32) : (Scalar.select b (BitVec.ofNat 32 k) (BitVec.ofNat 32 q)).toNat ≤ n := by
  unfold Scalar.select
  split <;> rw [BitVec.toNat_ofNat, Nat.mod_eq_of_lt (by omega)] <;> assumption

/-- The weights' blocks lie inside their array. -/
theorem weights_inside (pf : pre0.Contents (Elt F)) (hr : InRange pf) (i : grid0.Coords) (a : Fin 4) :
    (cc0_transform_1 k0_off1_inb numel1_S1 pf i a + 1) * S1x1x2048x1024.size a ≤ S1x8x14336x4096.size a := by
  have h0 := hr.1 ((Rect.unit (s := S26) (k0_off1 i) S1.size (k0_off1_inb i)).emb (Shape.Idx.first (numel1_S1.symm ▸ Nat.one_pos)))
  have hw := toNat_of_nonneg _ h0.1
  have hi : (i 1).val < 4 := (i 1).isLt
  have hk : (i 2).val < 7 := (i 2).isLt
  fin_cases a
  · show (0 + 1) * 1 ≤ 1; omega
  · show (BitVec.toNat (pf 0 ((Rect.unit (s := S26) (k0_off1 i) S1.size (k0_off1_inb i)).emb (Shape.Idx.first (numel1_S1.symm ▸ Nat.one_pos)))) + 1) * 1 ≤ 8
    omega
  · show (BitVec.toNat (Scalar.select _ (BitVec.ofNat 32 (i 2).val) (BitVec.ofNat 32 6)) + 1) * 2048 ≤ 14336
    have h := fun b => pick_le b (i 2).val 6 6 (by omega) (by omega) (by omega)
    exact (Nat.mul_le_mul_right 2048 (Nat.succ_le_succ (h _))).trans (by omega)
  · show (BitVec.toNat (Scalar.select _ (BitVec.ofNat 32 (i 1).val) (BitVec.ofNat 32 3)) + 1) * 1024 ≤ 4096
    have h := fun b => pick_le b (i 1).val 3 3 (by omega) (by omega) (by omega)
    exact (Nat.mul_le_mul_right 1024 (Nat.succ_le_succ (h _))).trans (by omega)

/-- Tables in range are admitted by the pipeline. -/
theorem admitted (pf : pre0.Contents (Elt F)) (hr : InRange pf) : ok0 pf :=
  fun i => ⟨weights_inside pf hr i, .inl rfl⟩

section Run

variable (pf : pre0.Contents (Elt F)) (hr : InRange pf)
variable (m : (ℓ : Loc nD τ sig) → Buf (Elt F) ℓ) (ρ : Dev nD → PrngReg)

abbrev EP : Emb (UR sig nD τ) 𝕄 := emb₁
def adm : (pcfg0 (F := F)).Adm := ⟨pf, admitted pf hr⟩
abbrev cfgA : Pipeline.Cfg sig Λ₀ := cfg0 (F := F) (adm pf hr)
abbrev pcs : Fin 1 → Pipeline.Cfg sig Λ₀ := Pipeline.pin (pcfgs (F := F)) fun _ => adm pf hr
abbrev crd (t : Fin (cfgA pf hr).N) : (cfgA pf hr).grid.Coords := (cfgA pf hr).grid.coords t

/-- The launch memory's tables are these. -/
def Holds : Prop := ∀ (c : Dev nD) (j : Fin 2), m ((c : Thread nD τ).loc (pre0.ref j)) = pf j

/-- The word of table 1 at a grid point. -/
abbrev wordAt (i : grid0.Coords) : BitVec 32 := word (F := F) i (pf 1)

include hr in
/-- A point is on one of the body's paths. -/
theorem path (i : grid0.Coords) : ∃ n, Path (wordAt pf i) n := ⟨_, path_of_le _ (hr.2 _)⟩

/-- The points' coordinates. -/
theorem crd_0 (t : Fin (cfgA pf hr).N) : (crd pf hr t 0).val = t.val / 28 % 26 := Pipeline.Grid.coords_val (G := grid0) t 0 (by decide) rfl
theorem crd_1 (t : Fin (cfgA pf hr).N) : (crd pf hr t 1).val = t.val / 7 % 4 := Pipeline.Grid.coords_val (G := grid0) t 1 (by decide) rfl
theorem crd_2 (t : Fin (cfgA pf hr).N) : (crd pf hr t 2).val = t.val / 1 % 7 := Pipeline.Grid.coords_val (G := grid0) t 2 (by decide) rfl
theorem lt_points (t : Fin (cfgA pf hr).N) : t.val < 728 := lt_of_lt_of_eq t.isLt N_0

/-- Points of one row block read one word. -/
theorem word_congr (i j : grid0.Coords) (h : (i 0).val = (j 0).val) : wordAt pf i = wordAt pf j := by
  refine congrArg (pf 1) (funext fun d => Fin.ext ?_)
  obtain rfl : d = (0 : Fin 1) := Subsingleton.elim (α := Fin 1) _ _
  show (BitVec.ofNat 32 (i 0).val).toNat + 1 * 0 = (BitVec.ofNat 32 (j 0).val).toNat + 1 * 0
  rw [h]

/-- The pipeline's word is the body's. -/
theorem pipe_word (i : grid0.Coords) : Pipeline.Prefetch.Contents.atD pf 1 (k0_off1 i) = wordAt pf i := by
  have hin : ∀ a, k0_off1 i a + 1 ≤ S26.size a := fun a => by rw [Fin.fin_one_eq_zero a]; exact k0_off1_inb i 0
  show (if h : ∀ a, k0_off1 i a + 1 ≤ S26.size a then pf 1 (fun a => ⟨k0_off1 i a, h a⟩ : S26.Idx) else default) = _
  rw [dif_pos hin]
  refine congrArg (pf 1) (funext fun a => Fin.ext ?_)
  show k0_off1 i a = k0_off1 i a + 0 * 1
  omega

/-- The last of seven points does not leave the output alone. -/
theorem busy (i : grid0.Coords) (hl : last i = true) : (cfgA pf hr).idle (2 : Fin 3) i = false := by
  obtain ⟨n, h1, h2, h3, h4, -⟩ := path pf hr i
  obtain ⟨-, -, s1, s2, s3, -⟩ := at_step i
  rw [hl] at s1 s2 s3
  have hw := pipe_word pf i
  show (idle0 pf 2 i) = false
  simp only [idle0, hw]
  rcases Nat.lt_or_ge n.val 4 with h | h
  · rcases Nat.eq_zero_or_pos n.val with h' | h'
    · simp [h2.mpr h, h4.mpr (Nat.le_of_eq h'), s3]
    · simp [h2.mpr h, h3.mpr h', s2]
  · simp [h1.mpr (by omega), s1]

/-- The other six do. -/
theorem idle (i : grid0.Coords) (hl : last i = false) : (cfgA pf hr).idle (2 : Fin 3) i = true := by
  obtain ⟨-, -, s⟩ := at_step i
  simp only [hl, Bool.false_eq_true, iff_false] at s
  obtain ⟨s1, s2, s3, s4, s5, s6, s7, s8, s9⟩ := s
  show (idle0 pf 2 i) = true
  simp only [idle0]
  simp [s1, s2, s3, s4, s5, s6, s7, s8, s9]

/-- And are not followed by a write-back. -/
theorem no_flush (t : Fin (cfgA pf hr).N) (hl : last (crd pf hr t) = false) : ((cfgA pf hr).win (2 : Fin 3)).flush t = false := by
  have h728 := lt_points pf hr t
  have hk : t.val / 1 % 7 ≠ 6 := fun h => by
    have : last (crd pf hr t) = true := decide_eq_true ((crd_2 pf hr t).trans h)
    rw [hl] at this; exact Bool.false_ne_true this
  refine Bool.eq_false_iff.mpr fun hf => ?_
  rcases (Pipeline.Window.flush_out ((cfgA pf hr).win (2 : Fin 3)) rfl t).mp hf with h | ⟨h, hne⟩
  · have : t.val + 1 = 728 := h.trans N_0
    omega
  · refine hne (funext fun d => ?_)
    have e0 := crd_0 pf hr ⟨t.val + 1, h⟩
    have e1 := crd_1 pf hr ⟨t.val + 1, h⟩
    have f0 := crd_0 pf hr t
    have f1 := crd_1 pf hr t
    have g0 : (crd pf hr ⟨t.val + 1, h⟩ 0).val = (crd pf hr t 0).val := by rw [e0, f0]; show (t.val + 1) / 28 % 26 = _; omega
    have g1 : (crd pf hr ⟨t.val + 1, h⟩ 1).val = (crd pf hr t 1).val := by rw [e1, f1]; show (t.val + 1) / 7 % 4 = _; omega
    match d with
    | ⟨0, _⟩ => show (BitVec.ofNat 32 (crd pf hr ⟨t.val + 1, h⟩ 0).val).toNat = (BitVec.ofNat 32 (crd pf hr t 0).val).toNat; rw [g0]
    | ⟨1, _⟩ => show (BitVec.ofNat 32 (crd pf hr ⟨t.val + 1, h⟩ 1).val).toNat = (BitVec.ofNat 32 (crd pf hr t 1).val).toNat; rw [g1]
    | ⟨2, _⟩ => rfl

/-- Each window's buffer at a point. -/
abbrev buf0 (t : Fin (cfgA pf hr).N) : Memref sig .tc .vmem S1024x2048 .bf16 := spec0_0.stage ((cfgA pf hr).slots t (0 : Fin 3))
abbrev whole0 (t : Fin (cfgA pf hr).N) : (buf0 pf hr t).IsWhole := hstage0_0 (((cfgA pf hr).slots t (0 : Fin 3)).cast nbuf0_0)
abbrev buf1 (t : Fin (cfgA pf hr).N) : Memref sig .tc .vmem S1x1x2048x1024 .f32 := spec0_1.stage ((cfgA pf hr).slots t (1 : Fin 3))
abbrev whole1 (t : Fin (cfgA pf hr).N) : (buf1 pf hr t).IsWhole := hstage0_1 (((cfgA pf hr).slots t (1 : Fin 3)).cast nbuf0_1)
abbrev buf2 (t : Fin (cfgA pf hr).N) : Memref sig .tc .vmem S1024x8x128 .f32 := spec0_2.stage ((cfgA pf hr).slots t (2 : Fin 3))
abbrev whole2 (t : Fin (cfgA pf hr).N) : (buf2 pf hr t).IsWhole := hstage0_2 (((cfgA pf hr).slots t (2 : Fin 3)).cast nbuf0_2)

/-- Window `w`'s block at a point, read off its array at launch. -/
def iblk (c : Dev nD) (w : Fin (cfgA pf hr).W) (t : Fin (cfgA pf hr).N) :
    (((cfgA pf hr).win w).xblock (crd pf hr t)).Idx → Elt F ((cfgA pf hr).win w).elt :=
  (((cfgA pf hr).win w).blk t).view.read (Elt F) (m (((cfgA pf hr).win w).arr.view.loc (c : Thread nD τ)))

/-- The sums before point `n`. -/
def sums (c : Dev nD) : ℕ → Sums F
  | 0 => Sums.of (View.canon [])
  | n + 1 => if h : n < (cfgA pf hr).N then
      (sums c n).step (first (crd pf hr ⟨n, h⟩)) (iblk pf hr m c (0 : Fin 3) ⟨n, h⟩) (iblk pf hr m c (1 : Fin 3) ⟨n, h⟩)
    else sums c n

theorem sums_succ (c : Dev nD) (t : Fin (cfgA pf hr).N) : sums pf hr m c (t.val + 1)
    = (sums pf hr m c t.val).step (first (crd pf hr t)) (iblk pf hr m c (0 : Fin 3) t) (iblk pf hr m c (1 : Fin 3) t) := dif_pos t.isLt

/-- What the scratch buffer holds before point `n`: the sums where there are tokens, unless the point starts new ones. -/
def Kept (c : Dev nD) (n : ℕ) (A : Vec F S1024x1024 .f32) : Prop :=
  ∀ h : n < (cfgA pf hr).N, first (crd pf hr ⟨n, h⟩) = false → Same (wordAt pf (crd pf hr ⟨n, h⟩)) (Sums.of A) (sums pf hr m c n)

/-- What stays with the body from point to point: its halves of the tables and the scratch buffer. -/
def Stays (c : Dev nD) (n : ℕ) : sProp 𝕄 :=
  iprop((experts.view.loc (c : Thread nD τ) ↦{fullShare.right} pf 0) ∗ (quarters.view.loc (c : Thread nD τ) ↦{fullShare.right} pf 1)
    ∗ ∃ A, owns (c : Thread nD τ) scratch fullShare A ∗ ⌜Kept pf hr m c n A⌝)

/-- The pipeline's data: each input's buffer keeps its block, the output's holds the block of the sums. -/
def dats (_ : Fin 1) (c : Dev nD) : Dat τ (Elt F) Unit ℕ (UR sig nD τ) ℕ (cfgA pf hr) c where
  A w := m (((cfgA pf hr).win w).arr.view.loc (c : Thread nD τ))
  after w t := match w with
    | ⟨0, _⟩ => iblk pf hr m c (0 : Fin 3) t
    | ⟨1, _⟩ => iblk pf hr m c (1 : Fin 3) t
    | ⟨2, _⟩ => block (wordAt pf (crd pf hr t)) (sums pf hr m c (t.val + 1))
  Φ t := Stays pf hr m c t.val
  q _ := fullShare
  owed _ := 0

theorem stays_eq (c : Dev nD) (t : Fin ((cfgA pf hr).N + 1)) : (dats pf hr m 0 c).Φ t = Stays pf hr m c t.val := by unfold dats; rfl
theorem after_0 (c : Dev nD) (t : Fin (cfgA pf hr).N) : (dats pf hr m 0 c).after (0 : Fin 3) t = iblk pf hr m c (0 : Fin 3) t := rfl
theorem after_1 (c : Dev nD) (t : Fin (cfgA pf hr).N) : (dats pf hr m 0 c).after (1 : Fin 3) t = iblk pf hr m c (1 : Fin 3) t := rfl
theorem after_2 (c : Dev nD) (t : Fin (cfgA pf hr).N) : (dats pf hr m 0 c).after (2 : Fin 3) t
    = block (wordAt pf (crd pf hr t)) (sums pf hr m c (t.val + 1)) := rfl

/-- Each input's buffer holds its block when the body runs. -/
theorem before_0 (c : Dev nD) (t : Fin (cfgA pf hr).N) (d) : (dats pf hr m 0 c).before (0 : Fin 3) t d = iblk pf hr m c (0 : Fin 3) t :=
  ((dats pf hr m 0 c).before_in_eq_fetched (0 : Fin 3) rfl (fun _ => rfl) (fun _ _ _ => rfl) (fun t => by rw [after_0]; unfold Dat.blockOf iblk; rfl) t d).trans
    (by unfold Dat.fetched Dat.blockOf iblk; rfl)
theorem before_1 (c : Dev nD) (t : Fin (cfgA pf hr).N) (d) : (dats pf hr m 0 c).before (1 : Fin 3) t d = iblk pf hr m c (1 : Fin 3) t :=
  ((dats pf hr m 0 c).before_in_eq_fetched (1 : Fin 3) rfl (fun _ => rfl) (fun _ _ _ => rfl) (fun t => by rw [after_1]; unfold Dat.blockOf iblk; rfl) t d).trans
    (by unfold Dat.fetched Dat.blockOf iblk; rfl)

/-- A step carries the scratch buffer's agreement with the sums to the next point. -/
theorem kept_succ (c : Dev nD) (t : Fin (cfgA pf hr).N) (A B : Vec F S1024x1024 .f32) (hA : Kept pf hr m c t.val A)
    (hB : Same (wordAt pf (crd pf hr t)) (Sums.of B) ((Sums.of A).step (first (crd pf hr t)) (iblk pf hr m c (0 : Fin 3) t) (iblk pf hr m c (1 : Fin 3) t))) :
    Kept pf hr m c (t.val + 1) B := fun h hz => by
  have h728 := lt_points pf hr ⟨t.val + 1, h⟩
  have hk : (t.val + 1) / 1 % 7 ≠ 0 := fun e => by
    have : first (crd pf hr ⟨t.val + 1, h⟩) = true := decide_eq_true ((crd_2 pf hr ⟨t.val + 1, h⟩).trans e)
    rw [hz] at this; exact Bool.false_ne_true this
  have hw : wordAt pf (crd pf hr ⟨t.val + 1, h⟩) = wordAt pf (crd pf hr t) := word_congr pf _ _ (by
    rw [crd_0, crd_0]; show (t.val + 1) / 28 % 26 = t.val / 28 % 26
    omega)
  rw [hw, sums_succ]
  exact hB.trans (Same.step _ _ _ fun e => hA t.isLt e)

/-- The block of the scratch buffer's step is the block of the sums. -/
theorem block_sums (c : Dev nD) (t : Fin (cfgA pf hr).N) (A : Vec F S1024x1024 .f32) (hA : Kept pf hr m c t.val A) :
    block (wordAt pf (crd pf hr t)) ((Sums.of A).step (first (crd pf hr t)) (iblk pf hr m c (0 : Fin 3) t) (iblk pf hr m c (1 : Fin 3) t))
      = block (wordAt pf (crd pf hr t)) (sums pf hr m c (t.val + 1)) := by
  rw [sums_succ]
  exact (Same.step _ _ _ fun e => hA t.isLt e).block

set_option maxHeartbeats 1000000 in
/-- The body at every point, as the pipeline asks it. -/
theorem body (c : Dev nD) : BodyObligation (dats pf hr m 0 c) (defs₀ (F := F)) Variants.none () Set.univ := fun t => by
  obtain ⟨n, hn⟩ := path pf hr (crd pf hr t)
  rw [bigSep_W0, bigSep_W0]
  have hkeep (A B) (hA) (hB) := kept_succ pf hr m c t A B hA hB
  have hblock (A) (hA) := block_sums pf hr m c t A hA
  have hs := at_step (crd pf hr t)
  cases hl : last (crd pf hr t)
  · have hb : (cfgA pf hr).idle (2 : Fin 3) ((cfgA pf hr).grid.coords t) = true := idle pf hr _ hl
    have hf : ((cfgA pf hr).win (2 : Fin 3)).flush t = false := no_flush pf hr t hl
    rewrite [hb, hf]
    simp only [before_0, before_1, after_0, after_1, after_2]
    rewrite [stays_eq, stays_eq, Fin.val_succ, Fin.val_castSucc,
      show (dats pf hr m 0 c).owesAt () t.succ = (dats pf hr m 0 c).owesAt () t.castSucc from rfl]
    unfold Stays
    rewrite [hl] at hs
    iintro ⟨⟨HT0, HT1, ⟨%A, HS, %hA⟩⟩, Ho, ⟨%d0, H0⟩, ⟨%d1, H1⟩, ⟨%d2, H2⟩⟩
    iapply (body_runs c Set.univ (crd pf hr t) (buf0 pf hr t) (whole0 pf hr t) (buf1 pf hr t) (whole1 pf hr t) (buf2 pf hr t) (whole2 pf hr t)
      (pf 0) (pf 1) n hn (first (crd pf hr t)) false hs (iblk pf hr m c (0 : Fin 3) t) (iblk pf hr m c (1 : Fin 3) t) ((dats pf hr m 0 c).before (2 : Fin 3) t d2) A _)
    isplitl [H0]; · iexact H0
    isplitl [H1]; · iexact H1
    isplitl [HT0]; · iexact HT0
    isplitl [HT1]; · iexact HT1
    isplitl [H2]; · iexact H2
    isplitl [HS]; · iexact HS
    iintro ⟨H0, H1, HT0, HT1, H2, ⟨%B, HS, %hB⟩⟩
    isplitl [HT0 HT1 HS]
    · isplitl [HT0]
      · iexact HT0
      isplitl [HT1]
      · iexact HT1
      iexists B
      isplitl [HS]
      · iexact HS
      ipureintro
      exact hkeep A B hA hB
    isplitl [Ho]; · iexact Ho
    isplitl [H0]; · iexact H0
    isplitl [H1]; · iexact H1
    rewrite [if_neg Bool.false_ne_true]
    iexists d2
    iexact H2
  · have hb : (cfgA pf hr).idle (2 : Fin 3) ((cfgA pf hr).grid.coords t) = false := busy pf hr _ hl
    rewrite [hb]
    simp only [before_0, before_1, after_0, after_1, after_2]
    rewrite [stays_eq, stays_eq, Fin.val_succ, Fin.val_castSucc,
      show (dats pf hr m 0 c).owesAt () t.succ = (dats pf hr m 0 c).owesAt () t.castSucc from rfl]
    unfold Stays
    rewrite [hl] at hs
    iintro ⟨⟨HT0, HT1, ⟨%A, HS, %hA⟩⟩, Ho, ⟨%d0, H0⟩, ⟨%d1, H1⟩, ⟨%d2, H2⟩⟩
    iapply (body_runs c Set.univ (crd pf hr t) (buf0 pf hr t) (whole0 pf hr t) (buf1 pf hr t) (whole1 pf hr t) (buf2 pf hr t) (whole2 pf hr t)
      (pf 0) (pf 1) n hn (first (crd pf hr t)) true hs (iblk pf hr m c (0 : Fin 3) t) (iblk pf hr m c (1 : Fin 3) t) ((dats pf hr m 0 c).before (2 : Fin 3) t d2) A _)
    isplitl [H0]; · iexact H0
    isplitl [H1]; · iexact H1
    isplitl [HT0]; · iexact HT0
    isplitl [HT1]; · iexact HT1
    isplitl [H2]; · iexact H2
    isplitl [HS]; · iexact HS
    iintro ⟨H0, H1, HT0, HT1, H2, ⟨%B, HS, %hB⟩⟩
    isplitl [HT0 HT1 HS]
    · isplitl [HT0]
      · iexact HT0
      isplitl [HT1]
      · iexact HT1
      iexists B
      isplitl [HS]
      · iexact HS
      ipureintro
      exact hkeep A B hA hB
    isplitl [Ho]; · iexact Ho
    isplitl [H0]; · iexact H0
    isplitl [H1]; · iexact H1
    rewrite [if_pos rfl, hblock A hA]
    iexact H2

/-! ## The launch -/

theorem share_eq (c : Dev nD) (w : Fin (cfgA pf hr).W) : (dats pf hr m 0 c).share w = fullShare := by unfold Dat.share; split <;> rfl

/-- The tables, as the launch hands them over, one by one. -/
theorem held_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg2) ↦{q 0} v 0) ∗ (((c : Thread nD τ).loc main_arg3) ↦{q 1} v 1)) := by
  unfold Pipeline.prefHeld
  rw [show (Finset.univ : Finset (Fin 2)) = insert (0 : Fin 2) {(1 : Fin 2)} from by decide, bigSep_insert (by decide), bigSep_singleton]
  rfl

/-- Before the first point the scratch buffer may hold anything. -/
theorem kept_zero (c : Dev nD) (A : Vec F S1024x1024 .f32) : Kept pf hr m c 0 A := fun h hz => by
  have : first (crd pf hr ⟨0, h⟩) = true := decide_eq_true ((crd_2 pf hr ⟨0, h⟩).trans (by show 0 / 1 % 7 = 0; rfl))
  rw [hz] at this
  exact absurd this Bool.false_ne_true

set_option backward.isDefEq.respectTransparency.types false in
set_option maxHeartbeats 4000000 in
/-- From a memory holding these tables every run ends, with each array at what the pipeline computes, the tables as they were and
    every semaphore at zero. -/
theorem run (hm : Holds pf m) : θ_run (defs (F := F)) (onTc (τ := τ) (main (F := F))) ⟨m, fun _ => 0, ρ⟩ fun r =>
    (∀ c : Dev nD, (∀ w : Fin (cfgA pf hr).W, r.2.mem (((cfgA pf hr).win w).arr.view.loc (c : Thread nD τ)) = (dats pf hr m 0 c).arrAt w (cfgA pf hr).N)
      ∧ ∀ j, r.2.mem ((c : Thread nD τ).loc (pre0.ref j)) = pf j) ∧ r.2.sem = fun _ => 0 :=
  Pipeline.θ_run_region_noSem_pf_quiescent pcfgs (fun _ => adm pf hr) (dats pf hr m) () ((launch0 (F := F)).cellOf_inj fun _ => adm pf hr) (0 : Fin 1)
    (launch0 (F := F)).win.to₀ (launch0 (F := F)).pre EP defs₀ Variants.none m ρ main
    (hbody := fun c => (body pf hr m c).loose) (hne := (launch0 (F := F)).block_pos)
    (harr := (launch0 (F := F)).arr_whole) (hstage := (launch0 (F := F)).stage_whole) (howed := fun _ _ => rfl)
    (u₀ := initOf (Pipeline.cells (pcs pf hr) ((launch0 (F := F)).cellOf_inj fun _ => adm pf hr)) (Pipeline.launchToks (pcs pf hr) ((launch0 (F := F)).cellOf_inj fun _ => adm pf hr)))
    (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs pf hr) (dats pf hr m) 0 (launch0 (F := F)).win.arr_inj c (launch0 (F := F)).arr_whole
      (share_eq pf hr m c) _ _ fun _ => rfl)
    (hpf := hm)
    (X := fun _ => iprop(emp)) (Y := fun _ => iprop(emp)) (Z := fun _ => iprop(emp))
    (hX := fun c => by rw [unscopedRestP0_eq]; iintro -; isplitr <;> iempintro)
    (hin := fun c => by
      show iprop(BI.emp ∗ Pipeline.prefHeld pre0 c (fun _ => fullShare.right) (adm pf hr).1 ∗ Pipeline.scopedRest spec0 c) ⊢ Stays pf hr m c 0
      rw [held_eq, scopedRest0_eq]; unfold Stays
      iintro ⟨-, ⟨HT0, HT1⟩, ⟨%f, HS⟩⟩
      isplitl [HT0]
      · iexact HT0
      isplitl [HT1]
      · iexact HT1
      iexists f
      isplitl [HS]
      · rw [owns_whole]; iexact HS
      ipureintro
      exact kept_zero pf hr m c f)
    (hout := fun c => by
      show Stays pf hr m c (cfgA pf hr).N ⊢ iprop(BI.emp ∗ Pipeline.scopedRest spec0 c)
      rw [scopedRest0_eq]; unfold Stays
      iintro ⟨-, -, ⟨%A, HS, -⟩⟩
      isplitr; · iempintro
      iexists A
      have h : (owns (c : Thread nD τ) scratch fullShare A : sProp 𝕄) ⊢ ((c : Thread nD τ).loc cc0_scratch0) ↦{fullShare} A := by rw [owns_whole]
      iapply h; iexact HS)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

include hr in
/-- Every run ends with the arguments unchanged and every semaphore at zero. -/
theorem frame (hm : Holds pf m) : θ_run (defs (F := F)) (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  (θ_run defs _ _).mono (fun _ h => ⟨fun c => ⟨((h.1 c).1 (0 : Fin 3)).trans ((dats pf hr m 0 c).arrAt_in (0 : Fin 3) rfl _),
    ((h.1 c).1 (1 : Fin 3)).trans ((dats pf hr m 0 c).arrAt_in (1 : Fin 3) rfl _),
    ((h.1 c).2 0).trans (hm c 0).symm, ((h.1 c).2 1).trans (hm c 1).symm⟩, h.2⟩) (run pf hr m ρ hm)

end Run

end Cert.Back

end
-- ==== Proof.Back.lean ====
module

public import proofs.«01_k».proof.Proof.BackRun
public import proofs.«01_k».proof.Proof.Experts
public import proofs.«01_k».proof.Proof.Gen.Kernel4
public import proofs.«01_k».proof.Proof.Gen.Reference4Ideal.Run
public import proofs.«01_k».proof.Proof.Gen.Pre_tables_in_range4
public import Idealize.ShloMosaic.Lib.KernelVsHost
public import proofs.«01_k».proof.Defs

/-! The experts' second product (`expert_down`): a row block's live rows hold their product with the expert's weight, added up
    over seven points, and its other rows zeros. -/

@[expose] public section

set_option maxRecDepth 16384

noncomputable section

namespace Cert.Back

open Idealize.ShloMosaic Idealize.ShloMosaic.TcCoe Idealize.SL.Sem
open Idealize.ShloMosaic.Pipeline (Dat)
open Cert.Kernel4Ideal Cert.Kernel4Ideal.Gen

/-! ## The precondition -/

/-- The precondition, entry by entry. -/
theorem decode {F : FTy → Type} [FloatOps F] (x : FVec F S26624x14336 .bf16) (w : FVec F S1x8x14336x4096 .f32) (be ns : IVec S26 32)
    (h : Cert.Pre_tables_in_range4.fn x w be ns = fun _ => 1#1) (b : S26.Idx) :
    (0 ≤ (be b).toInt ∧ (be b).toInt < 8) ∧ 0 ≤ (ns b).toInt ∧ (ns b).toInt ≤ 4 := by
  have hb : ((BitVec.ofBool (BitVec.sle 0#32 (be b)) &&& BitVec.ofBool (BitVec.slt (be b) 8#32)) &&& BitVec.ofBool (BitVec.sle 0#32 (ns b)))
      &&& BitVec.ofBool (BitVec.sle (ns b) 4#32) = 1#1 := congrFun h b
  exact Experts.words _ _ hb

section Tables

variable {F : FTy → Type} [FloatOps F] (m : (ℓ : Loc nD τ sig) → Buf (Elt F) ℓ)

/-- The tables of a memory. -/
def tables : pre0.Contents (Elt F) := fun j => m (((0 : Dev nD) : Thread nD τ).loc (pre0.ref j))

/-- There is one device. -/
theorem holds : Holds (tables m) m := fun c j => by obtain rfl : c = 0 := Subsingleton.elim _ _; rfl

end Tables

/-- Every run of the kernel ends with its arguments unchanged and its counters at zero. -/
theorem frame_Kernel4Ideal : Cert.quiescent_Kernel4Ideal := fun m ρ hp => by
  have hd := decode _ _ _ _ (hp 0)
  exact frame (tables m) ⟨fun x => (hd x).1, fun x => (hd x).2.2⟩ m ρ (holds m)

/-- The body's table as printed for the device is the one the run is stated for. -/
theorem defs₀_eq {F : FTy → Type} [FloatOps F] : Cert.Kernel4.defs₀ (F := F) = Cert.Kernel4Ideal.defs₀ (F := F) := by
  unfold Cert.Kernel4.defs₀ Cert.Kernel4Ideal.defs₀
  refine congrArg Defs.onTc (funext fun a => funext fun b => ?_)
  obtain rfl : a = (0 : Fin 1) := Subsingleton.elim (α := Fin 1) _ _
  rfl

/-- And so are the program's functions. -/
theorem defs_eq {F : FTy → Type} [FloatOps F] : Cert.Kernel4.defs (F := F) = Cert.Kernel4Ideal.defs (F := F) :=
  congrArg (Pipeline.defs (Cert.Kernel4Ideal.pcfgs (F := F))) defs₀_eq

/-- Every run of the kernel on the device's numbers ends with its arguments unchanged and its counters at zero. -/
theorem frame_Kernel4 : Cert.quiescent_Kernel4 := fun m ρ hp => by
  have hd := decode _ _ _ _ (hp 0)
  rw [defs_eq]
  exact frame (F := Bits) (tables (F := Bits) m) ⟨fun x => (hd x).1, fun x => (hd x).2.2⟩ m ρ (holds (F := Bits) m)

/-! ## The value -/

/-- A row of a block with a column of a weight's block. -/
abbrev part (x : Vec Ideal S1024x2048 .bf16) (w : Vec Ideal S1x1x2048x1024 .f32) (a b : Fin 1024) : EReal :=
  ∑ k : Fin 2048, x (ix2 a k) * w (ix4 0 0 k b)

theorem all_first (x : Vec Ideal S1024x2048 .bf16) (w : Vec Ideal S1x1x2048x1024 .f32) (a b : Fin 1024) :
    k0_pay2 (F := Ideal) x w (ix2 a b) = part x w a b := by
  pointwise [k0_pay2, k0_pay1]

theorem all_later (x : Vec Ideal S1024x2048 .bf16) (w : Vec Ideal S1x1x2048x1024 .f32) (v : Vec Ideal S1024x1024 .f32) (a b : Fin 1024) :
    k0_pay3 (F := Ideal) x w v (ix2 a b) = v (ix2 a b) + part x w a b := by
  pointwise [k0_pay3, k0_pay1]

theorem quarter_first (x : Vec Ideal S256x2048 .bf16) (w : Vec Ideal S1x1x2048x1024 .f32) (a : Fin 256) (b : Fin 1024) :
    k0_pay6 (F := Ideal) x w (ix2 a b) = ∑ k : Fin 2048, x (ix2 a k) * w (ix4 0 0 k b) := by
  pointwise [k0_pay6, k0_pay5]

theorem quarter_later (x : Vec Ideal S256x2048 .bf16) (w : Vec Ideal S1x1x2048x1024 .f32) (v : Vec Ideal S256x1024 .f32) (a : Fin 256) (b : Fin 1024) :
    k0_pay7 (F := Ideal) x w v (ix2 a b) = v (ix2 a b) + ∑ k : Fin 2048, x (ix2 a k) * w (ix4 0 0 k b) := by
  pointwise [k0_pay7, k0_pay5]

theorem out_all (v : Vec Ideal S1024x1024 .f32) (a : Fin 1024) (u : Fin 8) (l : Fin 128) :
    k0_pay4 (F := Ideal) v (ix3 a u l) = v (ix2 a ⟨u.val * 128 + l.val, by omega⟩) := by
  pointwise [k0_pay4]

theorem out_quarter (v : Vec Ideal S256x1024 .f32) (a : Fin 256) (u : Fin 8) (l : Fin 128) :
    k0_pay8 (F := Ideal) v (ix3 a u l) = v (ix2 a ⟨u.val * 128 + l.val, by omega⟩) := by
  pointwise [k0_pay8]

theorem out_dead (y : S256x8x128.Idx) : k0_pay9 (F := Ideal) y = 0 := by
  pointwise [k0_pay9]

/-- A quarter's load off the block of rows, at an index. -/
theorem ld_quarter (o : Nat) (inb : ∀ a, (![o, 0] : Fin 2 → Nat) a + S256x2048.size a ≤ S1024x2048.size a) (x0 : Vec Ideal S1024x2048 .bf16) (a : Fin 256) (k : Fin 2048)
    (ho : o + a.val < 1024) :
    View.ld x0 (Rect.unit (s := S1024x2048) ![o, 0] S256x2048.size inb) (ix2 a k) = x0 (ix2 ⟨o + a.val, ho⟩ k) := by
  show x0 _ = x0 _
  refine congrArg x0 (funext fun d => Fin.ext ?_)
  match d with
  | ⟨0, _⟩ => show o + 1 * a.val = o + a.val; omega
  | ⟨1, _⟩ => show 0 + 1 * k.val = k.val; omega

/-- The load of a whole block of rows is the block. -/
theorem ld_rows (x : Vec Ideal S1024x2048 .bf16) : View.ld x rX = x :=
  View.ld_unit_lit' inb_S1024x2048_S1024x2048_0_0 x (by decide)

/-- The load of a whole weight's block is the block. -/
theorem ld_weight (x : Vec Ideal S1x1x2048x1024 .f32) : View.ld x rW = x :=
  View.ld_unit_lit' inb_S1x1x2048x1024_S1x1x2048x1024_0_0_0_0 x (by decide)

/-- One step's sum over the whole block, at an index. -/
theorem allStep_at (z : Bool) (x0 : Vec Ideal S1024x2048 .bf16) (x1 : Vec Ideal S1x1x2048x1024 .f32) (v : Vec Ideal S1024x1024 .f32) (a b : Fin 1024) :
    allStep z (View.ld x0 rX) (View.ld x1 rW) v (ix2 a b) = (if z = true then 0 else v (ix2 a b)) + part x0 x1 a b := by
  rw [ld_rows, ld_weight]
  cases z
  · exact all_later x0 x1 v a b
  · exact (all_first x0 x1 a b).trans (zero_add _).symm

/-- One step's sum over a quarter, at an index. -/
theorem quarterStep_at (z : Bool) (o : Nat) (inb : ∀ a, (![o, 0] : Fin 2 → Nat) a + S256x2048.size a ≤ S1024x2048.size a) (x0 : Vec Ideal S1024x2048 .bf16)
    (x1 : Vec Ideal S1x1x2048x1024 .f32) (v : Vec Ideal S256x1024 .f32) (a : Fin 256) (b : Fin 1024) (ho : o + a.val < 1024) :
    quarterStep z (View.ld x0 (Rect.unit (s := S1024x2048) ![o, 0] S256x2048.size inb)) (View.ld x1 rW) v (ix2 a b)
      = (if z = true then 0 else v (ix2 a b)) + part x0 x1 ⟨o + a.val, ho⟩ b := by
  rw [ld_weight]
  have hp : ∑ k : Fin 2048, View.ld x0 (Rect.unit (s := S1024x2048) ![o, 0] S256x2048.size inb) (ix2 a k) * x1 (ix4 0 0 k b) = part x0 x1 ⟨o + a.val, ho⟩ b :=
    Finset.sum_congr rfl fun k _ => congrArg (fun p : EReal => p * x1 (ix4 0 0 k b)) (ld_quarter o inb x0 a k ho)
  rw [← hp]
  cases z
  · exact quarter_later _ x1 v a b
  · exact (quarter_first _ x1 a b).trans (zero_add _).symm

/-- The block with `T` on its live rows, when `n` quarters hold tokens. -/
def blockOf (n : Nat) (T : Fin 1024 → Fin 1024 → EReal) : Vec Ideal S1024x8x128 .f32 := fun y =>
  if (y 0).val < 256 * n then T (y 0) ⟨(y 1).val * 128 + (y 2).val, by have h1 : (y 1).val < 8 := (y 1).isLt; have h2 : (y 2).val < 128 := (y 2).isLt; omega⟩ else 0

/-- A quarter's stored rows are the block's, `o` the quarter's first row. -/
theorem quarter (n o : Nat) (live : Prop) [Decidable live] (inb : ∀ a, (![o, 0, 0] : Fin 3 → Nat) a + S256x8x128.size a ≤ S1024x8x128.size a)
    (q : Vec Ideal S256x1024 .f32) (T : Fin 1024 → Fin 1024 → EReal) (hq : ∀ (a : Fin 256) (b : Fin 1024) (ha : o + a.val < 1024), q (ix2 a b) = T ⟨o + a.val, ha⟩ b)
    (hl : live ↔ o < 256 * n) (h256 : 256 ∣ o) (x : S256x8x128.Idx) :
    (if live then k0_pay8 (F := Ideal) q else k0_pay9 (F := Ideal)) x = blockOf n T ((Rect.unit (s := S1024x8x128) ![o, 0, 0] S256x8x128.size inb).emb x) := by
  obtain ⟨a, u, l, rfl⟩ : ∃ (a : Fin 256) (u : Fin 8) (l : Fin 128), x = ix3 a u l :=
    ⟨x 0, x 1, x 2, by funext d; match d with | ⟨0, _⟩ => rfl | ⟨1, _⟩ => rfl | ⟨2, _⟩ => rfl⟩
  have ho : o + 256 ≤ 1024 := inb 0
  have ha : o + a.val < 1024 := by omega
  have he : (Rect.unit (s := S1024x8x128) ![o, 0, 0] S256x8x128.size inb).emb (ix3 a u l) = ix3 ⟨o + a.val, ha⟩ u l := by
    funext d
    refine Fin.ext ?_
    match d with
    | ⟨0, _⟩ => show o + 1 * a.val = o + a.val; omega
    | ⟨1, _⟩ => show 0 + 1 * u.val = u.val; omega
    | ⟨2, _⟩ => show 0 + 1 * l.val = l.val; omega
  rw [he]
  have hd : live ↔ o + a.val < 256 * n := hl.trans (by omega)
  show _ = if o + a.val < 256 * n then T ⟨o + a.val, ha⟩ ⟨u.val * 128 + l.val, by omega⟩ else 0
  by_cases h : live
  · rw [if_pos h, if_pos (hd.mp h), out_quarter]
    exact hq a _ ha
  · rw [if_neg h, if_neg fun g => h (hd.mpr g)]
    exact out_dead _

/-- The block the last step leaves, on any of its paths, from sums that are `T`. -/
theorem block_eq (w : BitVec 32) (n : Fin 5) (hn : Path w n) (s : Sums Ideal) (T : Fin 1024 → Fin 1024 → EReal) (hall : ∀ a b, s.all (ix2 a b) = T a b)
    (h0 : ∀ (a : Fin 256) (b : Fin 1024) (ha : 0 + a.val < 1024), s.q0 (ix2 a b) = T ⟨0 + a.val, ha⟩ b)
    (h1 : ∀ (a : Fin 256) (b : Fin 1024) (ha : 256 + a.val < 1024), s.q1 (ix2 a b) = T ⟨256 + a.val, ha⟩ b)
    (h2 : ∀ (a : Fin 256) (b : Fin 1024) (ha : 512 + a.val < 1024), s.q2 (ix2 a b) = T ⟨512 + a.val, ha⟩ b)
    (h3 : ∀ (a : Fin 256) (b : Fin 1024) (ha : 768 + a.val < 1024), s.q3 (ix2 a b) = T ⟨768 + a.val, ha⟩ b) :
    block (F := Ideal) w s = blockOf n.val T := by
  obtain ⟨k1, k2, k3, k4, k5, k6, k7, k8, k9, k10⟩ := hn
  funext y
  unfold block pieces
  split
  · rename_i h
    have h4 := k1.mp h
    rw [View.canon_cons_unit_lit' inb_S1024x8x128_S1024x8x128_0_0_0 _ _ (by decide)]
    obtain ⟨a, u, l, rfl⟩ : ∃ (a : Fin 1024) (u : Fin 8) (l : Fin 128), y = ix3 a u l :=
      ⟨y 0, y 1, y 2, by funext d; match d with | ⟨0, _⟩ => rfl | ⟨1, _⟩ => rfl | ⟨2, _⟩ => rfl⟩
    rw [out_all, hall]
    exact (if_pos (show a.val < 256 * n.val by omega)).symm
  · refine View.canon_apply_of_pieces (blockOf n.val T) _ ?_ y (cover_quarters _ _ _ _ y)
    intro p hp
    simp only [List.mem_cons, List.not_mem_nil, or_false] at hp
    rcases hp with rfl | rfl | rfl | rfl
    · exact quarter n.val 768 _ inb_S1024x8x128_S256x8x128_768_0_0 s.q3 T h3 (k9.trans (by omega)) (by decide)
    · exact quarter n.val 512 _ inb_S1024x8x128_S256x8x128_512_0_0 s.q2 T h2 (k7.trans (by omega)) (by decide)
    · exact quarter n.val 256 _ inb_S1024x8x128_S256x8x128_256_0_0 s.q1 T h1 (k5.trans (by omega)) (by decide)
    · exact quarter n.val 0 _ inb_S1024x8x128_S256x8x128_0_0_0 s.q0 T h0 (k3.trans (by omega)) (by decide)

/-- Row `r` of the hidden array with column `e` of its expert's weight. -/
def up (x : FVec Ideal S26624x14336 .bf16) (w : FVec Ideal S1x8x14336x4096 .f32) (be : IVec S26 32) (r : Fin 26624) (e : Fin 4096) : EReal :=
  ∑ k : Fin 14336, x (ix2 r k) * w (ix4 0 (Experts.expert be (Experts.blk r)) k e)

/-- The product by expert, zero outside the live rows, each row laid out as 32 rows of 128. -/
def down (x : FVec Ideal S26624x14336 .bf16) (w : FVec Ideal S1x8x14336x4096 .f32) (be ns : IVec S26 32) : FVec Ideal S26624x32x128 .f32 := fun i =>
  if (i 0).val % 1024 < Experts.live ns (Experts.blk (i 0)) then
    up x w be (i 0) ⟨(i 1).val * 128 + (i 2).val, by have h1 : (i 1).val < 32 := (i 1).isLt; have h2 : (i 2).val < 128 := (i 2).isLt; omega⟩ else 0

section Final

variable (pf : pre0.Contents (Elt Ideal)) (hr : InRange pf) (m : (ℓ : Loc nD τ sig) → Buf (Elt Ideal) ℓ)

/-- The word the body reads is its row block's entry of table 1. -/
theorem word_eq (i : grid0.Coords) (b : Fin 26) (hb : b.val = (i 0).val) : wordAt pf i = pf 1 (ix1 b) := by
  refine congrArg (pf 1) (funext fun d => Fin.ext ?_)
  obtain rfl : d = (0 : Fin 1) := Subsingleton.elim (α := Fin 1) _ _
  show (BitVec.ofNat 32 (i 0).val).toNat + 1 * 0 = b.val
  rw [BitVec.toNat_ofNat, hb]
  have : (i 0).val < 26 := (i 0).isLt
  omega

/-- The rows' block, entry by entry. -/
theorem rows_at (c : Dev nD) (t : Fin (cfgA pf hr).N) (a : Fin 1024) (k : Fin 2048) (r : Fin 26624) (l : Fin 14336) (h : r.val = (crd pf hr t 0).val * 1024 + a.val)
    (h' : l.val = (crd pf hr t 2).val * 2048 + k.val) :
    iblk pf hr m c (0 : Fin 3) t (ix2 a k) = m ((c : Thread nD τ).loc main_arg0) (ix2 r l) := by
  have h26 : (crd pf hr t 0).val < 26 := (crd pf hr t 0).isLt
  have h7 : (crd pf hr t 2).val < 7 := (crd pf hr t 2).isLt
  refine congrArg (m ((c : Thread nD τ).loc main_arg0)) (funext fun d => Fin.ext ?_)
  match d with
  | ⟨0, _⟩ =>
    show (BitVec.ofNat 32 (crd pf hr t 0).val).toNat * 1024 + 1 * a.val = r.val
    rw [BitVec.toNat_ofNat]; omega
  | ⟨1, _⟩ =>
    show (BitVec.ofNat 32 (crd pf hr t 2).val).toNat * 2048 + 1 * k.val = l.val
    rw [BitVec.toNat_ofNat]; omega

/-- The output's block in the result. -/
theorem out_emb (t : Fin (cfgA pf hr).N) (a : Fin 1024) (u : Fin 8) (l : Fin 128) (r : Fin 26624) (v : Fin 32) (h : r.val = (crd pf hr t 0).val * 1024 + a.val)
    (h' : v.val = (crd pf hr t 1).val * 8 + u.val) :
    (((cfgA pf hr).win (2 : Fin 3)).blk t).view.emb (ix3 a u l) = ix3 r v l := by
  have h26 : (crd pf hr t 0).val < 26 := (crd pf hr t 0).isLt
  have h4 : (crd pf hr t 1).val < 4 := (crd pf hr t 1).isLt
  refine funext fun d => Fin.ext ?_
  match d with
  | ⟨0, _⟩ =>
    show (BitVec.ofNat 32 (crd pf hr t 0).val).toNat * 1024 + 1 * a.val = r.val
    rw [BitVec.toNat_ofNat]; omega
  | ⟨1, _⟩ =>
    show (BitVec.ofNat 32 (crd pf hr t 1).val).toNat * 8 + 1 * u.val = v.val
    rw [BitVec.toNat_ofNat]; omega
  | ⟨2, _⟩ =>
    show 0 * 128 + 1 * l.val = l.val
    omega

/-- Tables of zeros. -/
def zeros : pre0.Contents (Elt Ideal) := fun
  | 0 => fun _ => 0#32
  | 1 => fun _ => 0#32

/-- They are in range. -/
theorem zero_range : InRange zeros :=
  ⟨fun _ => ⟨(by decide : 0 ≤ (0#32 : BitVec 32).toInt), (by decide : (0#32 : BitVec 32).toInt < 8)⟩, fun _ => (by decide : (0#32 : BitVec 32).toInt ≤ 4)⟩

/-- The output's blocks cover the result, whatever the tables. -/
theorem covers : ((cfgA pf hr).win (2 : Fin 3)).Covers :=
  (by decide +kernel : ((cfgA zeros zero_range).win (2 : Fin 3)).Covers)

/-- The weight's block, entry by entry, at a point whose row block has live rows. -/
theorem weight_at (c : Dev nD) (t : Fin (cfgA pf hr).N) (b : Fin 26) (hb : b.val = (crd pf hr t 0).val) (hl : 0 < (pf 1 (ix1 b)).toInt)
    (k : Fin 2048) (y : Fin 1024) (l : Fin 14336) (e : Fin 4096) (hk : l.val = (crd pf hr t 2).val * 2048 + k.val) (he : e.val = (crd pf hr t 1).val * 1024 + y.val) :
    iblk pf hr m c (1 : Fin 3) t (ix4 0 0 k y) = m ((c : Thread nD τ).loc main_arg1) (ix4 0 (Experts.expert (pf 0) b) l e) := by
  have h26 : (crd pf hr t 0).val < 26 := (crd pf hr t 0).isLt
  have h4 : (crd pf hr t 1).val < 4 := (crd pf hr t 1).isLt
  have h7 : (crd pf hr t 2).val < 7 := (crd pf hr t 2).isLt
  have hx : (Rect.unit (s := S26) (k0_off1 (crd pf hr t)) S1.size (k0_off1_inb (crd pf hr t))).emb (Shape.Idx.first (numel1_S1.symm ▸ Nat.one_pos)) = ix1 b := by
    refine funext fun d => Fin.ext ?_
    obtain rfl : d = (0 : Fin 1) := Subsingleton.elim (α := Fin 1) _ _
    show (BitVec.ofNat 32 (crd pf hr t 0).val).toNat + 1 * 0 = b.val
    rw [BitVec.toNat_ofNat, hb]; omega
  have h0 := hr.1 (ix1 b)
  have hn := toNat_of_nonneg _ h0.1
  have hs : Scalar.cmpi .sgt (pf 1 (ix1 b) : BitVec 32) 0#32 = 1#1 := by
    show BitVec.ofBool (BitVec.slt 0#32 (pf 1 (ix1 b))) = 1#1
    have : BitVec.slt 0#32 (pf 1 (ix1 b)) = true := by simpa [BitVec.slt] using hl
    rw [this]; rfl
  have q : cc0_transform_1 k0_off1_inb numel1_S1 pf (crd pf hr t) = ![0, (Experts.expert (pf 0) b).val, (crd pf hr t 2).val, (crd pf hr t 1).val] := by
    show ![0, BitVec.toNat (pf 0 ((Rect.unit (s := S26) (k0_off1 (crd pf hr t)) S1.size (k0_off1_inb (crd pf hr t))).emb (Shape.Idx.first (numel1_S1.symm ▸ Nat.one_pos)))),
      BitVec.toNat (Scalar.select (Scalar.cmpi .sgt (pf 1 ((Rect.unit (s := S26) (k0_off1 (crd pf hr t)) S1.size (k0_off1_inb (crd pf hr t))).emb
        (Shape.Idx.first (numel1_S1.symm ▸ Nat.one_pos))) : BitVec 32) 0#32) (BitVec.ofNat 32 (crd pf hr t 2).val) 6#32),
      BitVec.toNat (Scalar.select (Scalar.cmpi .sgt (pf 1 ((Rect.unit (s := S26) (k0_off1 (crd pf hr t)) S1.size (k0_off1_inb (crd pf hr t))).emb
        (Shape.Idx.first (numel1_S1.symm ▸ Nat.one_pos))) : BitVec 32) 0#32) (BitVec.ofNat 32 (crd pf hr t 1).val) 3#32)] = _
    rw [hx, hs]
    have e1 : BitVec.toNat (pf 0 (ix1 b)) = (Experts.expert (pf 0) b).val := by
      show _ = min (BitVec.toInt (pf 0 (ix1 b))).toNat 7
      omega
    have e2 : BitVec.toNat (Scalar.select 1#1 (BitVec.ofNat 32 (crd pf hr t 1).val) 3#32) = (crd pf hr t 1).val := by
      show (BitVec.ofNat 32 (crd pf hr t 1).val).toNat = _
      rw [BitVec.toNat_ofNat]; omega
    have e3 : BitVec.toNat (Scalar.select 1#1 (BitVec.ofNat 32 (crd pf hr t 2).val) 6#32) = (crd pf hr t 2).val := by
      show (BitVec.ofNat 32 (crd pf hr t 2).val).toNat = _
      rw [BitVec.toNat_ofNat]; omega
    rw [e1, e2, e3]
  refine congrArg (m ((c : Thread nD τ).loc main_arg1)) (funext fun d => Fin.ext ?_)
  show cc0_transform_1 k0_off1_inb numel1_S1 pf (crd pf hr t) d * S1x1x2048x1024.size d + 1 * ((ix4 0 0 k y : S1x1x2048x1024.Idx) d).val
    = ((ix4 0 (Experts.expert (pf 0) b) l e : S1x8x14336x4096.Idx) d).val
  rw [q]
  match d with
  | ⟨0, _⟩ => rfl
  | ⟨1, _⟩ => show (Experts.expert (pf 0) b).val * 1 + 1 * 0 = (Experts.expert (pf 0) b).val; omega
  | ⟨2, _⟩ => show (crd pf hr t 2).val * 2048 + 1 * k.val = l.val; omega
  | ⟨3, _⟩ => show (crd pf hr t 1).val * 1024 + 1 * y.val = e.val; omega

/-- An entry of the sums that every step adds its product to, and the first starts afresh, is at the last of seven points the
    sum of the seven products. -/
theorem chain (c : Dev nD) (X : Sums Ideal → EReal) (a b : Fin 1024)
    (hX : ∀ z x0 x1 (s : Sums Ideal), X (s.step z x0 x1) = (if z = true then 0 else X s) + part x0 x1 a b)
    (t : Fin (cfgA pf hr).N) (ht : t.val % 7 = 7 - 1) :
    X (sums pf hr m c (t.val + 1)) = ∑ s : Fin 7, part (iblk pf hr m c (0 : Fin 3) ⟨7 * (t.val / 7) + s.val, Pipeline.run_point_lt_of_flush t ht s⟩)
      (iblk pf hr m c (1 : Fin 3) ⟨7 * (t.val / 7) + s.val, Pipeline.run_point_lt_of_flush t ht s⟩) a b := by
  have hstep (t : Fin (cfgA pf hr).N) : X (sums pf hr m c (t.val + 1))
      = (if first (crd pf hr t) = true then 0 else X (sums pf hr m c t.val)) + part (iblk pf hr m c (0 : Fin 3) t) (iblk pf hr m c (1 : Fin 3) t) a b :=
    (congrArg X (sums_succ pf hr m c t)).trans (hX _ _ _ _)
  have h := Pipeline.eq_sum_fin_of_reset_step_apply_of_flush (N := (cfgA pf hr).N) (fun n _ => fun _ : Unit => X (sums pf hr m c (n + 1))) 7 (fun _ => 0)
    (fun t _ => part (iblk pf hr m c (0 : Fin 3) t) (iblk pf hr m c (1 : Fin 3) t) a b)
    (fun t h0 _ => by
      have hf : first (crd pf hr t) = true := decide_eq_true ((crd_2 pf hr t).trans (by omega))
      exact (hstep t).trans (congrArg (fun p : EReal => p + _) (if_pos hf)))
    (fun t h0 _ => by
      have hf : ¬first (crd pf hr t) = true := fun hf => h0 (by have := (crd_2 pf hr t).symm.trans (of_decide_eq_true hf); omega)
      refine (hstep t).trans (congrArg (fun p : EReal => p + _) ((if_neg hf).trans ?_))
      exact congrArg (fun n => X (sums pf hr m c n)) (by omega)) t ht ()
  exact h.trans (zero_add _)

/-- The array after the run is the product by expert. -/
theorem final (c : Dev nD) : (dats pf hr m 0 c).arrAt (2 : Fin 3) (cfgA pf hr).N
    = down (m ((c : Thread nD τ).loc main_arg0)) (m ((c : Thread nD τ).loc main_arg1)) (pf 0) (pf 1) := by
  refine (dats pf hr m 0 c).arrAt_eq_of_covers (2 : Fin 3) _ (covers pf hr) fun t hflush y => ?_
  have h728 := lt_points pf hr t
  have hlast : last (crd pf hr t) = true := by
    by_contra h
    have hf := no_flush pf hr t (Bool.eq_false_iff.mpr h)
    exact Bool.false_ne_true (hf.symm.trans hflush)
  have ht : t.val % 7 = 7 - 1 := by have := (crd_2 pf hr t).symm.trans (of_decide_eq_true hlast); omega
  show (dats pf hr m 0 c).after (2 : Fin 3) t y = _
  obtain ⟨a, u, l, rfl⟩ : ∃ (a : Fin 1024) (u : Fin 8) (l : Fin 128), y = ix3 a u l :=
    ⟨y 0, y 1, y 2, by funext d; match d with | ⟨0, _⟩ => rfl | ⟨1, _⟩ => rfl | ⟨2, _⟩ => rfl⟩
  have h26 : (crd pf hr t 0).val < 26 := (crd pf hr t 0).isLt
  have h4 : (crd pf hr t 1).val < 4 := (crd pf hr t 1).isLt
  have hr1 : (crd pf hr t 0).val * 1024 + a.val < 26624 := by omega
  have hv1 : (crd pf hr t 1).val * 8 + u.val < 32 := by omega
  obtain ⟨r, hrr⟩ : ∃ r : Fin 26624, r.val = (crd pf hr t 0).val * 1024 + a.val := ⟨⟨_, hr1⟩, rfl⟩
  obtain ⟨v, hvv⟩ : ∃ v : Fin 32, v.val = (crd pf hr t 1).val * 8 + u.val := ⟨⟨_, hv1⟩, rfl⟩
  have hb : (Experts.blk r).val = (crd pf hr t 0).val := by show r.val / 1024 = _; omega
  have hw : wordAt pf (crd pf hr t) = pf 1 (ix1 (Experts.blk r)) := word_eq pf (crd pf hr t) (Experts.blk r) hb
  refine (congrFun (block_eq (wordAt pf (crd pf hr t)) _ (path_of_le _ (hr.2 _)) (sums pf hr m c (t.val + 1)) _
    (fun a b => chain pf hr m c (fun s => s.all (ix2 a b)) a b (fun z x0 x1 s => allStep_at z x0 x1 s.all a b) t ht)
    (fun a b ha => chain pf hr m c (fun s => s.q0 (ix2 a b)) ⟨0 + a.val, ha⟩ b (fun z x0 x1 s => quarterStep_at z 0 _ x0 x1 s.q0 a b ha) t ht)
    (fun a b ha => chain pf hr m c (fun s => s.q1 (ix2 a b)) ⟨256 + a.val, ha⟩ b (fun z x0 x1 s => quarterStep_at z 256 _ x0 x1 s.q1 a b ha) t ht)
    (fun a b ha => chain pf hr m c (fun s => s.q2 (ix2 a b)) ⟨512 + a.val, ha⟩ b (fun z x0 x1 s => quarterStep_at z 512 _ x0 x1 s.q2 a b ha) t ht)
    (fun a b ha => chain pf hr m c (fun s => s.q3 (ix2 a b)) ⟨768 + a.val, ha⟩ b (fun z x0 x1 s => quarterStep_at z 768 _ x0 x1 s.q3 a b ha) t ht)) (ix3 a u l)).trans ?_
  refine Eq.trans ?_ (congrArg (down _ _ (pf 0) (pf 1)) (out_emb pf hr t a u l r v hrr hvv)).symm
  show (if a.val < 256 * (BitVec.toInt (wordAt pf (crd pf hr t))).toNat then
      ∑ s : Fin 7, part (iblk pf hr m c (0 : Fin 3) ⟨7 * (t.val / 7) + s.val, Pipeline.run_point_lt_of_flush t ht s⟩)
        (iblk pf hr m c (1 : Fin 3) ⟨7 * (t.val / 7) + s.val, Pipeline.run_point_lt_of_flush t ht s⟩) a ⟨u.val * 128 + l.val, by omega⟩ else 0)
    = if r.val % 1024 < Experts.live (pf 1) (Experts.blk r) then
        up (m ((c : Thread nD τ).loc main_arg0)) (m ((c : Thread nD τ).loc main_arg1)) (pf 0) r ⟨v.val * 128 + l.val, by omega⟩ else 0
  have hm : r.val % 1024 = a.val := by omega
  rw [hm, hw]
  show (if a.val < Experts.live (pf 1) (Experts.blk r) then _ else _) = _
  by_cases h : a.val < Experts.live (pf 1) (Experts.blk r)
  · have hl : 0 < BitVec.toInt (pf 1 (ix1 (Experts.blk r))) := by
      have h' : a.val < 256 * (BitVec.toInt (pf 1 (ix1 (Experts.blk r)))).toNat := h
      omega
    rw [if_pos h, if_pos h]
    unfold up
    refine Fin.sum_mul_add_congr fun s k hk => ?_
    have hp := Pipeline.run_point_lt_of_flush t ht s
    have e0 : (crd pf hr ⟨7 * (t.val / 7) + s.val, hp⟩ 0).val = (crd pf hr t 0).val := by
      rw [crd_0, crd_0]; show (7 * (t.val / 7) + s.val) / 28 % 26 = t.val / 28 % 26; omega
    have e1 : (crd pf hr ⟨7 * (t.val / 7) + s.val, hp⟩ 1).val = (crd pf hr t 1).val := by
      rw [crd_1, crd_1]; show (7 * (t.val / 7) + s.val) / 7 % 4 = t.val / 7 % 4; omega
    have e2 : (crd pf hr ⟨7 * (t.val / 7) + s.val, hp⟩ 2).val = s.val := by
      rw [crd_2]; show (7 * (t.val / 7) + s.val) / 1 % 7 = s.val; omega
    exact congrArg₂ (fun p q : EReal => p * q)
      (rows_at pf hr m c ⟨7 * (t.val / 7) + s.val, hp⟩ a k r ⟨s.val * 2048 + k.val, hk⟩ (by rw [e0]; exact hrr) (by rw [e2]))
      (weight_at pf hr m c ⟨7 * (t.val / 7) + s.val, hp⟩ (Experts.blk r) (by rw [e0]; exact hb) hl k ⟨u.val * 128 + l.val, by omega⟩ ⟨s.val * 2048 + k.val, hk⟩
        ⟨v.val * 128 + l.val, by omega⟩ (by rw [e2]) (by rw [e1]; show v.val * 128 + l.val = _ * 1024 + (u.val * 128 + l.val); omega))
  · rw [if_neg h, if_neg h]

end Final

/-! ## The reference -/

/-- The reference's weights, one matrix for each row block. -/
def gathered (w : FVec Ideal S1x8x14336x4096 .f32) (be : IVec S26 32) : FVec Ideal Reference4Ideal.S26x14336x4096 .f32 :=
  Host.gather Reference4Ideal.gather_S8x14336x4096_S26x1_S26x14336x4096_12_0_n_n_0_1_1143364096
    (shapeCast Reference4Ideal.S8x14336x4096 w Reference4Ideal.Gen.shapeCasts_S1x8x14336x4096_S8x14336x4096) (Experts.wrapped be)

/-- The gathered weight of a row block is its expert's. -/
theorem weight_host (w : FVec Ideal S1x8x14336x4096 .f32) (be : IVec S26 32) (b : Fin 26) (h : 0 ≤ (be (ix1 b)).toInt ∧ (be (ix1 b)).toInt < 8) (k : Fin 14336) (e : Fin 4096) :
    gathered w be (ix3 b k e) = w (ix4 0 (Experts.expert be b) k e) := by
  refine (Slabs.gather_at Reference4Ideal.Gen.gather_S8x14336x4096_S26x1_S26x14336x4096_12_0_n_n_0_1_1143364096_wf _ (Experts.wrapped be) b k e (Experts.expert be b) ?_).trans ?_
  · rw [Experts.wrapped_at be b h.1]
    show _ = ((min (be (ix1 b)).toInt.toNat 7 : Nat) : Int)
    omega
  · generalize Experts.expert be b = g
    pointwise

/-- The reference's product at a row and a column, over the gathered weights and the mask. -/
theorem host_at (x : FVec Ideal S26624x14336 .bf16) (g : FVec Ideal Reference4Ideal.S26x14336x4096 .f32) (M : IVec Reference4Ideal.S26x1024x1 1)
    (r : Fin 26624) (u : Fin 32) (l : Fin 128) :
    shapeCast Reference4Ideal.S26624x32x128 (select (broadcastInDim Reference4Ideal.S26x1024x4096 ![0, 1, 2] Reference4Ideal.Gen.bcast_S26x1024x1_S26x1024x4096_0_1_2 M)
      (Host.dotGeneral (F := Ideal) Reference4Ideal.dot_S26x1024x14336_S26x14336x4096_S26x1024x4096_2_1_1_2_0_0 none
        (shapeCast Reference4Ideal.S26x1024x14336 (extf .f32 x Reference4Ideal.Gen.bitsLt_bf16_f32) Reference4Ideal.Gen.shapeCasts_S26624x14336_S26x1024x14336) g)
      (broadcastInDim Reference4Ideal.S26x1024x4096 ![] Reference4Ideal.Gen.bcast_S_S26x1024x4096 (id (constant Reference4Ideal.S_ .f32 0x00000000#32))))
        Reference4Ideal.Gen.shapeCasts_S26x1024x4096_S26624x32x128 (ix3 r u l)
    = Scalar.select (M (ix3 ⟨r.val / 1024, by omega⟩ ⟨r.val % 1024, by omega⟩ 0))
      (∑ k : Fin 14336, x (ix2 r k) * g (ix3 ⟨r.val / 1024, by omega⟩ k ⟨u.val * 128 + l.val, by omega⟩)) 0 := by
  rw [id_eq]
  pointwise

/-- That is the product by expert, where the block's words are in range. -/
theorem host_eq (x : FVec Ideal S26624x14336 .bf16) (w : FVec Ideal S1x8x14336x4096 .f32) (be ns : IVec S26 32) (r : Fin 26624) (u : Fin 32) (l : Fin 128)
    (hb : (0 ≤ (be (ix1 (Experts.blk r))).toInt ∧ (be (ix1 (Experts.blk r))).toInt < 8) ∧ 0 ≤ (ns (ix1 (Experts.blk r))).toInt ∧ (ns (ix1 (Experts.blk r))).toInt ≤ 4) :
    Scalar.select (Experts.mask ns (ix3 (Experts.blk r) ⟨r.val % 1024, by omega⟩ 0))
      (∑ k : Fin 14336, x (ix2 r k) * gathered w be (ix3 (Experts.blk r) k ⟨u.val * 128 + l.val, by omega⟩)) 0 = down x w be ns (ix3 r u l) := by
  simp only [Experts.mask_at ns (Experts.blk r) hb.2, weight_host _ be (Experts.blk r) hb.1]
  show Scalar.select (BitVec.ofBool (decide (r.val % 1024 < Experts.live ns (Experts.blk r)))) (up x w be r ⟨u.val * 128 + l.val, by omega⟩) 0
    = if r.val % 1024 < Experts.live ns (Experts.blk r) then up x w be r ⟨u.val * 128 + l.val, by omega⟩ else 0
  by_cases h : r.val % 1024 < Experts.live ns (Experts.blk r)
  · rw [if_pos h, decide_eq_true h]; rfl
  · rw [if_neg h, decide_eq_false h]; rfl

/-- Every run of the kernel ends with the product by expert in its result and with its arguments unchanged. -/
theorem value (pf : pre0.Contents (Elt Ideal)) (hr : InRange pf) (m : (ℓ : Loc nD τ sig) → Buf (Elt Ideal) ℓ) (hm : Holds pf m) (ρ : Dev nD → PrngReg) :
    θ_run defs (onTc (τ := τ) (main (F := Ideal))) ⟨m, fun _ => 0, ρ⟩ fun r => ∀ c : Dev nD,
      r.2.mem ((c : Thread nD τ).loc main_v0) = down (m ((c : Thread nD τ).loc main_arg0)) (m ((c : Thread nD τ).loc main_arg1))
        (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(((h.1 c).1 (2 : Fin 3)).trans (final pf hr m c)).trans
      (congrArg₂ (down (m ((c : Thread nD τ).loc main_arg0)) (m ((c : Thread nD τ).loc main_arg1))) (hm c 0).symm (hm c 1).symm),
    ((h.1 c).1 (0 : Fin 3)).trans ((dats pf hr m 0 c).arrAt_in (0 : Fin 3) rfl _),
    ((h.1 c).1 (1 : Fin 3)).trans ((dats pf hr m 0 c).arrAt_in (1 : Fin 3) rfl _),
    ((h.1 c).2 0).trans (hm c 0).symm, ((h.1 c).2 1).trans (hm c 1).symm⟩) (run pf hr m ρ hm)

/-- At exact arithmetic the kernel and the reference end with the same array. -/
theorem algebraic : Cert.algebraic_Kernel4Ideal_Reference4Ideal := by
  intro m ρ m' ρ' hp hagree
  have hd := fun c => decode _ _ _ _ (hp c)
  refine ⟨_, value (tables m) ⟨fun x => (hd 0 x).1, fun x => (hd 0 x).2.2⟩ m (holds m) ρ, ?_⟩
  refine (θ_run Cert.Reference4Ideal.defs _ _).mono (fun _ h c => ⟨?_, (h c).2⟩) (Cert.Reference4Ideal.Value.run (F := Ideal) m' ρ')
  rw [(h c).1, (hagree c).1, (hagree c).2.1, (hagree c).2.2.1, (hagree c).2.2.2]
  have hc := hd c
  generalize m ((c : Thread nD τ).loc main_arg0) = x, m ((c : Thread nD τ).loc main_arg1) = w,
    m ((c : Thread nD τ).loc main_arg2) = be, m ((c : Thread nD τ).loc main_arg3) = ns at hc ⊢
  funext j
  idx_vars j
  refine (host_at x (gathered w be) (Experts.mask ns) j0 j1 j2).trans ?_
  exact host_eq x w be ns j0 j1 j2 (hc (ix1 (Experts.blk j0)))

end Cert.Back

end
-- ==== Proof.lean ====
module

public import proofs.«01_k».proof.Defs
public import proofs.«01_k».proof.Proof.Gen.Kernel.Frame
public import proofs.«01_k».proof.Proof.Gen.Kernel2.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Frame
public import proofs.«01_k».proof.Proof.Gen.Kernel14.Frame
public import proofs.«01_k».proof.Proof.Gen.Kernel15.Frame
public import proofs.«01_k».proof.Proof.Gen.Kernel3.Launch
public import proofs.«01_k».proof.Proof.Gen.Kernel4.Launch
public import proofs.«01_k».proof.Proof.Fox
public import proofs.«01_k».proof.Proof.Proj
public import proofs.«01_k».proof.Proof.Glu
public import proofs.«01_k».proof.Proof.Down
public import proofs.«01_k».proof.Proof.Merge
public import proofs.«01_k».proof.Proof.Out
public import proofs.«01_k».proof.Proof.Query
public import proofs.«01_k».proof.Proof.Attend
public import proofs.«01_k».proof.Proof.Memory
public import proofs.«01_k».proof.Proof.NormPrompt
public import proofs.«01_k».proof.Proof.NormSample
public import proofs.«01_k».proof.Proof.Forget
public import proofs.«01_k».proof.Proof.Retain
public import proofs.«01_k».proof.Proof.Experts
public import proofs.«01_k».proof.Proof.Back
public import Idealize.ShloMosaic.Lib.Quiescent
public import proofs.«01_k».proof.Proof.Gen.Pre_tables_in_range
public import proofs.«01_k».proof.Proof.Gen.Pre_tables_in_range4

/-! Every claim of the certificate, from the runs of its programs. -/

@[expose] public section

noncomputable section

namespace Cert.Proof

open Idealize.ShloMosaic Idealize.SL.Sem

/-- The reference of `proj_in_fox` terminates with its arguments unchanged and its counters zero. -/
theorem still_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference of `proj_in` terminates with its arguments unchanged and its counters zero. -/
theorem still_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The reference of `ffn_glu` terminates with its arguments unchanged and its counters zero. -/
theorem still_Reference5Ideal : quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The reference of `ffn_down` terminates with its arguments unchanged and its counters zero. -/
theorem still_Reference6Ideal : quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The reference of `merge` terminates with its arguments unchanged and its counters zero. -/
theorem still_Reference7Ideal : quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The reference of `proj_out` terminates with its arguments unchanged and its counters zero. -/
theorem still_Reference8Ideal : quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- The reference of `xattn_q` terminates with its arguments unchanged and its counters zero. -/
theorem still_Reference9Ideal : quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- The reference of `xattn_out` terminates with its arguments unchanged and its counters zero. -/
theorem still_Reference10Ideal : quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

/-- The reference of `mem_k` terminates with its arguments unchanged and its counters zero. -/
theorem still_Reference11Ideal : quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

/-- The reference of `the final normalisation, first rows` terminates with its arguments unchanged and its counters zero. -/
theorem still_Reference12Ideal : quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

/-- The reference of `the final normalisation, last rows` terminates with its arguments unchanged and its counters zero. -/
theorem still_Reference13Ideal : quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

/-- The reference of `logf` terminates with its arguments unchanged and its counters zero. -/
theorem still_Reference14Ideal : quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)

/-- The reference of `retention, sample rows` terminates with its arguments unchanged and its counters zero. -/
theorem still_Reference15Ideal : quiescent_Reference15Ideal := fun m ρ _ =>
  (θ_run Cert.Reference15Ideal.defs _ _).mono (fun r h => ⟨fun c => (h c).2.2, sem_eq_zero_of_no_sems (by decide) r.2⟩)
    (Cert.Reference15Ideal.Value.run (F := Ideal) m ρ)

/-- The reference of `expert_glu` terminates with its arguments unchanged and its counters zero. -/
theorem still_Reference3Ideal : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The reference of `expert_down` terminates with its arguments unchanged and its counters zero. -/
theorem still_Reference4Ideal : quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Pre_tables_in_range.Gen.facts,
  Cert.Pre_tables_in_range4.Gen.facts,
  fun m ρ _ => Cert.Kernel.Gen.frame m ρ, fun m ρ _ => Cert.KernelIdeal.Gen.frame m ρ, still_ReferenceIdeal,
  fun m ρ _ => Cert.Kernel2.Gen.frame m ρ, fun m ρ _ => Cert.Kernel2Ideal.Gen.frame m ρ, still_Reference2Ideal,
  fun m ρ _ => Cert.Kernel5.Gen.frame m ρ, fun m ρ _ => Cert.Kernel5Ideal.Gen.frame m ρ, still_Reference5Ideal,
  fun m ρ _ => Cert.Kernel6.Gen.frame m ρ, fun m ρ _ => Cert.Kernel6Ideal.Gen.frame m ρ, still_Reference6Ideal,
  fun m ρ _ => Cert.Kernel7.Gen.frame m ρ, fun m ρ _ => Cert.Kernel7Ideal.Gen.frame m ρ, still_Reference7Ideal,
  fun m ρ _ => Cert.Kernel8.Gen.frame m ρ, fun m ρ _ => Cert.Kernel8Ideal.Gen.frame m ρ, still_Reference8Ideal,
  fun m ρ _ => Cert.Kernel9.Gen.frame m ρ, fun m ρ _ => Cert.Kernel9Ideal.Gen.frame m ρ, still_Reference9Ideal,
  fun m ρ _ => Cert.Kernel10.Gen.frame m ρ, fun m ρ _ => Cert.Kernel10Ideal.Gen.frame m ρ, still_Reference10Ideal,
  fun m ρ _ => Cert.Kernel11.Gen.frame m ρ, fun m ρ _ => Cert.Kernel11Ideal.Gen.frame m ρ, still_Reference11Ideal,
  fun m ρ _ => Cert.Kernel12.Gen.frame m ρ, fun m ρ _ => Cert.Kernel12Ideal.Gen.frame m ρ, still_Reference12Ideal,
  fun m ρ _ => Cert.Kernel13.Gen.frame m ρ, fun m ρ _ => Cert.Kernel13Ideal.Gen.frame m ρ, still_Reference13Ideal,
  fun m ρ _ => Cert.Kernel14.Gen.frame m ρ, fun m ρ _ => Cert.Kernel14Ideal.Gen.frame m ρ, still_Reference14Ideal,
  fun m ρ _ => Cert.Kernel15.Gen.frame m ρ, fun m ρ _ => Cert.Kernel15Ideal.Gen.frame m ρ, still_Reference15Ideal,
  Cert.Experts.frame_Kernel3, Cert.Experts.frame_Kernel3Ideal, still_Reference3Ideal,
  Cert.Back.frame_Kernel4, Cert.Back.frame_Kernel4Ideal, still_Reference4Ideal,
  (trivial : preserves_Kernel_KernelIdeal), Cert.Fox.algebraic,
  (trivial : preserves_Kernel2_Kernel2Ideal), Cert.Proj.algebraic,
  (trivial : preserves_Kernel5_Kernel5Ideal), Cert.Glu.algebraic,
  (trivial : preserves_Kernel6_Kernel6Ideal), Cert.Down.algebraic,
  (trivial : preserves_Kernel7_Kernel7Ideal), Cert.Merge.algebraic,
  (trivial : preserves_Kernel8_Kernel8Ideal), Cert.Out.algebraic,
  (trivial : preserves_Kernel9_Kernel9Ideal), Cert.Query.algebraic,
  (trivial : preserves_Kernel10_Kernel10Ideal), Cert.Attend.algebraic,
  (trivial : preserves_Kernel11_Kernel11Ideal), Cert.Memory.algebraic,
  (trivial : preserves_Kernel12_Kernel12Ideal), Cert.NormPrompt.algebraic,
  (trivial : preserves_Kernel13_Kernel13Ideal), Cert.NormSample.algebraic,
  (trivial : preserves_Kernel14_Kernel14Ideal), Cert.Forget.algebraic,
  (trivial : preserves_Kernel15_Kernel15Ideal), Cert.Retain.algebraic,
  (trivial : preserves_Kernel3_Kernel3Ideal), Cert.Experts.algebraic,
  (trivial : preserves_Kernel4_Kernel4Ideal), Cert.Back.algebraic⟩

end Cert.Proof

end
